-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v440) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_labels_in_range : Cert.Pre_labels_in_range.Facts) (hPre_well_posed : Cert.Pre_well_posed.Facts),
    quiescent_Kernel (hKernel := hKernel) (hPre_labels_in_range := hPre_labels_in_range)
    ∧ quiescent_KernelIdeal (hKernelIdeal := hKernelIdeal) (hPre_labels_in_range := hPre_labels_in_range)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_labels_in_range.lean ====
abbrev S8x68x64x64 : Shape := ⟨4, ![8, 68, 64, 64]⟩
abbrev S8x80x64x64 : Shape := ⟨4, ![8, 80, 64, 64]⟩
abbrev S8x16x4 : Shape := ⟨3, ![8, 16, 4]⟩
abbrev S8x16 : Shape := ⟨2, ![8, 16]⟩
abbrev S_ : Shape := ⟨0, ![]⟩

class Facts : Prop where
  bcast_S_S8x16 : S_.BroadcastsInDim S8x16 (![] : Fin 0 → Fin S8x16.rank)

variable [Facts]

def fn {F : FTy → Type} [FloatOps F] (main_arg0 : FVec F S8x68x64x64 .f32) (main_arg1 : FVec F S8x80x64x64 .f32) (main_arg2 : FVec F S8x16x4 .f32) (main_arg3 : IVec S8x16 32) (main_arg4 : IVec S_ 32) : IVec S8x16 1 :=
  let main_c : IVec S_ 32 := constantI S_ 32 0#32
  let main_v0 : IVec S8x16 32 := broadcastInDim S8x16 ![] bcast_S_S8x16 main_c
  let main_v1 : IVec S8x16 1 := cmpi .sge main_arg3 main_v0
  let main_c_0 : IVec S_ 32 := constantI S_ 32 80#32
  let main_v2 : IVec S8x16 32 := broadcastInDim S8x16 ![] bcast_S_S8x16 main_c_0
  let main_v3 : IVec S8x16 1 := cmpi .slt main_arg3 main_v2
  let main_v4 : IVec S8x16 1 := andi main_v1 main_v3
  main_v4
-- ==== Pre_well_posed.lean ====
abbrev S8x68x64x64 : Shape := ⟨4, ![8, 68, 64, 64]⟩
abbrev S8x80x64x64 : Shape := ⟨4, ![8, 80, 64, 64]⟩
abbrev S8x16x4 : Shape := ⟨3, ![8, 16, 4]⟩
abbrev S8x16 : Shape := ⟨2, ![8, 16]⟩
abbrev S_ : Shape := ⟨0, ![]⟩
abbrev S64 : Shape := ⟨1, ![64]⟩
abbrev S8x16x1 : Shape := ⟨3, ![8, 16, 1]⟩
abbrev S1x1x64 : Shape := ⟨3, ![1, 1, 64]⟩
abbrev S8x16x64 : Shape := ⟨3, ![8, 16, 64]⟩
abbrev S8 : Shape := ⟨1, ![8]⟩

class Facts : Prop where
  bcast_S_S64 : S_.BroadcastsInDim S64 (![] : Fin 0 → Fin S64.rank)
  bcast_S_S8x16x4 : S_.BroadcastsInDim S8x16x4 (![] : Fin 0 → Fin S8x16x4.rank)
  slices_S8x16x4_S8x16x1_0_0_0 : S8x16x4.Slices ![0, 0, 0] S8x16x1
  shapeCasts_S8x16x1_S8x16 : S8x16x1.ShapeCasts S8x16
  bcast_S8x16_S8x16x1_0_1 : S8x16.BroadcastsInDim S8x16x1 (![0, 1] : Fin 2 → Fin S8x16x1.rank)
  slices_S8x16x4_S8x16x1_0_0_2 : S8x16x4.Slices ![0, 0, 2] S8x16x1
  bcast_S_S8x16x1 : S_.BroadcastsInDim S8x16x1 (![] : Fin 0 → Fin S8x16x1.rank)
  bcast_S64_S1x1x64_2 : S64.BroadcastsInDim S1x1x64 (![2] : Fin 1 → Fin S1x1x64.rank)
  bcast_S1x1x64_S8x16x64_0_1_2 : S1x1x64.BroadcastsInDim S8x16x64 (![0, 1, 2] : Fin 3 → Fin S8x16x64.rank)
  bcast_S8x16x1_S8x16x64_0_1_2 : S8x16x1.BroadcastsInDim S8x16x64 (![0, 1, 2] : Fin 3 → Fin S8x16x64.rank)
  bcast_S_S8x16x64 : S_.BroadcastsInDim S8x16x64 (![] : Fin 0 → Fin S8x16x64.rank)
  slices_S8x16x4_S8x16x1_0_0_1 : S8x16x4.Slices ![0, 0, 1] S8x16x1
  slices_S8x16x4_S8x16x1_0_0_3 : S8x16x4.Slices ![0, 0, 3] S8x16x1
  reducesTo_S8x16x64_S8x16_d2 : S8x16x64.ReducesTo [2] S8x16
  h_S_ : 0 < S_.numel
  reducesTo_S8x16_S8_d1 : S8x16.ReducesTo [1] S8
  bcast_S_S8x16 : S_.BroadcastsInDim S8x16 (![] : Fin 0 → Fin S8x16.rank)
  reducesTo_S8x16_S_d0_1 : S8x16.ReducesTo [0, 1] S_
  bcast_S_S8x68x64x64 : S_.BroadcastsInDim S8x68x64x64 (![] : Fin 0 → Fin S8x68x64x64.rank)
  reducesTo_S8x68x64x64_S_d0_1_2_3 : S8x68x64x64.ReducesTo [0, 1, 2, 3] S_
  bcast_S_S8x80x64x64 : S_.BroadcastsInDim S8x80x64x64 (![] : Fin 0 → Fin S8x80x64x64.rank)
  reducesTo_S8x80x64x64_S_d0_1_2_3 : S8x80x64x64.ReducesTo [0, 1, 2, 3] S_
  bcast_S_S8 : S_.BroadcastsInDim S8 (![] : Fin 0 → Fin S8.rank)

variable [Facts]

def fn_part4 {F : FTy → Type} [FloatOps F] (main_arg0 : FVec F S8x68x64x64 .f32) (main_arg1 : FVec F S8x80x64x64 .f32) (main_v75 : IVec S8 1) (main_v77 : IVec S8x16 1) (main_v79 : IVec S8x16 1) : IVec S8 1 :=
  let main_v80 : IVec S8x16 1 := andi main_v77 main_v79
  let main_c_14 : IVec S_ 1 := constantI S_ 1 1#1
  let main_v81 : IVec S_ 1 := (fun x v => Host.reduce IntOp.andi x v reducesTo_S8x16_S_d0_1 h_S_) main_v80 main_c_14
  let main_v82 : FVec F S8x68x64x64 .f32 := Host.absf main_arg0
  let main_cst_15 : FVec F S_ .f32 := constant S_ .f32 0x7F800000#32
  let main_v83 : FVec F S8x68x64x64 .f32 := broadcastInDim S8x68x64x64 ![] bcast_S_S8x68x64x64 main_cst_15
  let main_v84 : IVec S8x68x64x64 1 := cmpf .olt main_v82 main_v83
  let main_c_16 : IVec S_ 1 := constantI S_ 1 1#1
  let main_v85 : IVec S_ 1 := (fun x v => Host.reduce IntOp.andi x v reducesTo_S8x68x64x64_S_d0_1_2_3 h_S_) main_v84 main_c_16
  let main_v86 : FVec F S8x80x64x64 .f32 := Host.absf main_arg1
  let main_cst_17 : FVec F S_ .f32 := constant S_ .f32 0x7F800000#32
  let main_v87 : FVec F S8x80x64x64 .f32 := broadcastInDim S8x80x64x64 ![] bcast_S_S8x80x64x64 main_cst_17
  let main_v88 : IVec S8x80x64x64 1 := cmpf .olt main_v86 main_v87
  let main_c_18 : IVec S_ 1 := constantI S_ 1 1#1
  let main_v89 : IVec S_ 1 := (fun x v => Host.reduce IntOp.andi x v reducesTo_S8x80x64x64_S_d0_1_2_3 h_S_) main_v88 main_c_18
  let main_v90 : IVec S_ 1 := andi main_v85 main_v89
  let main_v91 : IVec S8 1 := broadcastInDim S8 ![] bcast_S_S8 main_v81
  let main_v92 : IVec S8 1 := andi main_v75 main_v91
  let main_v93 : IVec S8 1 := broadcastInDim S8 ![] bcast_S_S8 main_v90
  let main_v94 : IVec S8 1 := andi main_v92 main_v93
  main_v94

def fn_part3 {F : FTy → Type} [FloatOps F] (main_arg0 : FVec F S8x68x64x64 .f32) (main_arg1 : FVec F S8x80x64x64 .f32) (main_arg3 : IVec S8x16 32) (main_v38 : IVec S8x16x64 1) (main_v47 : FVec F S8x16x1 .f32) (main_v48 : FVec F S1x1x64 .f32) (main_v59 : IVec S8x16x64 1) (main_v61 : FVec F S8x16x1 .f32) : IVec S8 1 :=
  let main_v62 : FVec F S8x16x64 .f32 := broadcastInDim S8x16x64 ![0, 1, 2] bcast_S1x1x64_S8x16x64_0_1_2 main_v48
  let main_v63 : FVec F S8x16x64 .f32 := broadcastInDim S8x16x64 ![0, 1, 2] bcast_S8x16x1_S8x16x64_0_1_2 main_v61
  let main_v64 : IVec S8x16x64 1 := cmpf .oge main_v62 main_v63
  let main_v65 : IVec S8x16x64 1 := andi main_v59 main_v64
  let main_cst_9 : FVec F S_ .f32 := constant S_ .f32 0x40200000#32
  let main_v66 : FVec F S8x16x1 .f32 := broadcastInDim S8x16x1 ![] bcast_S_S8x16x1 main_cst_9
  let main_v67 : FVec F S8x16x1 .f32 := addf main_v47 main_v66
  let main_v68 : FVec F S8x16x64 .f32 := broadcastInDim S8x16x64 ![0, 1, 2] bcast_S1x1x64_S8x16x64_0_1_2 main_v48
  let main_v69 : FVec F S8x16x64 .f32 := broadcastInDim S8x16x64 ![0, 1, 2] bcast_S8x16x1_S8x16x64_0_1_2 main_v67
  let main_v70 : IVec S8x16x64 1 := cmpf .ole main_v68 main_v69
  let main_v71 : IVec S8x16x64 1 := andi main_v65 main_v70
  let main_c : IVec S_ 1 := constantI S_ 1 0#1
  let main_v72 : IVec S8x16 1 := (fun x v => Host.reduce IntOp.ori x v reducesTo_S8x16x64_S8x16_d2 h_S_) main_v38 main_c
  let main_c_10 : IVec S_ 1 := constantI S_ 1 0#1
  let main_v73 : IVec S8x16 1 := (fun x v => Host.reduce IntOp.ori x v reducesTo_S8x16x64_S8x16_d2 h_S_) main_v71 main_c_10
  let main_v74 : IVec S8x16 1 := andi main_v72 main_v73
  let main_c_11 : IVec S_ 1 := constantI S_ 1 0#1
  let main_v75 : IVec S8 1 := (fun x v => Host.reduce IntOp.ori x v reducesTo_S8x16_S8_d1 h_S_) main_v74 main_c_11
  let main_c_12 : IVec S_ 32 := constantI S_ 32 0#32
  let main_v76 : IVec S8x16 32 := broadcastInDim S8x16 ![] bcast_S_S8x16 main_c_12
  let main_v77 : IVec S8x16 1 := cmpi .sge main_arg3 main_v76
  let main_c_13 : IVec S_ 32 := constantI S_ 32 80#32
  let main_v78 : IVec S8x16 32 := broadcastInDim S8x16 ![] bcast_S_S8x16 main_c_13
  let main_v79 : IVec S8x16 1 := cmpi .slt main_arg3 main_v78
  fn_part4 (F := F) main_arg0 main_arg1 main_v75 main_v77 main_v79

def fn_part2 {F : FTy → Type} [FloatOps F] (main_arg0 : FVec F S8x68x64x64 .f32) (main_arg1 : FVec F S8x80x64x64 .f32) (main_arg3 : IVec S8x16 32) (main_v2 : FVec F S64 .f32) (main_v5 : FVec F S8x16x4 .f32) (main_v38 : IVec S8x16x64 1) (main_v41 : FVec F S8x16x1 .f32) : IVec S8 1 :=
  let main_v42 : FVec F S8x16x1 .f32 := (extractStridedSlice S8x16x1 ![0, 0, 3] · slices_S8x16x4_S8x16x1_0_0_3) main_v5
  let main_v43 : FVec F S8x16 .f32 := shapeCast S8x16 main_v42 shapeCasts_S8x16x1_S8x16
  let main_v44 : FVec F S8x16x1 .f32 := broadcastInDim S8x16x1 ![0, 1] bcast_S8x16_S8x16x1_0_1 main_v43
  let main_v45 : FVec F S8x16x1 .f32 := addf main_v41 main_v44
  let main_cst_5 : FVec F S_ .f32 := constant S_ .f32 0x3F000000#32
  let main_v46 : FVec F S8x16x1 .f32 := broadcastInDim S8x16x1 ![] bcast_S_S8x16x1 main_cst_5
  let main_v47 : FVec F S8x16x1 .f32 := mulf main_v45 main_v46
  let main_v48 : FVec F S1x1x64 .f32 := broadcastInDim S1x1x64 ![2] bcast_S64_S1x1x64_2 main_v2
  let main_v49 : FVec F S8x16x64 .f32 := broadcastInDim S8x16x64 ![0, 1, 2] bcast_S1x1x64_S8x16x64_0_1_2 main_v48
  let main_v50 : FVec F S8x16x64 .f32 := broadcastInDim S8x16x64 ![0, 1, 2] bcast_S8x16x1_S8x16x64_0_1_2 main_v41
  let main_v51 : FVec F S8x16x64 .f32 := subf main_v49 main_v50
  let main_cst_6 : FVec F S_ .f32 := constant S_ .f32 0x00000000#32
  let main_v52 : FVec F S8x16x64 .f32 := broadcastInDim S8x16x64 ![] bcast_S_S8x16x64 main_cst_6
  let main_v53 : IVec S8x16x64 1 := cmpf .ogt main_v51 main_v52
  let main_v54 : FVec F S8x16x64 .f32 := broadcastInDim S8x16x64 ![0, 1, 2] bcast_S8x16x1_S8x16x64_0_1_2 main_v44
  let main_v55 : FVec F S8x16x64 .f32 := broadcastInDim S8x16x64 ![0, 1, 2] bcast_S1x1x64_S8x16x64_0_1_2 main_v48
  let main_v56 : FVec F S8x16x64 .f32 := subf main_v54 main_v55
  let main_cst_7 : FVec F S_ .f32 := constant S_ .f32 0x00000000#32
  let main_v57 : FVec F S8x16x64 .f32 := broadcastInDim S8x16x64 ![] bcast_S_S8x16x64 main_cst_7
  let main_v58 : IVec S8x16x64 1 := cmpf .ogt main_v56 main_v57
  let main_v59 : IVec S8x16x64 1 := andi main_v53 main_v58
  let main_cst_8 : FVec F S_ .f32 := constant S_ .f32 0x40200000#32
  let main_v60 : FVec F S8x16x1 .f32 := broadcastInDim S8x16x1 ![] bcast_S_S8x16x1 main_cst_8
  let main_v61 : FVec F S8x16x1 .f32 := subf main_v47 main_v60
  fn_part3 (F := F) main_arg0 main_arg1 main_arg3 main_v38 main_v47 main_v48 main_v59 main_v61

def fn_part1 {F : FTy → Type} [FloatOps F] (main_arg0 : FVec F S8x68x64x64 .f32) (main_arg1 : FVec F S8x80x64x64 .f32) (main_arg3 : IVec S8x16 32) (main_v2 : FVec F S64 .f32) (main_v5 : FVec F S8x16x4 .f32) (main_v11 : FVec F S8x16x1 .f32) (main_v14 : FVec F S8x16x1 .f32) (main_v15 : FVec F S1x1x64 .f32) (main_v20 : IVec S8x16x64 1) : IVec S8 1 :=
  let main_v21 : FVec F S8x16x64 .f32 := broadcastInDim S8x16x64 ![0, 1, 2] bcast_S8x16x1_S8x16x64_0_1_2 main_v11
  let main_v22 : FVec F S8x16x64 .f32 := broadcastInDim S8x16x64 ![0, 1, 2] bcast_S1x1x64_S8x16x64_0_1_2 main_v15
  let main_v23 : FVec F S8x16x64 .f32 := subf main_v21 main_v22
  let main_cst_2 : FVec F S_ .f32 := constant S_ .f32 0x00000000#32
  let main_v24 : FVec F S8x16x64 .f32 := broadcastInDim S8x16x64 ![] bcast_S_S8x16x64 main_cst_2
  let main_v25 : IVec S8x16x64 1 := cmpf .ogt main_v23 main_v24
  let main_v26 : IVec S8x16x64 1 := andi main_v20 main_v25
  let main_cst_3 : FVec F S_ .f32 := constant S_ .f32 0x40200000#32
  let main_v27 : FVec F S8x16x1 .f32 := broadcastInDim S8x16x1 ![] bcast_S_S8x16x1 main_cst_3
  let main_v28 : FVec F S8x16x1 .f32 := subf main_v14 main_v27
  let main_v29 : FVec F S8x16x64 .f32 := broadcastInDim S8x16x64 ![0, 1, 2] bcast_S1x1x64_S8x16x64_0_1_2 main_v15
  let main_v30 : FVec F S8x16x64 .f32 := broadcastInDim S8x16x64 ![0, 1, 2] bcast_S8x16x1_S8x16x64_0_1_2 main_v28
  let main_v31 : IVec S8x16x64 1 := cmpf .oge main_v29 main_v30
  let main_v32 : IVec S8x16x64 1 := andi main_v26 main_v31
  let main_cst_4 : FVec F S_ .f32 := constant S_ .f32 0x40200000#32
  let main_v33 : FVec F S8x16x1 .f32 := broadcastInDim S8x16x1 ![] bcast_S_S8x16x1 main_cst_4
  let main_v34 : FVec F S8x16x1 .f32 := addf main_v14 main_v33
  let main_v35 : FVec F S8x16x64 .f32 := broadcastInDim S8x16x64 ![0, 1, 2] bcast_S1x1x64_S8x16x64_0_1_2 main_v15
  let main_v36 : FVec F S8x16x64 .f32 := broadcastInDim S8x16x64 ![0, 1, 2] bcast_S8x16x1_S8x16x64_0_1_2 main_v34
  let main_v37 : IVec S8x16x64 1 := cmpf .ole main_v35 main_v36
  let main_v38 : IVec S8x16x64 1 := andi main_v32 main_v37
  let main_v39 : FVec F S8x16x1 .f32 := (extractStridedSlice S8x16x1 ![0, 0, 1] · slices_S8x16x4_S8x16x1_0_0_1) main_v5
  let main_v40 : FVec F S8x16 .f32 := shapeCast S8x16 main_v39 shapeCasts_S8x16x1_S8x16
  let main_v41 : FVec F S8x16x1 .f32 := broadcastInDim S8x16x1 ![0, 1] bcast_S8x16_S8x16x1_0_1 main_v40
  fn_part2 (F := F) main_arg0 main_arg1 main_arg3 main_v2 main_v5 main_v38 main_v41

def fn {F : FTy → Type} [FloatOps F] (main_arg0 : FVec F S8x68x64x64 .f32) (main_arg1 : FVec F S8x80x64x64 .f32) (main_arg2 : FVec F S8x16x4 .f32) (main_arg3 : IVec S8x16 32) (main_arg4 : IVec S_ 32) : IVec S8 1 :=
  let main_v0 : FVec F S64 .f32 := sitofp .f32 (iotaInDim S64 32 0)
  let main_cst : FVec F S_ .f32 := constant S_ .f32 0x3F000000#32
  let main_v1 : FVec F S64 .f32 := broadcastInDim S64 ![] bcast_S_S64 main_cst
  let main_v2 : FVec F S64 .f32 := addf main_v0 main_v1
  let main_v3 : FVec F S_ .f32 := sitofp .f32 main_arg4
  let main_v4 : FVec F S8x16x4 .f32 := broadcastInDim S8x16x4 ![] bcast_S_S8x16x4 main_v3
  let main_v5 : FVec F S8x16x4 .f32 := Host.divf main_arg2 main_v4
  let main_v6 : FVec F S8x16x1 .f32 := (extractStridedSlice S8x16x1 ![0, 0, 0] · slices_S8x16x4_S8x16x1_0_0_0) main_v5
  let main_v7 : FVec F S8x16 .f32 := shapeCast S8x16 main_v6 shapeCasts_S8x16x1_S8x16
  let main_v8 : FVec F S8x16x1 .f32 := broadcastInDim S8x16x1 ![0, 1] bcast_S8x16_S8x16x1_0_1 main_v7
  let main_v9 : FVec F S8x16x1 .f32 := (extractStridedSlice S8x16x1 ![0, 0, 2] · slices_S8x16x4_S8x16x1_0_0_2) main_v5
  let main_v10 : FVec F S8x16 .f32 := shapeCast S8x16 main_v9 shapeCasts_S8x16x1_S8x16
  let main_v11 : FVec F S8x16x1 .f32 := broadcastInDim S8x16x1 ![0, 1] bcast_S8x16_S8x16x1_0_1 main_v10
  let main_v12 : FVec F S8x16x1 .f32 := addf main_v8 main_v11
  let main_cst_0 : FVec F S_ .f32 := constant S_ .f32 0x3F000000#32
  let main_v13 : FVec F S8x16x1 .f32 := broadcastInDim S8x16x1 ![] bcast_S_S8x16x1 main_cst_0
  let main_v14 : FVec F S8x16x1 .f32 := mulf main_v12 main_v13
  let main_v15 : FVec F S1x1x64 .f32 := broadcastInDim S1x1x64 ![2] bcast_S64_S1x1x64_2 main_v2
  let main_v16 : FVec F S8x16x64 .f32 := broadcastInDim S8x16x64 ![0, 1, 2] bcast_S1x1x64_S8x16x64_0_1_2 main_v15
  let main_v17 : FVec F S8x16x64 .f32 := broadcastInDim S8x16x64 ![0, 1, 2] bcast_S8x16x1_S8x16x64_0_1_2 main_v8
  let main_v18 : FVec F S8x16x64 .f32 := subf main_v16 main_v17
  let main_cst_1 : FVec F S_ .f32 := constant S_ .f32 0x00000000#32
  let main_v19 : FVec F S8x16x64 .f32 := broadcastInDim S8x16x64 ![] bcast_S_S8x16x64 main_cst_1
  let main_v20 : IVec S8x16x64 1 := cmpf .ogt main_v18 main_v19
  fn_part1 (F := F) main_arg0 main_arg1 main_arg3 main_v2 main_v5 main_v11 main_v14 main_v15 main_v20
-- ==== Kernel.lean ====
abbrev S8x68x64x64 : Shape := ⟨4, ![8, 68, 64, 64]⟩
abbrev S8x80x64x64 : Shape := ⟨4, ![8, 80, 64, 64]⟩
abbrev S8x16x4 : Shape := ⟨3, ![8, 16, 4]⟩
abbrev S8x16 : Shape := ⟨2, ![8, 16]⟩
abbrev S_ : Shape := ⟨0, ![]⟩
abbrev S8x1x16 : Shape := ⟨3, ![8, 1, 16]⟩
abbrev S8x1x128 : Shape := ⟨3, ![8, 1, 128]⟩
abbrev S1x68x64x64 : Shape := ⟨4, ![1, 68, 64, 64]⟩
abbrev S1x80x64x64 : Shape := ⟨4, ![1, 80, 64, 64]⟩
abbrev S1x16x4 : Shape := ⟨3, ![1, 16, 4]⟩
abbrev S1x1x16 : Shape := ⟨3, ![1, 1, 16]⟩
abbrev S1x1x128 : Shape := ⟨3, ![1, 1, 128]⟩
abbrev S17x32x128 : Shape := ⟨3, ![17, 32, 128]⟩
abbrev S16x32x128 : Shape := ⟨3, ![16, 32, 128]⟩
abbrev S32x128 : Shape := ⟨2, ![32, 128]⟩
abbrev S1x1x1 : Shape := ⟨3, ![1, 1, 1]⟩
abbrev S1x32x128 : Shape := ⟨3, ![1, 32, 128]⟩
abbrev S1x1x64x64 : Shape := ⟨4, ![1, 1, 64, 64]⟩
abbrev S64x64 : Shape := ⟨2, ![64, 64]⟩
abbrev S32x64 : Shape := ⟨2, ![32, 64]⟩
abbrev S1 : Shape := ⟨1, ![1]⟩
abbrev S8x1x1 : Shape := ⟨3, ![8, 1, 1]⟩
abbrev S8 : Shape := ⟨1, ![8]⟩

abbrev nBuf : Space → Nat
  | .hbm => 14
  | .vmem => 8
  | .smem => 4
  | _ => 0

abbrev bufTy : (tb : Table) → Fin (tcTables nBuf tb) → BufTy
  | .hbm, ⟨0, _⟩ => ⟨S8x68x64x64, .f32⟩
  | .hbm, ⟨1, _⟩ => ⟨S8x80x64x64, .f32⟩
  | .hbm, ⟨2, _⟩ => ⟨S8x16x4, .f32⟩
  | .hbm, ⟨3, _⟩ => ⟨S8x16, .i32⟩
  | .hbm, ⟨4, _⟩ => ⟨S_, .i32⟩
  | .hbm, ⟨5, _⟩ => ⟨S_, .f32⟩
  | .hbm, ⟨6, _⟩ => ⟨S8x16x4, .f32⟩
  | .hbm, ⟨7, _⟩ => ⟨S8x16x4, .f32⟩
  | .hbm, ⟨8, _⟩ => ⟨S8x1x16, .i32⟩
  | .hbm, ⟨9, _⟩ => ⟨S8x1x128, .f32⟩
  | .hbm, ⟨10, _⟩ => ⟨S8x1x1, .f32⟩
  | .hbm, ⟨11, _⟩ => ⟨S8, .f32⟩
  | .hbm, ⟨12, _⟩ => ⟨S_, .f32⟩
  | .hbm, ⟨13, _⟩ => ⟨S_, .f32⟩
  | .local _ .vmem, ⟨0, _⟩ => ⟨S1x68x64x64, .f32⟩
  | .local _ .vmem, ⟨1, _⟩ => ⟨S1x68x64x64, .f32⟩
  | .local _ .vmem, ⟨2, _⟩ => ⟨S1x80x64x64, .f32⟩
  | .local _ .vmem, ⟨3, _⟩ => ⟨S1x80x64x64, .f32⟩
  | .local _ .vmem, ⟨4, _⟩ => ⟨S1x1x128, .f32⟩
  | .local _ .vmem, ⟨5, _⟩ => ⟨S1x1x128, .f32⟩
  | .local _ .vmem, ⟨6, _⟩ => ⟨S17x32x128, .f32⟩
  | .local _ .vmem, ⟨7, _⟩ => ⟨S16x32x128, .f32⟩
  | .local _ .smem, ⟨0, _⟩ => ⟨S1x16x4, .f32⟩
  | .local _ .smem, ⟨1, _⟩ => ⟨S1x16x4, .f32⟩
  | .local _ .smem, ⟨2, _⟩ => ⟨S1x1x16, .i32⟩
  | .local _ .smem, ⟨3, _⟩ => ⟨S1x1x16, .i32⟩
  | _, _ => ⟨S8x68x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg2_0 : Ref sig .tc := ⟨.smem, 0, rfl⟩
abbrev cc0_stg2_1 : Ref sig .tc := ⟨.smem, 1, rfl⟩
abbrev cc0_stg3_0 : Ref sig .tc := ⟨.smem, 2, rfl⟩
abbrev cc0_stg3_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c1_i32 : BitVec 32 := 1#32
  let v0 : BitVec 32 := Scalar.andi arg0 c1_i32
  let c0_i32 : BitVec 32 := 0#32
  let v80 : BitVec 1 := Scalar.cmpi .eq v0 c0_i32
  let v81 : BitVec 32 := Scalar.extui v80
  let c0_i32_177 : BitVec 32 := 0#32
  let v82 : BitVec 1 := Scalar.cmpi .ne v81 c0_i32_177
  v82

def k0_off1 (v2139 : BitVec 32) : Fin 4 → Nat :=
  let c0_796 : Index := 0#32
  let v2140 : Index := Scalar.indexCast v2139
  let c0_797 : Index := 0#32
  let c0_798 : Index := 0#32
  ![0, v2140.toNat, 0, 0]

def k0_chk1 (i : grid0.Coords) (v2139 : BitVec 32) : Prop :=
  (∀ (k0_h1 : k0_cond1 i = 1#1), ∀ a, (k0_off1 v2139) a + S1x1x64x64.size a ≤ S1x80x64x64.size a)
theorem k0_off1_inb : ∀ (i : grid0.Coords) (v2139 : BitVec 32) (k0_hw1 : k0_chk1 i v2139), ∀ (k0_h1 : k0_cond1 i = 1#1), ∀ a, (k0_off1 v2139) a + S1x1x64x64.size a ≤ S1x80x64x64.size a := fun i v2139 k0_hw1 k0_h1 => k0_hw1 k0_h1

def k0_off2 (v2149 : BitVec 32) : Fin 4 → Nat :=
  let c0_805 : Index := 0#32
  let v2150 : Index := Scalar.indexCast v2149
  let c0_806 : Index := 0#32
  let c0_807 : Index := 0#32
  ![0, v2150.toNat, 0, 0]

def k0_chk2 (i : grid0.Coords) (v2149 : BitVec 32) : Prop :=
  (∀ (k0_h1 : k0_cond1 i = 1#1), ∀ a, (k0_off2 v2149) a + S1x1x64x64.size a ≤ S1x80x64x64.size a)
theorem k0_off2_inb : ∀ (i : grid0.Coords) (v2149 : BitVec 32) (k0_hw2 : k0_chk2 i v2149), ∀ (k0_h1 : k0_cond1 i = 1#1), ∀ a, (k0_off2 v2149) a + S1x1x64x64.size a ≤ S1x80x64x64.size a := fun i v2149 k0_hw2 k0_h1 => k0_hw2 k0_h1

def k0_off3 (v2159 : BitVec 32) : Fin 4 → Nat :=
  let c0_814 : Index := 0#32
  let v2160 : Index := Scalar.indexCast v2159
  let c0_815 : Index := 0#32
  let c0_816 : Index := 0#32
  ![0, v2160.toNat, 0, 0]

def k0_chk3 (i : grid0.Coords) (v2159 : BitVec 32) : Prop :=
  (∀ (k0_h1 : k0_cond1 i = 1#1), ∀ a, (k0_off3 v2159) a + S1x1x64x64.size a ≤ S1x80x64x64.size a)
theorem k0_off3_inb : ∀ (i : grid0.Coords) (v2159 : BitVec 32) (k0_hw3 : k0_chk3 i v2159), ∀ (k0_h1 : k0_cond1 i = 1#1), ∀ a, (k0_off3 v2159) a + S1x1x64x64.size a ≤ S1x80x64x64.size a := fun i v2159 k0_hw3 k0_h1 => k0_hw3 k0_h1

def k0_off4 (v2169 : BitVec 32) : Fin 4 → Nat :=
  let c0_823 : Index := 0#32
  let v2170 : Index := Scalar.indexCast v2169
  let c0_824 : Index := 0#32
  let c0_825 : Index := 0#32
  ![0, v2170.toNat, 0, 0]

def k0_chk4 (i : grid0.Coords) (v2169 : BitVec 32) : Prop :=
  (∀ (k0_h1 : k0_cond1 i = 1#1), ∀ a, (k0_off4 v2169) a + S1x1x64x64.size a ≤ S1x80x64x64.size a)
theorem k0_off4_inb : ∀ (i : grid0.Coords) (v2169 : BitVec 32) (k0_hw4 : k0_chk4 i v2169), ∀ (k0_h1 : k0_cond1 i = 1#1), ∀ a, (k0_off4 v2169) a + S1x1x64x64.size a ≤ S1x80x64x64.size a := fun i v2169 k0_hw4 k0_h1 => k0_hw4 k0_h1

def k0_off5 (v2179 : BitVec 32) : Fin 4 → Nat :=
  let c0_832 : Index := 0#32
  let v2180 : Index := Scalar.indexCast v2179
  let c0_833 : Index := 0#32
  let c0_834 : Index := 0#32
  ![0, v2180.toNat, 0, 0]

def k0_chk5 (i : grid0.Coords) (v2179 : BitVec 32) : Prop :=
  (∀ (k0_h1 : k0_cond1 i = 1#1), ∀ a, (k0_off5 v2179) a + S1x1x64x64.size a ≤ S1x80x64x64.size a)
theorem k0_off5_inb : ∀ (i : grid0.Coords) (v2179 : BitVec 32) (k0_hw5 : k0_chk5 i v2179), ∀ (k0_h1 : k0_cond1 i = 1#1), ∀ a, (k0_off5 v2179) a + S1x1x64x64.size a ≤ S1x80x64x64.size a := fun i v2179 k0_hw5 k0_h1 => k0_hw5 k0_h1

def k0_off6 (v2189 : BitVec 32) : Fin 4 → Nat :=
  let c0_841 : Index := 0#32
  let v2190 : Index := Scalar.indexCast v2189
  let c0_842 : Index := 0#32
  let c0_843 : Index := 0#32
  ![0, v2190.toNat, 0, 0]

def k0_chk6 (i : grid0.Coords) (v2189 : BitVec 32) : Prop :=
  (∀ (k0_h1 : k0_cond1 i = 1#1), ∀ a, (k0_off6 v2189) a + S1x1x64x64.size a ≤ S1x80x64x64.size a)
theorem k0_off6_inb : ∀ (i : grid0.Coords) (v2189 : BitVec 32) (k0_hw6 : k0_chk6 i v2189), ∀ (k0_h1 : k0_cond1 i = 1#1), ∀ a, (k0_off6 v2189) a + S1x1x64x64.size a ≤ S1x80x64x64.size a := fun i v2189 k0_hw6 k0_h1 => k0_hw6 k0_h1

def k0_off7 (v2199 : BitVec 32) : Fin 4 → Nat :=
  let c0_850 : Index := 0#32
  let v2200 : Index := Scalar.indexCast v2199
  let c0_851 : Index := 0#32
  let c0_852 : Index := 0#32
  ![0, v2200.toNat, 0, 0]

def k0_chk7 (i : grid0.Coords) (v2199 : BitVec 32) : Prop :=
  (∀ (k0_h1 : k0_cond1 i = 1#1), ∀ a, (k0_off7 v2199) a + S1x1x64x64.size a ≤ S1x80x64x64.size a)
theorem k0_off7_inb : ∀ (i : grid0.Coords) (v2199 : BitVec 32) (k0_hw7 : k0_chk7 i v2199), ∀ (k0_h1 : k0_cond1 i = 1#1), ∀ a, (k0_off7 v2199) a + S1x1x64x64.size a ≤ S1x80x64x64.size a := fun i v2199 k0_hw7 k0_h1 => k0_hw7 k0_h1

def k0_off8 (v2209 : BitVec 32) : Fin 4 → Nat :=
  let c0_859 : Index := 0#32
  let v2210 : Index := Scalar.indexCast v2209
  let c0_860 : Index := 0#32
  let c0_861 : Index := 0#32
  ![0, v2210.toNat, 0, 0]

def k0_chk8 (i : grid0.Coords) (v2209 : BitVec 32) : Prop :=
  (∀ (k0_h1 : k0_cond1 i = 1#1), ∀ a, (k0_off8 v2209) a + S1x1x64x64.size a ≤ S1x80x64x64.size a)
theorem k0_off8_inb : ∀ (i : grid0.Coords) (v2209 : BitVec 32) (k0_hw8 : k0_chk8 i v2209), ∀ (k0_h1 : k0_cond1 i = 1#1), ∀ a, (k0_off8 v2209) a + S1x1x64x64.size a ≤ S1x80x64x64.size a := fun i v2209 k0_hw8 k0_h1 => k0_hw8 k0_h1

def k0_off9 (v2219 : BitVec 32) : Fin 4 → Nat :=
  let c0_868 : Index := 0#32
  let v2220 : Index := Scalar.indexCast v2219
  let c0_869 : Index := 0#32
  let c0_870 : Index := 0#32
  ![0, v2220.toNat, 0, 0]

def k0_chk9 (i : grid0.Coords) (v2219 : BitVec 32) : Prop :=
  (∀ (k0_h1 : k0_cond1 i = 1#1), ∀ a, (k0_off9 v2219) a + S1x1x64x64.size a ≤ S1x80x64x64.size a)
theorem k0_off9_inb : ∀ (i : grid0.Coords) (v2219 : BitVec 32) (k0_hw9 : k0_chk9 i v2219), ∀ (k0_h1 : k0_cond1 i = 1#1), ∀ a, (k0_off9 v2219) a + S1x1x64x64.size a ≤ S1x80x64x64.size a := fun i v2219 k0_hw9 k0_h1 => k0_hw9 k0_h1

def k0_off10 (v2229 : BitVec 32) : Fin 4 → Nat :=
  let c0_877 : Index := 0#32
  let v2230 : Index := Scalar.indexCast v2229
  let c0_878 : Index := 0#32
  let c0_879 : Index := 0#32
  ![0, v2230.toNat, 0, 0]

def k0_chk10 (i : grid0.Coords) (v2229 : BitVec 32) : Prop :=
  (∀ (k0_h1 : k0_cond1 i = 1#1), ∀ a, (k0_off10 v2229) a + S1x1x64x64.size a ≤ S1x80x64x64.size a)
theorem k0_off10_inb : ∀ (i : grid0.Coords) (v2229 : BitVec 32) (k0_hw10 : k0_chk10 i v2229), ∀ (k0_h1 : k0_cond1 i = 1#1), ∀ a, (k0_off10 v2229) a + S1x1x64x64.size a ≤ S1x80x64x64.size a := fun i v2229 k0_hw10 k0_h1 => k0_hw10 k0_h1

def k0_off11 (v2239 : BitVec 32) : Fin 4 → Nat :=
  let c0_886 : Index := 0#32
  let v2240 : Index := Scalar.indexCast v2239
  let c0_887 : Index := 0#32
  let c0_888 : Index := 0#32
  ![0, v2240.toNat, 0, 0]

def k0_chk11 (i : grid0.Coords) (v2239 : BitVec 32) : Prop :=
  (∀ (k0_h1 : k0_cond1 i = 1#1), ∀ a, (k0_off11 v2239) a + S1x1x64x64.size a ≤ S1x80x64x64.size a)
theorem k0_off11_inb : ∀ (i : grid0.Coords) (v2239 : BitVec 32) (k0_hw11 : k0_chk11 i v2239), ∀ (k0_h1 : k0_cond1 i = 1#1), ∀ a, (k0_off11 v2239) a + S1x1x64x64.size a ≤ S1x80x64x64.size a := fun i v2239 k0_hw11 k0_h1 => k0_hw11 k0_h1

def k0_off12 (v2249 : BitVec 32) : Fin 4 → Nat :=
  let c0_895 : Index := 0#32
  let v2250 : Index := Scalar.indexCast v2249
  let c0_896 : Index := 0#32
  let c0_897 : Index := 0#32
  ![0, v2250.toNat, 0, 0]

def k0_chk12 (i : grid0.Coords) (v2249 : BitVec 32) : Prop :=
  (∀ (k0_h1 : k0_cond1 i = 1#1), ∀ a, (k0_off12 v2249) a + S1x1x64x64.size a ≤ S1x80x64x64.size a)
theorem k0_off12_inb : ∀ (i : grid0.Coords) (v2249 : BitVec 32) (k0_hw12 : k0_chk12 i v2249), ∀ (k0_h1 : k0_cond1 i = 1#1), ∀ a, (k0_off12 v2249) a + S1x1x64x64.size a ≤ S1x80x64x64.size a := fun i v2249 k0_hw12 k0_h1 => k0_hw12 k0_h1

def k0_off13 (v2259 : BitVec 32) : Fin 4 → Nat :=
  let c0_904 : Index := 0#32
  let v2260 : Index := Scalar.indexCast v2259
  let c0_905 : Index := 0#32
  let c0_906 : Index := 0#32
  ![0, v2260.toNat, 0, 0]

def k0_chk13 (i : grid0.Coords) (v2259 : BitVec 32) : Prop :=
  (∀ (k0_h1 : k0_cond1 i = 1#1), ∀ a, (k0_off13 v2259) a + S1x1x64x64.size a ≤ S1x80x64x64.size a)
theorem k0_off13_inb : ∀ (i : grid0.Coords) (v2259 : BitVec 32) (k0_hw13 : k0_chk13 i v2259), ∀ (k0_h1 : k0_cond1 i = 1#1), ∀ a, (k0_off13 v2259) a + S1x1x64x64.size a ≤ S1x80x64x64.size a := fun i v2259 k0_hw13 k0_h1 => k0_hw13 k0_h1

def k0_off14 (v2269 : BitVec 32) : Fin 4 → Nat :=
  let c0_913 : Index := 0#32
  let v2270 : Index := Scalar.indexCast v2269
  let c0_914 : Index := 0#32
  let c0_915 : Index := 0#32
  ![0, v2270.toNat, 0, 0]

def k0_chk14 (i : grid0.Coords) (v2269 : BitVec 32) : Prop :=
  (∀ (k0_h1 : k0_cond1 i = 1#1), ∀ a, (k0_off14 v2269) a + S1x1x64x64.size a ≤ S1x80x64x64.size a)
theorem k0_off14_inb : ∀ (i : grid0.Coords) (v2269 : BitVec 32) (k0_hw14 : k0_chk14 i v2269), ∀ (k0_h1 : k0_cond1 i = 1#1), ∀ a, (k0_off14 v2269) a + S1x1x64x64.size a ≤ S1x80x64x64.size a := fun i v2269 k0_hw14 k0_h1 => k0_hw14 k0_h1

def k0_off15 (v2279 : BitVec 32) : Fin 4 → Nat :=
  let c0_922 : Index := 0#32
  let v2280 : Index := Scalar.indexCast v2279
  let c0_923 : Index := 0#32
  let c0_924 : Index := 0#32
  ![0, v2280.toNat, 0, 0]

def k0_chk15 (i : grid0.Coords) (v2279 : BitVec 32) : Prop :=
  (∀ (k0_h1 : k0_cond1 i = 1#1), ∀ a, (k0_off15 v2279) a + S1x1x64x64.size a ≤ S1x80x64x64.size a)
theorem k0_off15_inb : ∀ (i : grid0.Coords) (v2279 : BitVec 32) (k0_hw15 : k0_chk15 i v2279), ∀ (k0_h1 : k0_cond1 i = 1#1), ∀ a, (k0_off15 v2279) a + S1x1x64x64.size a ≤ S1x80x64x64.size a := fun i v2279 k0_hw15 k0_h1 => k0_hw15 k0_h1

def k0_off16 (v2289 : BitVec 32) : Fin 4 → Nat :=
  let c0_931 : Index := 0#32
  let v2290 : Index := Scalar.indexCast v2289
  let c0_932 : Index := 0#32
  let c0_933 : Index := 0#32
  ![0, v2290.toNat, 0, 0]

def k0_chk16 (i : grid0.Coords) (v2289 : BitVec 32) : Prop :=
  (∀ (k0_h1 : k0_cond1 i = 1#1), ∀ a, (k0_off16 v2289) a + S1x1x64x64.size a ≤ S1x80x64x64.size a)
theorem k0_off16_inb : ∀ (i : grid0.Coords) (v2289 : BitVec 32) (k0_hw16 : k0_chk16 i v2289), ∀ (k0_h1 : k0_cond1 i = 1#1), ∀ a, (k0_off16 v2289) a + S1x1x64x64.size a ≤ S1x80x64x64.size a := fun i v2289 k0_hw16 k0_h1 => k0_hw16 k0_h1

def k0_cond2 (i : grid0.Coords) : BitVec 1 :=
  let arg0 : BitVec 32 := BitVec.ofNat 32 (i 0).val
  let c1_i32 : BitVec 32 := 1#32
  let v0 : BitVec 32 := Scalar.andi arg0 c1_i32
  let c1_i32_178 : BitVec 32 := 1#32
  let v83 : BitVec 1 := Scalar.cmpi .eq v0 c1_i32_178
  let v84 : BitVec 32 := Scalar.extui v83
  let c0_i32_179 : BitVec 32 := 0#32
  let v85 : BitVec 1 := Scalar.cmpi .ne v84 c0_i32_179
  v85

def cc0_transform_0 (i : grid0.Coords) : Fin 4 → Nat :=
  let arg0 : BitVec 32 := BitVec.ofNat 32 (i 0).val
  let c1_i32 : BitVec 32 := 1#32
  let v0 : BitVec 32 := Scalar.subi arg0 c1_i32
  let c2_i32 : BitVec 32 := 2#32
  let v1 : BitVec 32 := Scalar.divsi v0 c2_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi v0 c2_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let v18 : BitVec 32 := Scalar.maxsi v17 c0_i32_5
  let c0_i32_6 : BitVec 32 := 0#32
  let c0_i32_7 : BitVec 32 := 0#32
  let c0_i32_8 : BitVec 32 := 0#32
  let c0_i32_9 : BitVec 32 := 0#32
  ![v18.toNat, c0_i32_6.toNat, c0_i32_7.toNat, c0_i32_8.toNat]

def cc0_transform_1 (i : grid0.Coords) : Fin 4 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S1x68x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x80x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .smem S1x16x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .smem S1x1x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x68x64x64 : Shape := ⟨4, ![8, 68, 64, 64]⟩
abbrev S8x80x64x64 : Shape := ⟨4, ![8, 80, 64, 64]⟩
abbrev S8x16x4 : Shape := ⟨3, ![8, 16, 4]⟩
abbrev S8x16 : Shape := ⟨2, ![8, 16]⟩
abbrev S_ : Shape := ⟨0, ![]⟩
abbrev S64 : Shape := ⟨1, ![64]⟩
abbrev S64x64 : Shape := ⟨2, ![64, 64]⟩
abbrev S64x64x1 : Shape := ⟨3, ![64, 64, 1]⟩
abbrev S64x64x2 : Shape := ⟨3, ![64, 64, 2]⟩
abbrev S4096x2 : Shape := ⟨2, ![4096, 2]⟩
abbrev S17 : Shape := ⟨1, ![17]⟩
abbrev S8x16x2 : Shape := ⟨3, ![8, 16, 2]⟩
abbrev S4096x1 : Shape := ⟨2, ![4096, 1]⟩
abbrev S4096 : Shape := ⟨1, ![4096]⟩
abbrev S8x16x1 : Shape := ⟨3, ![8, 16, 1]⟩
abbrev S8x1x16 : Shape := ⟨3, ![8, 1, 16]⟩
abbrev S1x4096x1 : Shape := ⟨3, ![1, 4096, 1]⟩
abbrev S8x4096x16 : Shape := ⟨3, ![8, 4096, 16]⟩
abbrev S8 : Shape := ⟨1, ![8]⟩
abbrev S4096x1x2 : Shape := ⟨3, ![4096, 1, 2]⟩
abbrev S8x1x16x2 : Shape := ⟨4, ![8, 1, 16, 2]⟩
abbrev S1x4096x1x2 : Shape := ⟨4, ![1, 4096, 1, 2]⟩
abbrev S8x4096x16x2 : Shape := ⟨4, ![8, 4096, 16, 2]⟩
abbrev S8x16x4096 : Shape := ⟨3, ![8, 16, 4096]⟩
abbrev S8x16x10 : Shape := ⟨3, ![8, 16, 10]⟩
abbrev S8x1x16x10 : Shape := ⟨4, ![8, 1, 16, 10]⟩
abbrev S4096x1x1 : Shape := ⟨3, ![4096, 1, 1]⟩
abbrev S1x4096x1x1 : Shape := ⟨4, ![1, 4096, 1, 1]⟩
abbrev S8x4096x16x10 : Shape := ⟨4, ![8, 4096, 16, 10]⟩
abbrev S8x64x64x80 : Shape := ⟨4, ![8, 64, 64, 80]⟩
abbrev S8x4096x80 : Shape := ⟨3, ![8, 4096, 80]⟩
abbrev S8x64x64x68 : Shape := ⟨4, ![8, 64, 64, 68]⟩
abbrev S8x4096x4x17 : Shape := ⟨4, ![8, 4096, 4, 17]⟩
abbrev S8x4096x16x1 : Shape := ⟨4, ![8, 4096, 16, 1]⟩
abbrev S8x4096x16x4 : Shape := ⟨4, ![8, 4096, 16, 4]⟩
abbrev S8x4096x4 : Shape := ⟨3, ![8, 4096, 4]⟩
abbrev S8x4096x4x1 : Shape := ⟨4, ![8, 4096, 4, 1]⟩
abbrev S8x4096x1x4x17 : Shape := ⟨5, ![8, 4096, 1, 4, 17]⟩
abbrev S8x4096x16x4x17 : Shape := ⟨5, ![8, 4096, 16, 4, 17]⟩
abbrev S8x4096x16x4x1 : Shape := ⟨5, ![8, 4096, 16, 4, 1]⟩
abbrev S8x4096x16x4x1x1 : Shape := ⟨6, ![8, 4096, 16, 4, 1, 1]⟩
abbrev S1 : Shape := ⟨1, ![1]⟩
abbrev S1x1x1x1x1x1 : Shape := ⟨6, ![1, 1, 1, 1, 1, 1]⟩
abbrev S1x1x17 : Shape := ⟨3, ![1, 1, 17]⟩
abbrev S1x1x1x17 : Shape := ⟨4, ![1, 1, 1, 17]⟩
abbrev S8x4096x1 : Shape := ⟨3, ![8, 4096, 1]⟩
abbrev S8x4096 : Shape := ⟨2, ![8, 4096]⟩
abbrev S1x4096 : Shape := ⟨2, ![1, 4096]⟩
abbrev S8x4096x1x4 : Shape := ⟨4, ![8, 4096, 1, 4]⟩
abbrev S8x1x16x4 : Shape := ⟨4, ![8, 1, 16, 4]⟩
abbrev S8x4096x1x2 : Shape := ⟨4, ![8, 4096, 1, 2]⟩
abbrev S8x4096x1x1 : Shape := ⟨4, ![8, 4096, 1, 1]⟩
abbrev S8x1x16x1 : Shape := ⟨4, ![8, 1, 16, 1]⟩
abbrev S1x80 : Shape := ⟨2, ![1, 80]⟩
abbrev S1x1x80 : Shape := ⟨3, ![1, 1, 80]⟩
abbrev S8x16x80 : Shape := ⟨3, ![8, 16, 80]⟩
abbrev S8x1x16x80 : Shape := ⟨4, ![8, 1, 16, 80]⟩
abbrev S8x4096x16x80 : Shape := ⟨4, ![8, 4096, 16, 80]⟩
abbrev S8x4096x1x80 : Shape := ⟨4, ![8, 4096, 1, 80]⟩
abbrev S4096x80 : Shape := ⟨2, ![4096, 80]⟩
abbrev S1x4096x80 : Shape := ⟨3, ![1, 4096, 80]⟩

abbrev nBuf : Space → Nat
  | .hbm => 584
  | .vmem => 0
  | .smem => 0
  | _ => 0

abbrev hbmTy0_0 (i : Nat) : BufTy := match i % 128 with
  | 0 => ⟨S8x68x64x64, .f32⟩
  | 1 => ⟨S8x80x64x64, .f32⟩
  | 2 => ⟨S8x16x4, .f32⟩
  | 3 => ⟨S8x16, .i32⟩
  | 4 => ⟨S_, .i32⟩
  | 5 => ⟨S64, .i32⟩
  | 6 => ⟨S64, .i32⟩
  | 7 => ⟨S64x64, .i32⟩
  | 8 => ⟨S64x64, .i32⟩
  | 9 => ⟨S64x64, .f32⟩
  | 10 => ⟨S_, .f32⟩
  | 11 => ⟨S64x64, .f32⟩
  | 12 => ⟨S64x64, .f32⟩
  | 13 => ⟨S64x64, .f32⟩
  | 14 => ⟨S_, .f32⟩
  | 15 => ⟨S64x64, .f32⟩
  | 16 => ⟨S64x64, .f32⟩
  | 17 => ⟨S64x64x1, .f32⟩
  | 18 => ⟨S64x64x1, .f32⟩
  | 19 => ⟨S64x64x2, .f32⟩
  | 20 => ⟨S4096x2, .f32⟩
  | 21 => ⟨S4096x2, .f32⟩
  | 22 => ⟨S17, .f32⟩
  | 23 => ⟨S_, .f32⟩
  | 24 => ⟨S8x16x4, .f32⟩
  | 25 => ⟨S8x16x4, .f32⟩
  | 26 => ⟨S8x16x2, .f32⟩
  | 27 => ⟨S8x16x2, .f32⟩
  | 28 => ⟨S8x16x2, .f32⟩
  | 29 => ⟨S_, .f32⟩
  | 30 => ⟨S8x16x2, .f32⟩
  | 31 => ⟨S8x16x2, .f32⟩
  | 32 => ⟨S4096x1, .f32⟩
  | 33 => ⟨S4096, .f32⟩
  | 34 => ⟨S4096x1, .f32⟩
  | 35 => ⟨S8x16x1, .f32⟩
  | 36 => ⟨S8x16, .f32⟩
  | 37 => ⟨S8x1x16, .f32⟩
  | 38 => ⟨S1x4096x1, .f32⟩
  | 39 => ⟨S8x4096x16, .f32⟩
  | 40 => ⟨S8x4096x16, .f32⟩
  | 41 => ⟨S8x4096x16, .f32⟩
  | 42 => ⟨S4096x1, .f32⟩
  | 43 => ⟨S4096, .f32⟩
  | 44 => ⟨S4096x1, .f32⟩
  | 45 => ⟨S8x16x1, .f32⟩
  | 46 => ⟨S8x16, .f32⟩
  | 47 => ⟨S8x1x16, .f32⟩
  | 48 => ⟨S1x4096x1, .f32⟩
  | 49 => ⟨S8x4096x16, .f32⟩
  | 50 => ⟨S8x4096x16, .f32⟩
  | 51 => ⟨S8x4096x16, .f32⟩
  | 52 => ⟨S8x16x1, .f32⟩
  | 53 => ⟨S8x16, .f32⟩
  | 54 => ⟨S8x1x16, .f32⟩
  | 55 => ⟨S4096x1, .f32⟩
  | 56 => ⟨S4096, .f32⟩
  | 57 => ⟨S4096x1, .f32⟩
  | 58 => ⟨S1x4096x1, .f32⟩
  | 59 => ⟨S8x4096x16, .f32⟩
  | 60 => ⟨S8x4096x16, .f32⟩
  | 61 => ⟨S8x4096x16, .f32⟩
  | 62 => ⟨S8x16x1, .f32⟩
  | 63 => ⟨S8x16, .f32⟩
  | 64 => ⟨S8x1x16, .f32⟩
  | 65 => ⟨S4096x1, .f32⟩
  | 66 => ⟨S4096, .f32⟩
  | 67 => ⟨S4096x1, .f32⟩
  | 68 => ⟨S1x4096x1, .f32⟩
  | 69 => ⟨S8x4096x16, .f32⟩
  | 70 => ⟨S8x4096x16, .f32⟩
  | 71 => ⟨S8x4096x16, .f32⟩
  | 72 => ⟨S_, .f32⟩
  | 73 => ⟨S8x4096x16, .f32⟩
  | 74 => ⟨S8x4096x16, .i1⟩
  | 75 => ⟨S_, .f32⟩
  | 76 => ⟨S8x4096x16, .f32⟩
  | 77 => ⟨S8x4096x16, .i1⟩
  | 78 => ⟨S8x4096x16, .i1⟩
  | 79 => ⟨S_, .f32⟩
  | 80 => ⟨S8x4096x16, .f32⟩
  | 81 => ⟨S8x4096x16, .i1⟩
  | 82 => ⟨S8x4096x16, .i1⟩
  | 83 => ⟨S_, .f32⟩
  | 84 => ⟨S8x4096x16, .f32⟩
  | 85 => ⟨S8x4096x16, .i1⟩
  | 86 => ⟨S8x4096x16, .i1⟩
  | 87 => ⟨S4096x1, .f32⟩
  | 88 => ⟨S4096, .f32⟩
  | 89 => ⟨S4096x1, .f32⟩
  | 90 => ⟨S8x16x1, .f32⟩
  | 91 => ⟨S8x16, .f32⟩
  | 92 => ⟨S8x1x16, .f32⟩
  | 93 => ⟨S_, .f32⟩
  | 94 => ⟨S8x1x16, .f32⟩
  | 95 => ⟨S8x1x16, .f32⟩
  | 96 => ⟨S1x4096x1, .f32⟩
  | 97 => ⟨S8x4096x16, .f32⟩
  | 98 => ⟨S8x4096x16, .f32⟩
  | 99 => ⟨S8x4096x16, .i1⟩
  | 100 => ⟨S4096x1, .f32⟩
  | 101 => ⟨S4096, .f32⟩
  | 102 => ⟨S4096x1, .f32⟩
  | 103 => ⟨S8x16x1, .f32⟩
  | 104 => ⟨S8x16, .f32⟩
  | 105 => ⟨S8x1x16, .f32⟩
  | 106 => ⟨S_, .f32⟩
  | 107 => ⟨S8x1x16, .f32⟩
  | 108 => ⟨S8x1x16, .f32⟩
  | 109 => ⟨S1x4096x1, .f32⟩
  | 110 => ⟨S8x4096x16, .f32⟩
  | 111 => ⟨S8x4096x16, .f32⟩
  | 112 => ⟨S8x4096x16, .i1⟩
  | 113 => ⟨S8x4096x16, .i1⟩
  | 114 => ⟨S4096x1, .f32⟩
  | 115 => ⟨S4096, .f32⟩
  | 116 => ⟨S4096x1, .f32⟩
  | 117 => ⟨S8x16x1, .f32⟩
  | 118 => ⟨S8x16, .f32⟩
  | 119 => ⟨S8x1x16, .f32⟩
  | 120 => ⟨S_, .f32⟩
  | 121 => ⟨S8x1x16, .f32⟩
  | 122 => ⟨S8x1x16, .f32⟩
  | 123 => ⟨S1x4096x1, .f32⟩
  | 124 => ⟨S8x4096x16, .f32⟩
  | 125 => ⟨S8x4096x16, .f32⟩
  | 126 => ⟨S8x4096x16, .i1⟩
  | 127 => ⟨S8x4096x16, .i1⟩
  | _ => ⟨S8x68x64x64, .f32⟩

abbrev hbmTy0_1 (i : Nat) : BufTy := match i % 128 with
  | 0 => ⟨S4096x1, .f32⟩
  | 1 => ⟨S4096, .f32⟩
  | 2 => ⟨S4096x1, .f32⟩
  | 3 => ⟨S8x16x1, .f32⟩
  | 4 => ⟨S8x16, .f32⟩
  | 5 => ⟨S8x1x16, .f32⟩
  | 6 => ⟨S_, .f32⟩
  | 7 => ⟨S8x1x16, .f32⟩
  | 8 => ⟨S8x1x16, .f32⟩
  | 9 => ⟨S1x4096x1, .f32⟩
  | 10 => ⟨S8x4096x16, .f32⟩
  | 11 => ⟨S8x4096x16, .f32⟩
  | 12 => ⟨S8x4096x16, .i1⟩
  | 13 => ⟨S8x4096x16, .i1⟩
  | 14 => ⟨S8x4096x16, .i1⟩
  | 15 => ⟨S_, .i1⟩
  | 16 => ⟨S8, .i1⟩
  | 17 => ⟨S4096x1x2, .f32⟩
  | 18 => ⟨S8x1x16x2, .f32⟩
  | 19 => ⟨S1x4096x1x2, .f32⟩
  | 20 => ⟨S8x4096x16x2, .f32⟩
  | 21 => ⟨S8x4096x16x2, .f32⟩
  | 22 => ⟨S8x4096x16x2, .f32⟩
  | 23 => ⟨S8x4096x16x2, .f32⟩
  | 24 => ⟨S_, .f32⟩
  | 25 => ⟨S8x4096x16, .f32⟩
  | 26 => ⟨S8x4096x16, .f32⟩
  | 27 => ⟨S8x16x4096, .f32⟩
  | 28 => ⟨S8x16x4096, .f32⟩
  | 29 => ⟨S8x16x10, .f32⟩
  | 30 => ⟨S8x16x10, .i32⟩
  | 31 => ⟨S8x1x16x10, .i32⟩
  | 32 => ⟨S4096, .i32⟩
  | 33 => ⟨S4096x1x1, .i32⟩
  | 34 => ⟨S1x4096x1x1, .i32⟩
  | 35 => ⟨S8x4096x16x10, .i32⟩
  | 36 => ⟨S8x4096x16x10, .i32⟩
  | 37 => ⟨S8x4096x16x10, .i1⟩
  | 38 => ⟨S_, .i1⟩
  | 39 => ⟨S8x4096x16, .i1⟩
  | 40 => ⟨S8x4096x16, .i1⟩
  | 41 => ⟨S8x4096x16, .i1⟩
  | 42 => ⟨S8x4096x16, .f32⟩
  | 43 => ⟨S_, .f32⟩
  | 44 => ⟨S8, .f32⟩
  | 45 => ⟨S8x64x64x80, .f32⟩
  | 46 => ⟨S8x4096x80, .f32⟩
  | 47 => ⟨S8x64x64x68, .f32⟩
  | 48 => ⟨S8x4096x4x17, .f32⟩
  | 49 => ⟨S4096x1, .f32⟩
  | 50 => ⟨S4096, .f32⟩
  | 51 => ⟨S4096x1, .f32⟩
  | 52 => ⟨S8x16x1, .f32⟩
  | 53 => ⟨S8x16, .f32⟩
  | 54 => ⟨S8x1x16, .f32⟩
  | 55 => ⟨S1x4096x1, .f32⟩
  | 56 => ⟨S8x4096x16, .f32⟩
  | 57 => ⟨S8x4096x16, .f32⟩
  | 58 => ⟨S8x4096x16, .f32⟩
  | 59 => ⟨S4096x1, .f32⟩
  | 60 => ⟨S4096, .f32⟩
  | 61 => ⟨S4096x1, .f32⟩
  | 62 => ⟨S8x16x1, .f32⟩
  | 63 => ⟨S8x16, .f32⟩
  | 64 => ⟨S8x1x16, .f32⟩
  | 65 => ⟨S1x4096x1, .f32⟩
  | 66 => ⟨S8x4096x16, .f32⟩
  | 67 => ⟨S8x4096x16, .f32⟩
  | 68 => ⟨S8x4096x16, .f32⟩
  | 69 => ⟨S8x16x1, .f32⟩
  | 70 => ⟨S8x16, .f32⟩
  | 71 => ⟨S8x1x16, .f32⟩
  | 72 => ⟨S4096x1, .f32⟩
  | 73 => ⟨S4096, .f32⟩
  | 74 => ⟨S4096x1, .f32⟩
  | 75 => ⟨S1x4096x1, .f32⟩
  | 76 => ⟨S8x4096x16, .f32⟩
  | 77 => ⟨S8x4096x16, .f32⟩
  | 78 => ⟨S8x4096x16, .f32⟩
  | 79 => ⟨S8x16x1, .f32⟩
  | 80 => ⟨S8x16, .f32⟩
  | 81 => ⟨S8x1x16, .f32⟩
  | 82 => ⟨S4096x1, .f32⟩
  | 83 => ⟨S4096, .f32⟩
  | 84 => ⟨S4096x1, .f32⟩
  | 85 => ⟨S1x4096x1, .f32⟩
  | 86 => ⟨S8x4096x16, .f32⟩
  | 87 => ⟨S8x4096x16, .f32⟩
  | 88 => ⟨S8x4096x16, .f32⟩
  | 89 => ⟨S8x4096x16x1, .f32⟩
  | 90 => ⟨S8x4096x16x1, .f32⟩
  | 91 => ⟨S8x4096x16x1, .f32⟩
  | 92 => ⟨S8x4096x16x1, .f32⟩
  | 93 => ⟨S8x4096x16x4, .f32⟩
  | 94 => ⟨S_, .i32⟩
  | 95 => ⟨S_, .f32⟩
  | 96 => ⟨S8x4096x16x4, .f32⟩
  | 97 => ⟨S8x4096x16x4, .f32⟩
  | 98 => ⟨S_, .i32⟩
  | 99 => ⟨S_, .f32⟩
  | 100 => ⟨S_, .f32⟩
  | 101 => ⟨S8x4096x16x4, .f32⟩
  | 102 => ⟨S8x4096x16x4, .f32⟩
  | 103 => ⟨S_, .f32⟩
  | 104 => ⟨S8x4096x16x4, .f32⟩
  | 105 => ⟨S8x4096x16x4, .f32⟩
  | 106 => ⟨S8x4096x16x4, .f32⟩
  | 107 => ⟨S8x4096x16x4, .i32⟩
  | 108 => ⟨S_, .i32⟩
  | 109 => ⟨S8x4096x16x4, .i32⟩
  | 110 => ⟨S8x4096x16x4, .i32⟩
  | 111 => ⟨S_, .i32⟩
  | 112 => ⟨S8x4096x16x4, .i32⟩
  | 113 => ⟨S8x4096x16x4, .i32⟩
  | 114 => ⟨S8x4096x16x4, .f32⟩
  | 115 => ⟨S8x4096x16x4, .f32⟩
  | 116 => ⟨S8x4096x16x4, .f32⟩
  | 117 => ⟨S8x4096x16x4, .f32⟩
  | 118 => ⟨S_, .f32⟩
  | 119 => ⟨S8x4096x4, .f32⟩
  | 120 => ⟨S_, .f32⟩
  | 121 => ⟨S8x4096x4, .f32⟩
  | 122 => ⟨S8x4096x4, .f32⟩
  | 123 => ⟨S8x4096x4x1, .f32⟩
  | 124 => ⟨S8x4096x4x17, .f32⟩
  | 125 => ⟨S8x4096x4x17, .f32⟩
  | 126 => ⟨S8x4096x4x17, .f32⟩
  | 127 => ⟨S_, .f32⟩
  | _ => ⟨S8x68x64x64, .f32⟩

abbrev hbmTy0_2 (i : Nat) : BufTy := match i % 128 with
  | 0 => ⟨S8x4096x4, .f32⟩
  | 1 => ⟨S8x4096x4x1, .f32⟩
  | 2 => ⟨S8x4096x4x1, .f32⟩
  | 3 => ⟨S8x4096x4x17, .f32⟩
  | 4 => ⟨S8x4096x4x17, .f32⟩
  | 5 => ⟨S8x4096x1x4x17, .f32⟩
  | 6 => ⟨S8x4096x16x4x17, .f32⟩
  | 7 => ⟨S8x4096x16x4x1, .i32⟩
  | 8 => ⟨S_, .i32⟩
  | 9 => ⟨S8x4096x16x4x1, .i32⟩
  | 10 => ⟨S8x4096x16x4x1, .i1⟩
  | 11 => ⟨S_, .i32⟩
  | 12 => ⟨S8x4096x16x4x1, .i32⟩
  | 13 => ⟨S8x4096x16x4x1, .i32⟩
  | 14 => ⟨S8x4096x16x4x1, .i32⟩
  | 15 => ⟨S8x4096x16x4x1x1, .i32⟩
  | 16 => ⟨S1, .i32⟩
  | 17 => ⟨S_, .i32⟩
  | 18 => ⟨S8x4096x16x4x1x1, .i32⟩
  | 19 => ⟨S8x4096x16x4x1x1, .i1⟩
  | 20 => ⟨S1x1x1x1x1x1, .i32⟩
  | 21 => ⟨S8x4096x16x4x1x1, .i32⟩
  | 22 => ⟨S8x4096x16x4x1x1, .i1⟩
  | 23 => ⟨S8x4096x16x4x1x1, .i1⟩
  | 24 => ⟨S_, .i1⟩
  | 25 => ⟨S8x4096x16x4x1, .i1⟩
  | 26 => ⟨S8x4096x16x4x1, .f32⟩
  | 27 => ⟨S_, .f32⟩
  | 28 => ⟨S8x4096x16x4x1, .f32⟩
  | 29 => ⟨S8x4096x16x4x1, .f32⟩
  | 30 => ⟨S8x4096x16x4, .f32⟩
  | 31 => ⟨S8x4096x16x4x1, .i32⟩
  | 32 => ⟨S_, .i32⟩
  | 33 => ⟨S8x4096x16x4x1, .i32⟩
  | 34 => ⟨S8x4096x16x4x1, .i1⟩
  | 35 => ⟨S_, .i32⟩
  | 36 => ⟨S8x4096x16x4x1, .i32⟩
  | 37 => ⟨S8x4096x16x4x1, .i32⟩
  | 38 => ⟨S8x4096x16x4x1, .i32⟩
  | 39 => ⟨S8x4096x16x4x1x1, .i32⟩
  | 40 => ⟨S1, .i32⟩
  | 41 => ⟨S_, .i32⟩
  | 42 => ⟨S8x4096x16x4x1x1, .i32⟩
  | 43 => ⟨S8x4096x16x4x1x1, .i1⟩
  | 44 => ⟨S1x1x1x1x1x1, .i32⟩
  | 45 => ⟨S8x4096x16x4x1x1, .i32⟩
  | 46 => ⟨S8x4096x16x4x1x1, .i1⟩
  | 47 => ⟨S8x4096x16x4x1x1, .i1⟩
  | 48 => ⟨S_, .i1⟩
  | 49 => ⟨S8x4096x16x4x1, .i1⟩
  | 50 => ⟨S8x4096x16x4x1, .f32⟩
  | 51 => ⟨S_, .f32⟩
  | 52 => ⟨S8x4096x16x4x1, .f32⟩
  | 53 => ⟨S8x4096x16x4x1, .f32⟩
  | 54 => ⟨S8x4096x16x4, .f32⟩
  | 55 => ⟨S8x4096x16x4, .f32⟩
  | 56 => ⟨S8x4096x16x4, .f32⟩
  | 57 => ⟨S8x4096x16x4, .f32⟩
  | 58 => ⟨S8x4096x16x4, .f32⟩
  | 59 => ⟨S8x4096x16x1, .f32⟩
  | 60 => ⟨S8x4096x16x4, .f32⟩
  | 61 => ⟨S8x4096x16x4, .f32⟩
  | 62 => ⟨S_, .f32⟩
  | 63 => ⟨S8, .f32⟩
  | 64 => ⟨S_, .f32⟩
  | 65 => ⟨S8, .f32⟩
  | 66 => ⟨S8, .f32⟩
  | 67 => ⟨S8, .f32⟩
  | 68 => ⟨S_, .f32⟩
  | 69 => ⟨S8x4096x4, .f32⟩
  | 70 => ⟨S_, .f32⟩
  | 71 => ⟨S8x4096x4, .f32⟩
  | 72 => ⟨S8x4096x4, .f32⟩
  | 73 => ⟨S8x4096x4x1, .f32⟩
  | 74 => ⟨S8x4096x4x17, .f32⟩
  | 75 => ⟨S8x4096x4x17, .f32⟩
  | 76 => ⟨S8x4096x4x17, .f32⟩
  | 77 => ⟨S_, .f32⟩
  | 78 => ⟨S8x4096x4, .f32⟩
  | 79 => ⟨S8x4096x4x1, .f32⟩
  | 80 => ⟨S8x4096x4x17, .f32⟩
  | 81 => ⟨S8x4096x4x17, .f32⟩
  | 82 => ⟨S1x1x17, .f32⟩
  | 83 => ⟨S1x1x1x17, .f32⟩
  | 84 => ⟨S8x4096x4x17, .f32⟩
  | 85 => ⟨S8x4096x4x17, .f32⟩
  | 86 => ⟨S_, .f32⟩
  | 87 => ⟨S8x4096x4, .f32⟩
  | 88 => ⟨S4096x1, .f32⟩
  | 89 => ⟨S4096, .f32⟩
  | 90 => ⟨S8x4096x1, .f32⟩
  | 91 => ⟨S8x4096, .f32⟩
  | 92 => ⟨S1x4096, .f32⟩
  | 93 => ⟨S8x4096, .f32⟩
  | 94 => ⟨S8x4096, .f32⟩
  | 95 => ⟨S4096x1, .f32⟩
  | 96 => ⟨S4096, .f32⟩
  | 97 => ⟨S8x4096x1, .f32⟩
  | 98 => ⟨S8x4096, .f32⟩
  | 99 => ⟨S1x4096, .f32⟩
  | 100 => ⟨S8x4096, .f32⟩
  | 101 => ⟨S8x4096, .f32⟩
  | 102 => ⟨S4096x1, .f32⟩
  | 103 => ⟨S4096, .f32⟩
  | 104 => ⟨S8x4096x1, .f32⟩
  | 105 => ⟨S8x4096, .f32⟩
  | 106 => ⟨S1x4096, .f32⟩
  | 107 => ⟨S8x4096, .f32⟩
  | 108 => ⟨S8x4096, .f32⟩
  | 109 => ⟨S4096x1, .f32⟩
  | 110 => ⟨S4096, .f32⟩
  | 111 => ⟨S8x4096x1, .f32⟩
  | 112 => ⟨S8x4096, .f32⟩
  | 113 => ⟨S1x4096, .f32⟩
  | 114 => ⟨S8x4096, .f32⟩
  | 115 => ⟨S8x4096, .f32⟩
  | 116 => ⟨S8x4096x1, .f32⟩
  | 117 => ⟨S8x4096x1, .f32⟩
  | 118 => ⟨S8x4096x1, .f32⟩
  | 119 => ⟨S8x4096x1, .f32⟩
  | 120 => ⟨S8x4096x4, .f32⟩
  | 121 => ⟨S8x4096x1x4, .f32⟩
  | 122 => ⟨S8x1x16x4, .f32⟩
  | 123 => ⟨S8x4096x1x2, .f32⟩
  | 124 => ⟨S8x1x16x2, .f32⟩
  | 125 => ⟨S8x4096x16x2, .f32⟩
  | 126 => ⟨S8x4096x16x2, .f32⟩
  | 127 => ⟨S8x4096x16x2, .f32⟩
  | _ => ⟨S8x68x64x64, .f32⟩

abbrev hbmTy0_3 (i : Nat) : BufTy := match i % 128 with
  | 0 => ⟨S8x4096x1x2, .f32⟩
  | 1 => ⟨S8x1x16x2, .f32⟩
  | 2 => ⟨S8x4096x16x2, .f32⟩
  | 3 => ⟨S8x4096x16x2, .f32⟩
  | 4 => ⟨S8x4096x16x2, .f32⟩
  | 5 => ⟨S8x4096x16x2, .f32⟩
  | 6 => ⟨S_, .i32⟩
  | 7 => ⟨S_, .f32⟩
  | 8 => ⟨S8x4096x16x2, .f32⟩
  | 9 => ⟨S8x4096x16x2, .f32⟩
  | 10 => ⟨S8x4096x16x1, .f32⟩
  | 11 => ⟨S8x4096x16, .f32⟩
  | 12 => ⟨S8x4096x16x1, .f32⟩
  | 13 => ⟨S8x4096x16, .f32⟩
  | 14 => ⟨S8x4096x16, .f32⟩
  | 15 => ⟨S8x4096x1x1, .f32⟩
  | 16 => ⟨S8x4096x1, .f32⟩
  | 17 => ⟨S8x4096x1x1, .f32⟩
  | 18 => ⟨S8x4096x1, .f32⟩
  | 19 => ⟨S8x4096x1, .f32⟩
  | 20 => ⟨S8x4096x1x1, .f32⟩
  | 21 => ⟨S8x4096x1, .f32⟩
  | 22 => ⟨S8x4096x1x1, .f32⟩
  | 23 => ⟨S8x4096x1, .f32⟩
  | 24 => ⟨S8x4096x1, .f32⟩
  | 25 => ⟨S8x4096x1, .f32⟩
  | 26 => ⟨S8x1x16x1, .f32⟩
  | 27 => ⟨S8x1x16, .f32⟩
  | 28 => ⟨S8x1x16x1, .f32⟩
  | 29 => ⟨S8x1x16, .f32⟩
  | 30 => ⟨S8x1x16, .f32⟩
  | 31 => ⟨S8x1x16x1, .f32⟩
  | 32 => ⟨S8x1x16, .f32⟩
  | 33 => ⟨S8x1x16x1, .f32⟩
  | 34 => ⟨S8x1x16, .f32⟩
  | 35 => ⟨S8x1x16, .f32⟩
  | 36 => ⟨S8x1x16, .f32⟩
  | 37 => ⟨S8x4096x16, .f32⟩
  | 38 => ⟨S8x4096x16, .f32⟩
  | 39 => ⟨S8x4096x16, .f32⟩
  | 40 => ⟨S8x4096x16, .f32⟩
  | 41 => ⟨S_, .f32⟩
  | 42 => ⟨S8x4096x16, .f32⟩
  | 43 => ⟨S8x4096x16, .f32⟩
  | 44 => ⟨S8x4096x16, .f32⟩
  | 45 => ⟨S_, .f32⟩
  | 46 => ⟨S8x4096x16, .f32⟩
  | 47 => ⟨S8x4096x16, .f32⟩
  | 48 => ⟨S8x4096x16, .f32⟩
  | 49 => ⟨S_, .f32⟩
  | 50 => ⟨S8, .f32⟩
  | 51 => ⟨S8x16x1, .i32⟩
  | 52 => ⟨S1x80, .i32⟩
  | 53 => ⟨S1x1x80, .i32⟩
  | 54 => ⟨S8x16x80, .i32⟩
  | 55 => ⟨S8x16x80, .i32⟩
  | 56 => ⟨S8x16x80, .i1⟩
  | 57 => ⟨S8x16x80, .f32⟩
  | 58 => ⟨S8x1x16x80, .f32⟩
  | 59 => ⟨S8x4096x16x1, .f32⟩
  | 60 => ⟨S8x4096x16x80, .f32⟩
  | 61 => ⟨S8x4096x16x80, .f32⟩
  | 62 => ⟨S8x4096x16x80, .f32⟩
  | 63 => ⟨S8x4096x1x80, .f32⟩
  | 64 => ⟨S8x4096x1x80, .f32⟩
  | 65 => ⟨S8x4096x1x80, .f32⟩
  | 66 => ⟨S_, .f32⟩
  | 67 => ⟨S8x4096x1x80, .f32⟩
  | 68 => ⟨S8x4096x1x80, .f32⟩
  | 69 => ⟨S_, .f32⟩
  | 70 => ⟨S8x4096x1x80, .f32⟩
  | 71 => ⟨S8x4096x1x80, .f32⟩
  | 72 => ⟨S_, .i32⟩
  | 73 => ⟨S_, .f32⟩
  | 74 => ⟨S8x4096x1x80, .f32⟩
  | 75 => ⟨S8x4096x1x80, .f32⟩
  | 76 => ⟨S8x4096x16x80, .f32⟩
  | 77 => ⟨S8x4096x16x80, .f32⟩
  | 78 => ⟨S8x4096x16x80, .f32⟩
  | 79 => ⟨S8x4096x16x80, .f32⟩
  | 80 => ⟨S8x4096x1x80, .f32⟩
  | 81 => ⟨S8x4096x1x80, .f32⟩
  | 82 => ⟨S8x4096x1x80, .f32⟩
  | 83 => ⟨S8x4096x1x80, .f32⟩
  | 84 => ⟨S8x4096x16x80, .f32⟩
  | 85 => ⟨S8x4096x16x80, .f32⟩
  | 86 => ⟨S8x4096x16x80, .f32⟩
  | 87 => ⟨S8x4096x16x80, .f32⟩
  | 88 => ⟨S_, .f32⟩
  | 89 => ⟨S8x4096x1x80, .f32⟩
  | 90 => ⟨S8x4096x1x80, .f32⟩
  | 91 => ⟨S_, .f32⟩
  | 92 => ⟨S8x4096x16x80, .f32⟩
  | 93 => ⟨S8x4096x16x80, .f32⟩
  | 94 => ⟨S8x4096x16x80, .f32⟩
  | 95 => ⟨S8x4096x16x80, .f32⟩
  | 96 => ⟨S8x4096x16x80, .f32⟩
  | 97 => ⟨S_, .f32⟩
  | 98 => ⟨S8x4096x16x80, .f32⟩
  | 99 => ⟨S8x4096x16x80, .f32⟩
  | 100 => ⟨S_, .f32⟩
  | 101 => ⟨S8x4096x16x80, .f32⟩
  | 102 => ⟨S8x4096x16x80, .f32⟩
  | 103 => ⟨S_, .f32⟩
  | 104 => ⟨S8x4096x16x80, .f32⟩
  | 105 => ⟨S8x4096x16x80, .f32⟩
  | 106 => ⟨S8x4096x16x80, .f32⟩
  | 107 => ⟨S8x4096x16x80, .f32⟩
  | 108 => ⟨S_, .f32⟩
  | 109 => ⟨S8x4096x16x80, .f32⟩
  | 110 => ⟨S8x4096x16x80, .f32⟩
  | 111 => ⟨S_, .f32⟩
  | 112 => ⟨S8x4096x16x80, .f32⟩
  | 113 => ⟨S8x4096x16x80, .f32⟩
  | 114 => ⟨S8x4096x16x80, .f32⟩
  | 115 => ⟨S_, .i1⟩
  | 116 => ⟨S8x4096, .i1⟩
  | 117 => ⟨S_, .f32⟩
  | 118 => ⟨S4096x80, .f32⟩
  | 119 => ⟨S8x4096x80, .f32⟩
  | 120 => ⟨S8x4096x80, .f32⟩
  | 121 => ⟨S_, .f32⟩
  | 122 => ⟨S8x4096x80, .f32⟩
  | 123 => ⟨S8x4096x80, .f32⟩
  | 124 => ⟨S_, .f32⟩
  | 125 => ⟨S8x4096x80, .f32⟩
  | 126 => ⟨S8x4096x80, .f32⟩
  | 127 => ⟨S_, .i32⟩
  | _ => ⟨S8x68x64x64, .f32⟩

abbrev hbmTy0_4 (i : Nat) : BufTy := match i % 128 with
  | 0 => ⟨S_, .f32⟩
  | 1 => ⟨S8x4096x80, .f32⟩
  | 2 => ⟨S8x4096x80, .f32⟩
  | 3 => ⟨S1x4096x80, .f32⟩
  | 4 => ⟨S8x4096x80, .f32⟩
  | 5 => ⟨S8x4096x80, .f32⟩
  | 6 => ⟨S8x4096x80, .f32⟩
  | 7 => ⟨S8x4096x80, .f32⟩
  | 8 => ⟨S8x4096x80, .f32⟩
  | 9 => ⟨S8x4096x80, .f32⟩
  | 10 => ⟨S8x4096x80, .f32⟩
  | 11 => ⟨S8x4096x80, .f32⟩
  | 12 => ⟨S1x4096x80, .f32⟩
  | 13 => ⟨S8x4096x80, .f32⟩
  | 14 => ⟨S8x4096x80, .f32⟩
  | 15 => ⟨S_, .f32⟩
  | 16 => ⟨S8x4096x80, .f32⟩
  | 17 => ⟨S8x4096x80, .f32⟩
  | 18 => ⟨S_, .f32⟩
  | 19 => ⟨S4096x80, .f32⟩
  | 20 => ⟨S4096x80, .f32⟩
  | 21 => ⟨S1x4096x80, .f32⟩
  | 22 => ⟨S8x4096x80, .f32⟩
  | 23 => ⟨S8x4096x80, .f32⟩
  | 24 => ⟨S8x4096x80, .f32⟩
  | 25 => ⟨S_, .f32⟩
  | 26 => ⟨S4096x80, .f32⟩
  | 27 => ⟨S4096x80, .f32⟩
  | 28 => ⟨S_, .f32⟩
  | 29 => ⟨S4096x80, .f32⟩
  | 30 => ⟨S4096x80, .f32⟩
  | 31 => ⟨S_, .f32⟩
  | 32 => ⟨S4096x80, .f32⟩
  | 33 => ⟨S4096x80, .f32⟩
  | 34 => ⟨S4096x80, .f32⟩
  | 35 => ⟨S1x4096x80, .f32⟩
  | 36 => ⟨S8x4096x80, .f32⟩
  | 37 => ⟨S8x4096x80, .f32⟩
  | 38 => ⟨S_, .f32⟩
  | 39 => ⟨S8x4096x80, .f32⟩
  | 40 => ⟨S8x4096x80, .f32⟩
  | 41 => ⟨S_, .f32⟩
  | 42 => ⟨S8x4096x80, .f32⟩
  | 43 => ⟨S8x4096x80, .f32⟩
  | 44 => ⟨S8x4096x80, .f32⟩
  | 45 => ⟨S8x4096x16x1, .f32⟩
  | 46 => ⟨S8x4096x16x80, .f32⟩
  | 47 => ⟨S8x4096x16x80, .f32⟩
  | 48 => ⟨S_, .f32⟩
  | 49 => ⟨S8, .f32⟩
  | 50 => ⟨S8x4096, .i1⟩
  | 51 => ⟨S8x4096, .f32⟩
  | 52 => ⟨S8x4096x1, .f32⟩
  | 53 => ⟨S8x4096x80, .f32⟩
  | 54 => ⟨S8x4096x80, .f32⟩
  | 55 => ⟨S_, .f32⟩
  | 56 => ⟨S8, .f32⟩
  | 57 => ⟨S8, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | _ => ⟨S8x68x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x68x64x64, .f32⟩

abbrev bufTy : (tb : Table) → Fin (tcTables nBuf tb) → BufTy
  | .hbm, ⟨i, _⟩ => hbmTy i
  | _, _ => ⟨S8x68x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_2 : Ref sig .tc := ⟨.hbm, 72, rfl⟩
abbrev main_v64 : Ref sig .tc := ⟨.hbm, 73, rfl⟩
abbrev main_v65 : Ref sig .tc := ⟨.hbm, 74, rfl⟩
abbrev main_cst_3 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_4 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_cst_5 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_cst_6 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_cst_7 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_cst_8 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_v118 : Ref sig .tc := ⟨.hbm, 133, rfl⟩
abbrev main_cst_9 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_c : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_cst_10 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_values : Ref sig .tc := ⟨.hbm, 157, rfl⟩
abbrev main_indices : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_c_11 : Ref sig .tc := ⟨.hbm, 166, rfl⟩
abbrev main_v146 : Ref sig .tc := ⟨.hbm, 167, rfl⟩
abbrev main_call0_v0 : Ref sig .tc := ⟨.hbm, 168, rfl⟩
abbrev main_v147 : Ref sig .tc := ⟨.hbm, 169, rfl⟩
abbrev main_v148 : Ref sig .tc := ⟨.hbm, 170, rfl⟩
abbrev main_cst_12 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_v168 : Ref sig .tc := ⟨.hbm, 191, rfl⟩
abbrev main_v169 : Ref sig .tc := ⟨.hbm, 192, rfl⟩
abbrev main_v170 : Ref sig .tc := ⟨.hbm, 193, rfl⟩
abbrev main_v171 : Ref sig .tc := ⟨.hbm, 194, rfl⟩
abbrev main_v172 : Ref sig .tc := ⟨.hbm, 195, rfl⟩
abbrev main_v173 : Ref sig .tc := ⟨.hbm, 196, rfl⟩
abbrev main_v174 : Ref sig .tc := ⟨.hbm, 197, rfl⟩
abbrev main_v175 : Ref sig .tc := ⟨.hbm, 198, rfl⟩
abbrev main_v176 : Ref sig .tc := ⟨.hbm, 199, rfl⟩
abbrev main_v177 : Ref sig .tc := ⟨.hbm, 200, rfl⟩
abbrev main_v178 : Ref sig .tc := ⟨.hbm, 201, rfl⟩
abbrev main_v179 : Ref sig .tc := ⟨.hbm, 202, rfl⟩
abbrev main_v180 : Ref sig .tc := ⟨.hbm, 203, rfl⟩
abbrev main_v181 : Ref sig .tc := ⟨.hbm, 204, rfl⟩
abbrev main_v182 : Ref sig .tc := ⟨.hbm, 205, rfl⟩
abbrev main_v183 : Ref sig .tc := ⟨.hbm, 206, rfl⟩
abbrev main_v184 : Ref sig .tc := ⟨.hbm, 207, rfl⟩
abbrev main_v185 : Ref sig .tc := ⟨.hbm, 208, rfl⟩
abbrev main_v186 : Ref sig .tc := ⟨.hbm, 209, rfl⟩
abbrev main_v187 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_c_13 : Ref sig .tc := ⟨.hbm, 222, rfl⟩
abbrev main_call1_v0 : Ref sig .tc := ⟨.hbm, 223, rfl⟩
abbrev main_call1_v1 : Ref sig .tc := ⟨.hbm, 224, rfl⟩
abbrev main_v199 : Ref sig .tc := ⟨.hbm, 225, rfl⟩
abbrev main_c_14 : Ref sig .tc := ⟨.hbm, 226, rfl⟩
abbrev main_cst_15 : Ref sig .tc := ⟨.hbm, 227, rfl⟩
abbrev main_call2_v0 : Ref sig .tc := ⟨.hbm, 228, rfl⟩
abbrev main_call2_v1 : Ref sig .tc := ⟨.hbm, 229, rfl⟩
abbrev main_call2_v2 : Ref sig .tc := ⟨.hbm, 230, rfl⟩
abbrev main_call2_v3 : Ref sig .tc := ⟨.hbm, 231, rfl⟩
abbrev main_call2_v4 : Ref sig .tc := ⟨.hbm, 232, rfl⟩
abbrev main_v200 : Ref sig .tc := ⟨.hbm, 233, rfl⟩
abbrev main_v201 : Ref sig .tc := ⟨.hbm, 234, rfl⟩
abbrev main_v202 : Ref sig .tc := ⟨.hbm, 235, rfl⟩
abbrev main_c_16 : Ref sig .tc := ⟨.hbm, 236, rfl⟩
abbrev main_v203 : Ref sig .tc := ⟨.hbm, 237, rfl⟩
abbrev main_v204 : Ref sig .tc := ⟨.hbm, 238, rfl⟩
abbrev main_c_17 : Ref sig .tc := ⟨.hbm, 239, rfl⟩
abbrev main_v205 : Ref sig .tc := ⟨.hbm, 240, rfl⟩
abbrev main_v206 : Ref sig .tc := ⟨.hbm, 241, rfl⟩
abbrev main_v207 : Ref sig .tc := ⟨.hbm, 242, rfl⟩
abbrev main_v208 : Ref sig .tc := ⟨.hbm, 243, rfl⟩
abbrev main_v209 : Ref sig .tc := ⟨.hbm, 244, rfl⟩
abbrev main_v210 : Ref sig .tc := ⟨.hbm, 245, rfl⟩
abbrev main_call3_cst : Ref sig .tc := ⟨.hbm, 246, rfl⟩
abbrev main_call3_v0 : Ref sig .tc := ⟨.hbm, 247, rfl⟩
abbrev main_call3_cst_0 : Ref sig .tc := ⟨.hbm, 248, rfl⟩
abbrev main_call3_v1 : Ref sig .tc := ⟨.hbm, 249, rfl⟩
abbrev main_call3_v2 : Ref sig .tc := ⟨.hbm, 250, rfl⟩
abbrev main_call3_v3 : Ref sig .tc := ⟨.hbm, 251, rfl⟩
abbrev main_call3_v4 : Ref sig .tc := ⟨.hbm, 252, rfl⟩
abbrev main_call3_v5 : Ref sig .tc := ⟨.hbm, 253, rfl⟩
abbrev main_call3_v6 : Ref sig .tc := ⟨.hbm, 254, rfl⟩
abbrev main_call3_cst_1 : Ref sig .tc := ⟨.hbm, 255, rfl⟩
abbrev main_call3_v7 : Ref sig .tc := ⟨.hbm, 256, rfl⟩
abbrev main_call3_v8 : Ref sig .tc := ⟨.hbm, 257, rfl⟩
abbrev main_call3_v9 : Ref sig .tc := ⟨.hbm, 258, rfl⟩
abbrev main_call3_v10 : Ref sig .tc := ⟨.hbm, 259, rfl⟩
abbrev main_v211 : Ref sig .tc := ⟨.hbm, 260, rfl⟩
abbrev main_v212 : Ref sig .tc := ⟨.hbm, 261, rfl⟩
abbrev main_v213 : Ref sig .tc := ⟨.hbm, 262, rfl⟩
abbrev main_v214 : Ref sig .tc := ⟨.hbm, 263, rfl⟩
abbrev main_call4_c : Ref sig .tc := ⟨.hbm, 264, rfl⟩
abbrev main_call4_v0 : Ref sig .tc := ⟨.hbm, 265, rfl⟩
abbrev main_call4_v1 : Ref sig .tc := ⟨.hbm, 266, rfl⟩
abbrev main_call4_c_0 : Ref sig .tc := ⟨.hbm, 267, rfl⟩
abbrev main_call4_v2 : Ref sig .tc := ⟨.hbm, 268, rfl⟩
abbrev main_call4_v3 : Ref sig .tc := ⟨.hbm, 269, rfl⟩
abbrev main_call4_v4 : Ref sig .tc := ⟨.hbm, 270, rfl⟩
abbrev main_call4_v5 : Ref sig .tc := ⟨.hbm, 271, rfl⟩
abbrev main_call4_c_1 : Ref sig .tc := ⟨.hbm, 272, rfl⟩
abbrev main_call4_c_2 : Ref sig .tc := ⟨.hbm, 273, rfl⟩
abbrev main_call4_v6 : Ref sig .tc := ⟨.hbm, 274, rfl⟩
abbrev main_call4_v7 : Ref sig .tc := ⟨.hbm, 275, rfl⟩
abbrev main_call4_v8 : Ref sig .tc := ⟨.hbm, 276, rfl⟩
abbrev main_call4_v9 : Ref sig .tc := ⟨.hbm, 277, rfl⟩
abbrev main_call4_v10 : Ref sig .tc := ⟨.hbm, 278, rfl⟩
abbrev main_call4_v11 : Ref sig .tc := ⟨.hbm, 279, rfl⟩
abbrev main_call4_c_3 : Ref sig .tc := ⟨.hbm, 280, rfl⟩
abbrev main_call4_v12 : Ref sig .tc := ⟨.hbm, 281, rfl⟩
abbrev main_call4_v13 : Ref sig .tc := ⟨.hbm, 282, rfl⟩
abbrev main_call4_cst : Ref sig .tc := ⟨.hbm, 283, rfl⟩
abbrev main_call4_v14 : Ref sig .tc := ⟨.hbm, 284, rfl⟩
abbrev main_v215 : Ref sig .tc := ⟨.hbm, 285, rfl⟩
abbrev main_v216 : Ref sig .tc := ⟨.hbm, 286, rfl⟩
abbrev main_v217 : Ref sig .tc := ⟨.hbm, 287, rfl⟩
abbrev main_call5_c : Ref sig .tc := ⟨.hbm, 288, rfl⟩
abbrev main_call5_v0 : Ref sig .tc := ⟨.hbm, 289, rfl⟩
abbrev main_call5_v1 : Ref sig .tc := ⟨.hbm, 290, rfl⟩
abbrev main_call5_c_0 : Ref sig .tc := ⟨.hbm, 291, rfl⟩
abbrev main_call5_v2 : Ref sig .tc := ⟨.hbm, 292, rfl⟩
abbrev main_call5_v3 : Ref sig .tc := ⟨.hbm, 293, rfl⟩
abbrev main_call5_v4 : Ref sig .tc := ⟨.hbm, 294, rfl⟩
abbrev main_call5_v5 : Ref sig .tc := ⟨.hbm, 295, rfl⟩
abbrev main_call5_c_1 : Ref sig .tc := ⟨.hbm, 296, rfl⟩
abbrev main_call5_c_2 : Ref sig .tc := ⟨.hbm, 297, rfl⟩
abbrev main_call5_v6 : Ref sig .tc := ⟨.hbm, 298, rfl⟩
abbrev main_call5_v7 : Ref sig .tc := ⟨.hbm, 299, rfl⟩
abbrev main_call5_v8 : Ref sig .tc := ⟨.hbm, 300, rfl⟩
abbrev main_call5_v9 : Ref sig .tc := ⟨.hbm, 301, rfl⟩
abbrev main_call5_v10 : Ref sig .tc := ⟨.hbm, 302, rfl⟩
abbrev main_call5_v11 : Ref sig .tc := ⟨.hbm, 303, rfl⟩
abbrev main_call5_c_3 : Ref sig .tc := ⟨.hbm, 304, rfl⟩
abbrev main_call5_v12 : Ref sig .tc := ⟨.hbm, 305, rfl⟩
abbrev main_call5_v13 : Ref sig .tc := ⟨.hbm, 306, rfl⟩
abbrev main_call5_cst : Ref sig .tc := ⟨.hbm, 307, rfl⟩
abbrev main_call5_v14 : Ref sig .tc := ⟨.hbm, 308, rfl⟩
abbrev main_v218 : Ref sig .tc := ⟨.hbm, 309, rfl⟩
abbrev main_v219 : Ref sig .tc := ⟨.hbm, 310, rfl⟩
abbrev main_v220 : Ref sig .tc := ⟨.hbm, 311, rfl⟩
abbrev main_v221 : Ref sig .tc := ⟨.hbm, 312, rfl⟩
abbrev main_v222 : Ref sig .tc := ⟨.hbm, 313, rfl⟩
abbrev main_v223 : Ref sig .tc := ⟨.hbm, 314, rfl⟩
abbrev main_v224 : Ref sig .tc := ⟨.hbm, 315, rfl⟩
abbrev main_v225 : Ref sig .tc := ⟨.hbm, 316, rfl⟩
abbrev main_v226 : Ref sig .tc := ⟨.hbm, 317, rfl⟩
abbrev main_cst_18 : Ref sig .tc := ⟨.hbm, 318, rfl⟩
abbrev main_v227 : Ref sig .tc := ⟨.hbm, 319, rfl⟩
abbrev main_cst_19 : Ref sig .tc := ⟨.hbm, 320, rfl⟩
abbrev main_v228 : Ref sig .tc := ⟨.hbm, 321, rfl⟩
abbrev main_v229 : Ref sig .tc := ⟨.hbm, 322, rfl⟩
abbrev main_v230 : Ref sig .tc := ⟨.hbm, 323, rfl⟩
abbrev main_cst_20 : Ref sig .tc := ⟨.hbm, 324, rfl⟩
abbrev main_v231 : Ref sig .tc := ⟨.hbm, 325, rfl⟩
abbrev main_cst_21 : Ref sig .tc := ⟨.hbm, 326, rfl⟩
abbrev main_v232 : Ref sig .tc := ⟨.hbm, 327, rfl⟩
abbrev main_v233 : Ref sig .tc := ⟨.hbm, 328, rfl⟩
abbrev main_v234 : Ref sig .tc := ⟨.hbm, 329, rfl⟩
abbrev main_v235 : Ref sig .tc := ⟨.hbm, 330, rfl⟩
abbrev main_v236 : Ref sig .tc := ⟨.hbm, 331, rfl⟩
abbrev main_v237 : Ref sig .tc := ⟨.hbm, 332, rfl⟩
abbrev main_cst_22 : Ref sig .tc := ⟨.hbm, 333, rfl⟩
abbrev main_v238 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_v242 : Ref sig .tc := ⟨.hbm, 338, rfl⟩
abbrev main_v243 : Ref sig .tc := ⟨.hbm, 339, rfl⟩
abbrev main_v244 : Ref sig .tc := ⟨.hbm, 340, rfl⟩
abbrev main_v245 : Ref sig .tc := ⟨.hbm, 341, rfl⟩
abbrev main_cst_23 : Ref sig .tc := ⟨.hbm, 342, rfl⟩
abbrev main_v246 : Ref sig .tc := ⟨.hbm, 343, rfl⟩
abbrev main_v247 : Ref sig .tc := ⟨.hbm, 344, rfl⟩
abbrev main_v248 : Ref sig .tc := ⟨.hbm, 345, rfl⟩
abbrev main_v249 : Ref sig .tc := ⟨.hbm, 346, rfl⟩
abbrev main_v250 : Ref sig .tc := ⟨.hbm, 347, rfl⟩
abbrev main_v251 : Ref sig .tc := ⟨.hbm, 348, rfl⟩
abbrev main_v252 : Ref sig .tc := ⟨.hbm, 349, rfl⟩
abbrev main_v253 : Ref sig .tc := ⟨.hbm, 350, rfl⟩
abbrev main_v254 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_v261 : Ref sig .tc := ⟨.hbm, 358, rfl⟩
abbrev main_v262 : Ref sig .tc := ⟨.hbm, 359, rfl⟩
abbrev main_v263 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_v274 : Ref sig .tc := ⟨.hbm, 371, rfl⟩
abbrev main_v275 : Ref sig .tc := ⟨.hbm, 372, rfl⟩
abbrev main_v276 : Ref sig .tc := ⟨.hbm, 373, rfl⟩
abbrev main_v277 : Ref sig .tc := ⟨.hbm, 374, rfl⟩
abbrev main_v278 : Ref sig .tc := ⟨.hbm, 375, rfl⟩
abbrev main_v279 : Ref sig .tc := ⟨.hbm, 376, rfl⟩
abbrev main_v280 : Ref sig .tc := ⟨.hbm, 377, rfl⟩
abbrev main_v281 : Ref sig .tc := ⟨.hbm, 378, rfl⟩
abbrev main_v282 : Ref sig .tc := ⟨.hbm, 379, rfl⟩
abbrev main_v283 : Ref sig .tc := ⟨.hbm, 380, rfl⟩
abbrev main_v284 : Ref sig .tc := ⟨.hbm, 381, rfl⟩
abbrev main_v285 : Ref sig .tc := ⟨.hbm, 382, rfl⟩
abbrev main_v286 : Ref sig .tc := ⟨.hbm, 383, rfl⟩
abbrev main_v287 : Ref sig .tc := ⟨.hbm, 384, rfl⟩
abbrev main_v288 : Ref sig .tc := ⟨.hbm, 385, rfl⟩
abbrev main_v289 : Ref sig .tc := ⟨.hbm, 386, rfl⟩
abbrev main_v290 : Ref sig .tc := ⟨.hbm, 387, rfl⟩
abbrev main_v291 : Ref sig .tc := ⟨.hbm, 388, rfl⟩
abbrev main_v292 : Ref sig .tc := ⟨.hbm, 389, rfl⟩
abbrev main_c_24 : Ref sig .tc := ⟨.hbm, 390, rfl⟩
abbrev main_call6_v0 : Ref sig .tc := ⟨.hbm, 391, rfl⟩
abbrev main_call6_v1 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_v296 : Ref sig .tc := ⟨.hbm, 396, rfl⟩
abbrev main_v297 : Ref sig .tc := ⟨.hbm, 397, rfl⟩
abbrev main_v298 : Ref sig .tc := ⟨.hbm, 398, rfl⟩
abbrev main_v299 : Ref sig .tc := ⟨.hbm, 399, rfl⟩
abbrev main_v300 : Ref sig .tc := ⟨.hbm, 400, rfl⟩
abbrev main_v301 : Ref sig .tc := ⟨.hbm, 401, rfl⟩
abbrev main_v302 : Ref sig .tc := ⟨.hbm, 402, rfl⟩
abbrev main_v303 : Ref sig .tc := ⟨.hbm, 403, rfl⟩
abbrev main_v304 : Ref sig .tc := ⟨.hbm, 404, rfl⟩
abbrev main_v305 : Ref sig .tc := ⟨.hbm, 405, rfl⟩
abbrev main_v306 : Ref sig .tc := ⟨.hbm, 406, rfl⟩
abbrev main_v307 : Ref sig .tc := ⟨.hbm, 407, rfl⟩
abbrev main_v308 : Ref sig .tc := ⟨.hbm, 408, rfl⟩
abbrev main_v309 : Ref sig .tc := ⟨.hbm, 409, rfl⟩
abbrev main_v310 : Ref sig .tc := ⟨.hbm, 410, rfl⟩
abbrev main_v311 : Ref sig .tc := ⟨.hbm, 411, rfl⟩
abbrev main_v312 : Ref sig .tc := ⟨.hbm, 412, rfl⟩
abbrev main_v313 : Ref sig .tc := ⟨.hbm, 413, rfl⟩
abbrev main_v314 : Ref sig .tc := ⟨.hbm, 414, rfl⟩
abbrev main_v315 : Ref sig .tc := ⟨.hbm, 415, rfl⟩
abbrev main_v316 : Ref sig .tc := ⟨.hbm, 416, rfl⟩
abbrev main_v317 : Ref sig .tc := ⟨.hbm, 417, rfl⟩
abbrev main_v318 : Ref sig .tc := ⟨.hbm, 418, rfl⟩
abbrev main_v319 : Ref sig .tc := ⟨.hbm, 419, rfl⟩
abbrev main_v320 : Ref sig .tc := ⟨.hbm, 420, rfl⟩
abbrev main_v321 : Ref sig .tc := ⟨.hbm, 421, rfl⟩
abbrev main_v322 : Ref sig .tc := ⟨.hbm, 422, rfl⟩
abbrev main_v323 : Ref sig .tc := ⟨.hbm, 423, rfl⟩
abbrev main_v324 : Ref sig .tc := ⟨.hbm, 424, rfl⟩
abbrev main_cst_25 : Ref sig .tc := ⟨.hbm, 425, rfl⟩
abbrev main_v325 : Ref sig .tc := ⟨.hbm, 426, rfl⟩
abbrev main_v326 : Ref sig .tc := ⟨.hbm, 427, rfl⟩
abbrev main_v327 : Ref sig .tc := ⟨.hbm, 428, rfl⟩
abbrev main_cst_26 : Ref sig .tc := ⟨.hbm, 429, rfl⟩
abbrev main_v328 : Ref sig .tc := ⟨.hbm, 430, rfl⟩
abbrev main_v329 : Ref sig .tc := ⟨.hbm, 431, rfl⟩
abbrev main_v330 : Ref sig .tc := ⟨.hbm, 432, rfl⟩
abbrev main_cst_27 : Ref sig .tc := ⟨.hbm, 433, rfl⟩
abbrev main_v331 : Ref sig .tc := ⟨.hbm, 434, rfl⟩
abbrev main_call7_v0 : Ref sig .tc := ⟨.hbm, 435, rfl⟩
abbrev main_call7_v1 : Ref sig .tc := ⟨.hbm, 436, rfl⟩
abbrev main_call7_v2 : Ref sig .tc := ⟨.hbm, 437, rfl⟩
abbrev main_call7_v3 : Ref sig .tc := ⟨.hbm, 438, rfl⟩
abbrev main_call7_v4 : Ref sig .tc := ⟨.hbm, 439, rfl⟩
abbrev main_call7_v5 : Ref sig .tc := ⟨.hbm, 440, rfl⟩
abbrev main_v332 : Ref sig .tc := ⟨.hbm, 441, rfl⟩
abbrev main_v333 : Ref sig .tc := ⟨.hbm, 442, rfl⟩
abbrev main_v334 : Ref sig .tc := ⟨.hbm, 443, rfl⟩
abbrev main_v335 : Ref sig .tc := ⟨.hbm, 444, rfl⟩
abbrev main_v336 : Ref sig .tc := ⟨.hbm, 445, rfl⟩
abbrev main_v337 : Ref sig .tc := ⟨.hbm, 446, rfl⟩
abbrev main_v338 : Ref sig .tc := ⟨.hbm, 447, rfl⟩
abbrev main_v339 : Ref sig .tc := ⟨.hbm, 448, rfl⟩
abbrev main_v340 : Ref sig .tc := ⟨.hbm, 449, rfl⟩
abbrev main_cst_28 : Ref sig .tc := ⟨.hbm, 450, rfl⟩
abbrev main_v341 : Ref sig .tc := ⟨.hbm, 451, rfl⟩
abbrev main_v342 : Ref sig .tc := ⟨.hbm, 452, rfl⟩
abbrev main_cst_29 : Ref sig .tc := ⟨.hbm, 453, rfl⟩
abbrev main_v343 : Ref sig .tc := ⟨.hbm, 454, rfl⟩
abbrev main_v344 : Ref sig .tc := ⟨.hbm, 455, rfl⟩
abbrev main_c_30 : Ref sig .tc := ⟨.hbm, 456, rfl⟩
abbrev main_call8_v0 : Ref sig .tc := ⟨.hbm, 457, rfl⟩
abbrev main_call8_v1 : Ref sig .tc := ⟨.hbm, 458, rfl⟩
abbrev main_v345 : Ref sig .tc := ⟨.hbm, 459, rfl⟩
abbrev main_v346 : Ref sig .tc := ⟨.hbm, 460, rfl⟩
abbrev main_v347 : Ref sig .tc := ⟨.hbm, 461, rfl⟩
abbrev main_v348 : Ref sig .tc := ⟨.hbm, 462, rfl⟩
abbrev main_v349 : Ref sig .tc := ⟨.hbm, 463, rfl⟩
abbrev main_v350 : Ref sig .tc := ⟨.hbm, 464, rfl⟩
abbrev main_v351 : Ref sig .tc := ⟨.hbm, 465, rfl⟩
abbrev main_v352 : Ref sig .tc := ⟨.hbm, 466, rfl⟩
abbrev main_v353 : Ref sig .tc := ⟨.hbm, 467, rfl⟩
abbrev main_v354 : Ref sig .tc := ⟨.hbm, 468, rfl⟩
abbrev main_v355 : Ref sig .tc := ⟨.hbm, 469, rfl⟩
abbrev main_v356 : Ref sig .tc := ⟨.hbm, 470, rfl⟩
abbrev main_v357 : Ref sig .tc := ⟨.hbm, 471, rfl⟩
abbrev main_cst_31 : Ref sig .tc := ⟨.hbm, 472, rfl⟩
abbrev main_v358 : Ref sig .tc := ⟨.hbm, 473, rfl⟩
abbrev main_v359 : Ref sig .tc := ⟨.hbm, 474, rfl⟩
abbrev main_cst_32 : Ref sig .tc := ⟨.hbm, 475, rfl⟩
abbrev main_v360 : Ref sig .tc := ⟨.hbm, 476, rfl⟩
abbrev main_v361 : Ref sig .tc := ⟨.hbm, 477, rfl⟩
abbrev main_v362 : Ref sig .tc := ⟨.hbm, 478, rfl⟩
abbrev main_v363 : Ref sig .tc := ⟨.hbm, 479, rfl⟩
abbrev main_v364 : Ref sig .tc := ⟨.hbm, 480, rfl⟩
abbrev main_cst_33 : Ref sig .tc := ⟨.hbm, 481, rfl⟩
abbrev main_v365 : Ref sig .tc := ⟨.hbm, 482, rfl⟩
abbrev main_v366 : Ref sig .tc := ⟨.hbm, 483, rfl⟩
abbrev main_cst_34 : Ref sig .tc := ⟨.hbm, 484, rfl⟩
abbrev main_v367 : Ref sig .tc := ⟨.hbm, 485, rfl⟩
abbrev main_v368 : Ref sig .tc := ⟨.hbm, 486, rfl⟩
abbrev main_cst_35 : Ref sig .tc := ⟨.hbm, 487, rfl⟩
abbrev main_v369 : Ref sig .tc := ⟨.hbm, 488, rfl⟩
abbrev main_v370 : Ref sig .tc := ⟨.hbm, 489, rfl⟩
abbrev main_v371 : Ref sig .tc := ⟨.hbm, 490, rfl⟩
abbrev main_v372 : Ref sig .tc := ⟨.hbm, 491, rfl⟩
abbrev main_cst_36 : Ref sig .tc := ⟨.hbm, 492, rfl⟩
abbrev main_v373 : Ref sig .tc := ⟨.hbm, 493, rfl⟩
abbrev main_v374 : Ref sig .tc := ⟨.hbm, 494, rfl⟩
abbrev main_cst_37 : Ref sig .tc := ⟨.hbm, 495, rfl⟩
abbrev main_v375 : Ref sig .tc := ⟨.hbm, 496, rfl⟩
abbrev main_v376 : Ref sig .tc := ⟨.hbm, 497, rfl⟩
abbrev main_v377 : Ref sig .tc := ⟨.hbm, 498, rfl⟩
abbrev main_c_38 : Ref sig .tc := ⟨.hbm, 499, rfl⟩
abbrev main_v378 : Ref sig .tc := ⟨.hbm, 500, rfl⟩
abbrev main_cst_39 : Ref sig .tc := ⟨.hbm, 501, rfl⟩
abbrev main_v379 : Ref sig .tc := ⟨.hbm, 502, rfl⟩
abbrev main_v380 : Ref sig .tc := ⟨.hbm, 503, rfl⟩
abbrev main_v381 : Ref sig .tc := ⟨.hbm, 504, rfl⟩
abbrev main_cst_40 : Ref sig .tc := ⟨.hbm, 505, rfl⟩
abbrev main_v382 : Ref sig .tc := ⟨.hbm, 506, rfl⟩
abbrev main_v383 : Ref sig .tc := ⟨.hbm, 507, rfl⟩
abbrev main_cst_41 : Ref sig .tc := ⟨.hbm, 508, rfl⟩
abbrev main_v384 : Ref sig .tc := ⟨.hbm, 509, rfl⟩
abbrev main_v385 : Ref sig .tc := ⟨.hbm, 510, rfl⟩
abbrev main_c_42 : Ref sig .tc := ⟨.hbm, 511, rfl⟩
abbrev main_call9_v0 : Ref sig .tc := ⟨.hbm, 512, rfl⟩
abbrev main_call9_v1 : Ref sig .tc := ⟨.hbm, 513, rfl⟩
abbrev main_v386 : Ref sig .tc := ⟨.hbm, 514, rfl⟩
abbrev main_v387 : Ref sig .tc := ⟨.hbm, 515, rfl⟩
abbrev main_v388 : Ref sig .tc := ⟨.hbm, 516, rfl⟩
abbrev main_v389 : Ref sig .tc := ⟨.hbm, 517, rfl⟩
abbrev main_v390 : Ref sig .tc := ⟨.hbm, 518, rfl⟩
abbrev main_v391 : Ref sig .tc := ⟨.hbm, 519, rfl⟩
abbrev main_v392 : Ref sig .tc := ⟨.hbm, 520, rfl⟩
abbrev main_v393 : Ref sig .tc := ⟨.hbm, 521, rfl⟩
abbrev main_v394 : Ref sig .tc := ⟨.hbm, 522, rfl⟩
abbrev main_v395 : Ref sig .tc := ⟨.hbm, 523, rfl⟩
abbrev main_v396 : Ref sig .tc := ⟨.hbm, 524, rfl⟩
abbrev main_v397 : Ref sig .tc := ⟨.hbm, 525, rfl⟩
abbrev main_v398 : Ref sig .tc := ⟨.hbm, 526, rfl⟩
abbrev main_cst_43 : Ref sig .tc := ⟨.hbm, 527, rfl⟩
abbrev main_v399 : Ref sig .tc := ⟨.hbm, 528, rfl⟩
abbrev main_v400 : Ref sig .tc := ⟨.hbm, 529, rfl⟩
abbrev main_cst_44 : Ref sig .tc := ⟨.hbm, 530, rfl⟩
abbrev main_v401 : Ref sig .tc := ⟨.hbm, 531, rfl⟩
abbrev main_v402 : Ref sig .tc := ⟨.hbm, 532, rfl⟩
abbrev main_v403 : Ref sig .tc := ⟨.hbm, 533, rfl⟩
abbrev main_v404 : Ref sig .tc := ⟨.hbm, 534, rfl⟩
abbrev main_v405 : Ref sig .tc := ⟨.hbm, 535, rfl⟩
abbrev main_v406 : Ref sig .tc := ⟨.hbm, 536, rfl⟩
abbrev main_cst_45 : Ref sig .tc := ⟨.hbm, 537, rfl⟩
abbrev main_v407 : Ref sig .tc := ⟨.hbm, 538, rfl⟩
abbrev main_v408 : Ref sig .tc := ⟨.hbm, 539, rfl⟩
abbrev main_cst_46 : Ref sig .tc := ⟨.hbm, 540, rfl⟩
abbrev main_v409 : Ref sig .tc := ⟨.hbm, 541, rfl⟩
abbrev main_v410 : Ref sig .tc := ⟨.hbm, 542, rfl⟩
abbrev main_cst_47 : Ref sig .tc := ⟨.hbm, 543, rfl⟩
abbrev main_v411 : Ref sig .tc := ⟨.hbm, 544, rfl⟩
abbrev main_v412 : Ref sig .tc := ⟨.hbm, 545, rfl⟩
abbrev main_v413 : Ref sig .tc := ⟨.hbm, 546, rfl⟩
abbrev main_v414 : Ref sig .tc := ⟨.hbm, 547, rfl⟩
abbrev main_v415 : Ref sig .tc := ⟨.hbm, 548, rfl⟩
abbrev main_v416 : Ref sig .tc := ⟨.hbm, 549, rfl⟩
abbrev main_cst_48 : Ref sig .tc := ⟨.hbm, 550, rfl⟩
abbrev main_v417 : Ref sig .tc := ⟨.hbm, 551, rfl⟩
abbrev main_v418 : Ref sig .tc := ⟨.hbm, 552, rfl⟩
abbrev main_cst_49 : Ref sig .tc := ⟨.hbm, 553, rfl⟩
abbrev main_v419 : Ref sig .tc := ⟨.hbm, 554, rfl⟩
abbrev main_v420 : Ref sig .tc := ⟨.hbm, 555, rfl⟩
abbrev main_v421 : Ref sig .tc := ⟨.hbm, 556, rfl⟩
abbrev main_v422 : Ref sig .tc := ⟨.hbm, 557, rfl⟩
abbrev main_v423 : Ref sig .tc := ⟨.hbm, 558, rfl⟩
abbrev main_v424 : Ref sig .tc := ⟨.hbm, 559, rfl⟩
abbrev main_cst_50 : Ref sig .tc := ⟨.hbm, 560, rfl⟩
abbrev main_v425 : Ref sig .tc := ⟨.hbm, 561, rfl⟩
abbrev main_v426 : Ref sig .tc := ⟨.hbm, 562, rfl⟩
abbrev main_v427 : Ref sig .tc := ⟨.hbm, 563, rfl⟩
abbrev main_v428 : Ref sig .tc := ⟨.hbm, 564, rfl⟩
abbrev main_v429 : Ref sig .tc := ⟨.hbm, 565, rfl⟩
abbrev main_v430 : Ref sig .tc := ⟨.hbm, 566, rfl⟩
abbrev main_cst_51 : Ref sig .tc := ⟨.hbm, 567, rfl⟩
abbrev main_v431 : Ref sig .tc := ⟨.hbm, 568, rfl⟩
abbrev main_v432 : Ref sig .tc := ⟨.hbm, 569, rfl⟩
abbrev main_cst_52 : Ref sig .tc := ⟨.hbm, 570, rfl⟩
abbrev main_v433 : Ref sig .tc := ⟨.hbm, 571, rfl⟩
abbrev main_cst_53 : Ref sig .tc := ⟨.hbm, 572, rfl⟩
abbrev main_v434 : Ref sig .tc := ⟨.hbm, 573, rfl⟩
abbrev main_cst_54 : Ref sig .tc := ⟨.hbm, 574, rfl⟩
abbrev main_v435 : Ref sig .tc := ⟨.hbm, 575, rfl⟩
abbrev main_cst_55 : Ref sig .tc := ⟨.hbm, 576, rfl⟩
abbrev main_v436 : Ref sig .tc := ⟨.hbm, 577, rfl⟩
abbrev main_v437 : Ref sig .tc := ⟨.hbm, 578, rfl⟩
abbrev main_cst_56 : Ref sig .tc := ⟨.hbm, 579, rfl⟩
abbrev main_v438 : Ref sig .tc := ⟨.hbm, 580, rfl⟩
abbrev main_cst_57 : Ref sig .tc := ⟨.hbm, 581, rfl⟩
abbrev main_v439 : Ref sig .tc := ⟨.hbm, 582, rfl⟩
abbrev main_v440 : Ref sig .tc := ⟨.hbm, 583, rfl⟩

abbrev nD : Nat := 1
abbrev τ : Topo := Topo.v7x

variable {F : FTy → Type} [FloatOps F]
-- ==== Proof.LabelsIdeal.lean ====
module

public import proofs.«01_k».proof.Defs
public import proofs.«01_k».proof.Proof.Gen.KernelIdeal.Frame
public import proofs.«01_k».proof.Proof.Gen.Pre_labels_in_range

@[expose] public section

namespace Cert.KernelIdealLabels

open Cert.KernelIdeal Cert.KernelIdeal.Gen
open Idealize.ShloMosaic Idealize.ShloMosaic.TcCoe

/-- Every label word of a memory lies among the 80 classes. -/
def Named {F : FTy → Type} (m : (ℓ : Loc nD τ sig) → Buf (Elt F) ℓ) : Prop :=
  ∀ (c : Dev nD) (y : S8x16.Idx), (m ((c : Thread nD τ).loc main_arg3) y : BitVec 32).toNat < 80

/-- The label array that the region finds is the label argument with a middle axis of length one. -/
theorem region_labels {F : FTy → Type} [FloatOps F] (m : (ℓ : Loc nD τ sig) → Buf (Elt F) ℓ) (c : Dev nD) :
    V m c main_v3 = shapeCast S8x1x16 (m ((c : Thread nD τ).loc main_arg3) : Vec F S8x16 .i32) shapeCasts_S8x16_S8x1x16 := by
  show StableHlo.after (List.flatten [hostOps0]) (fun b => m (c, b)) (Proc.devRef .tc main_v3) = _
  simp only [List.flatten_cons, List.flatten_nil, List.append_nil, hostOps0]
  after_results
  rfl

/-- Each word of a label block is a word of the label argument, so it is below 80. -/
theorem below {F : FTy → Type} [FloatOps F] {m : (ℓ : Loc nD τ sig) → Buf (Elt F) ℓ} (h : Named m) (c : Dev nD)
    (t : Fin cfg0.N) (i : S1x1x16.Idx) : (iblk m c 3 t i : BitVec 32).toNat < 80 := by
  unfold iblk
  rw [View.read_apply, cast_eq]
  have e := region_labels m c
  show (V m c main_v3 _ : BitVec 32).toNat < 80
  rw [e]
  exact h c _

/-- A tile of one class lies inside the block of 80 classes. -/
theorem fits (w : BitVec 32) (h : w.toNat < 80) (a : Fin 4) :
    (![0, (Scalar.indexCast w : Index).toNat, 0, 0] : Fin 4 → ℕ) a + S1x1x64x64.size a ≤ S1x80x64x64.size a := by
  have e : (Scalar.indexCast w : Index).toNat = w.toNat := rfl
  fin_cases a <;> simp [S1x1x64x64, S1x80x64x64, Matrix.cons_val] <;> omega

/-- If every label names a class, the sixteen tiles that the labels select lie inside the class block at every point. -/
theorem hyps {F : FTy → Type} [FloatOps F] {m : (ℓ : Loc nD τ sig) → Buf (Elt F) ℓ} (h : Named m) : Hyps m := by
  intro c t
  refine ⟨?_, ?_, ?_, ?_, ?_, ?_, ?_, ?_, ?_, ?_, ?_, ?_, ?_, ?_, ?_, ?_⟩ <;> intro _
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)
  · simp only [View.readAt_apply, Memref.IsWhole.read_unread]
    exact fun _ => fits _ (below h c t _)

/-- The printed range test, read at one label word. -/
theorem named_of_pre (m : (ℓ : Loc nD τ sig) → Buf (Elt Ideal) ℓ) (h : Cert.Pre_KernelIdeal m) : Named m := by
  have both (p q : Bool) : IntOp.andi (BitVec.ofBool p) (BitVec.ofBool q) = BitVec.ofBool (p && q) := by
    cases p <;> cases q <;> decide
  have isOne (p : Bool) : (BitVec.ofBool p = 1#1) ↔ p = true := by cases p <;> decide
  intro c y
  have e := congrFun (h c) y
  simp only [Pre_labels_in_range.fn, andi, cmpi, broadcastInDim, constantI, IntOp.cmpi, both, isOne, Bool.and_eq_true] at e
  obtain ⟨hge, hlt⟩ := e
  simp only [BitVec.sle, BitVec.slt, decide_eq_true_eq, BitVec.toInt, BitVec.toNat_ofNat] at hge hlt
  omega

end Cert.KernelIdealLabels
-- ==== Proof.Form.lean ====
module

public import proofs.«01_k».proof.Proof.Gen.KernelIdeal.Frame

@[expose] public section

noncomputable section

/-! The kernel body written with loops: one definition for each quantity of the body, over a tile of 32 × 128 cells. -/

namespace Cert.Form

open Cert.KernelIdeal Cert.KernelIdeal.Gen
open Idealize.ShloMosaic Idealize.ShloMosaic.TcCoe Idealize.ShloMosaic.Tactic

variable {F : FTy → Type} [FloatOps F]

/-- `n` steps of `f` from `z`. -/
def steps {α : Type} (f : ℕ → α → α) (z : α) : ℕ → α
  | 0 => z
  | n + 1 => f n (steps f z n)

/-- The word of the bin number `b` as a 32-bit float. -/
def binWord : ℕ → BitVec 32
  | 0 => 0x00000000#32
  | 1 => 0x3F800000#32
  | 2 => 0x40000000#32
  | 3 => 0x40400000#32
  | 4 => 0x40800000#32
  | 5 => 0x40A00000#32
  | 6 => 0x40C00000#32
  | 7 => 0x40E00000#32
  | 8 => 0x41000000#32
  | 9 => 0x41100000#32
  | 10 => 0x41200000#32
  | 11 => 0x41300000#32
  | 12 => 0x41400000#32
  | 13 => 0x41500000#32
  | 14 => 0x41600000#32
  | 15 => 0x41700000#32
  | _ => 0x41800000#32

/-- A tile holding one number everywhere. -/
def fill (x : F .f32) : FVec F S32x128 .f32 := broadcast S32x128 x

/-- A tile holding one constant everywhere. -/
def cst (w : BitVec 32) : FVec F S32x128 .f32 := fill (Scalar.ofBits .f32 w)

/-- The tile of a 64 × 64 plane: its lower half of rows beside its upper half. -/
def packed (x : Vec F S1x1x64x64 .f32) : FVec F S32x128 .f32 :=
  concatenate S32x128 1
    [⟨S32x64, extractStridedSlice S32x64 ![0, 0] (shapeCast S64x64 x shapeCasts_S1x1x64x64_S64x64) slices_S64x64_o0_0_S32x64⟩,
     ⟨S32x64, extractStridedSlice S32x64 ![32, 0] (shapeCast S64x64 x shapeCasts_S1x1x64x64_S64x64) slices_S64x64_o32_0_S32x64⟩]
    concatenates_S32x64_S32x64_S32x128_d1

/-- The sum of a tile. -/
def total (x : FVec F S32x128 .f32) : F .f32 :=
  extractAt ![0, 0, 0]
    (shapeCast S1x1x1
      (multiReduction .add [1, 2] S1 (shapeCast S1x32x128 x shapeCasts_S32x128_S1x32x128) 0x00000000#32
        reduces_S1x32x128_S1 (.inl rfl) rfl)
      shapeCasts_S1_S1x1x1)
    inpos_S1x1x1_p0_0_0

/-- The column coordinate of the cell centres. -/
def cx : FVec F S32x128 .f32 := k0_pay1864

/-- The row coordinate of the cell centres. -/
def cy : FVec F S32x128 .f32 := k0_pay1865

/-- The focal term of a logit whose target is zero. -/
def focalZero (x : FVec F S32x128 .f32) : FVec F S32x128 .f32 :=
  mulf (mulf (mulf (addf (maximumf x (cst 0x00000000#32)) (log1p (exp (subf (cst 0x00000000#32) (absf x)))))
    (cst 0x3F400000#32)) (logistic x)) (logistic x)

/-- The focal term of a logit `x` at the target `t`. -/
def focal (x t : FVec F S32x128 .f32) : FVec F S32x128 .f32 :=
  mulf
    (mulf
      (addf (subf (maximumf x (cst 0x00000000#32)) (mulf x t)) (log1p (exp (subf (cst 0x00000000#32) (absf x)))))
      (addf (mulf (cst 0x3E800000#32) t) (mulf (cst 0x3F400000#32) (subf (cst 0x3F800000#32) t))))
    (powf
      (subf (cst 0x3F800000#32)
        (addf (mulf (logistic x) t) (mulf (subf (cst 0x3F800000#32) (logistic x)) (subf (cst 0x3F800000#32) t))))
      (cst 0x40000000#32))

/-- The four signed distances from a cell centre to the sides of box `g`. -/
def side (q : ℕ → ℕ → F .f32) (g : ℕ) : ℕ → FVec F S32x128 .f32
  | 0 => subf cx (fill (q g 0))
  | 1 => subf cy (fill (q g 1))
  | 2 => subf (fill (q g 2)) cx
  | _ => subf (fill (q g 3)) cy

/-- One where box `g` is matched to the cell, zero elsewhere. -/
def matched (q : ℕ → ℕ → F .f32) (g : ℕ) : FVec F S32x128 .f32 :=
  sitofp .f32 (extui 32 (andi
    (cmpf .ogt (minimumf (minimumf (side q g 0) (side q g 1)) (minimumf (side q g 2) (side q g 3))) (cst 0x00000000#32))
    (cmpf .ole
      (maximumf
        (absf (subf cx (fill (Scalar.mulf (Scalar.addf (q g 0) (q g 2)) (Scalar.ofBits .f32 0x3F000000#32)))))
        (absf (subf cy (fill (Scalar.mulf (Scalar.addf (q g 1) (q g 3)) (Scalar.ofBits .f32 0x3F000000#32))))))
      (cst 0x40200000#32))) natLt_1_32)

/-- The number of boxes matched to a cell. -/
def matches' (q : ℕ → ℕ → F .f32) : FVec F S32x128 .f32 :=
  steps (fun g a => addf a (matched q g)) (cst 0x00000000#32) 16

/-- The sum over the classes of the focal terms at target zero. -/
def zeroSum (y : ℕ → FVec F S32x128 .f32) : FVec F S32x128 .f32 :=
  steps (fun k a => addf a (focalZero (y k))) (cst 0x00000000#32) 80

/-- What an even point stores in the result's block. -/
def evenOut (q : ℕ → ℕ → F .f32) (y : ℕ → FVec F S32x128 .f32) : FVec F S1x1x128 .f32 :=
  broadcast S1x1x128 (Scalar.mulf (Scalar.ofBits .f32 0x3F800000#32)
    (total (mulf (zeroSum y) (addf (matches' q)
      (select (cmpf .oeq (matches' q) (cst 0x00000000#32)) (cst 0x3F800000#32) (cst 0x00000000#32))))))

section odd

variable (q : ℕ → ℕ → F .f32) (x mk xl : ℕ → FVec F S32x128 .f32)

/-- The largest of the 17 bins of side `s`. -/
def top (s : ℕ) : FVec F S32x128 .f32 := steps (fun b a => maximumf a (x (17 * s + (b + 1)))) (x (17 * s)) 16

/-- The exponential of bin `b` of side `s`. -/
def expo (s b : ℕ) : FVec F S32x128 .f32 := exp (subf (x (17 * s + b)) (top x s))

/-- The sum of the exponentials of side `s`. -/
def mass (s : ℕ) : FVec F S32x128 .f32 := steps (fun b a => addf a (expo x s b)) (cst 0x00000000#32) 17

/-- The sum of the exponentials of side `s`, each by its bin number. -/
def moment (s : ℕ) : FVec F S32x128 .f32 :=
  steps (fun b a => addf a (mulf (expo x s b) (cst (binWord b)))) (cst 0x00000000#32) 17

/-- The predicted distance of side `s`. -/
def dist (s : ℕ) : FVec F S32x128 .f32 := divf (moment x s) (mass x s)

/-- The logarithm of the sum of the exponentials of side `s`. -/
def logMass (s : ℕ) : FVec F S32x128 .f32 := addf (log (mass x s)) (top x s)

/-- The clipped distance to side `s` of box `g`, zero where the box is not matched. -/
def target (s g : ℕ) : FVec F S32x128 .f32 :=
  mulf (mk g) (minimumf (cst 0x417FFF97#32) (maximumf (cst 0x00000000#32) (side q g s)))

/-- The sum of the targets of side `s`. -/
def targetSum (s : ℕ) : FVec F S32x128 .f32 := steps (fun g a => addf a (target q mk s g)) (cst 0x00000000#32) 16

/-- The sum of the excesses of the targets of side `s` over bin `b`. -/
def excess (s b : ℕ) : FVec F S32x128 .f32 :=
  steps (fun g a => addf a (maximumf (subf (target q mk s g) (mulf (mk g) (cst (binWord b)))) (cst 0x00000000#32)))
    (cst 0x00000000#32) 16

/-- The sum over the boxes of the interpolated logits of side `s`. -/
def interp (s : ℕ) : FVec F S32x128 .f32 :=
  steps (fun k a => addf a (mulf
      (addf (subf (x (17 * s + (k + 2))) (mulf (cst 0x40000000#32) (x (17 * s + (k + 1))))) (x (17 * s + k)))
      (excess q mk s (k + 1))))
    (addf (mulf (x (17 * s)) (mk 16)) (mulf (subf (x (17 * s + 1)) (x (17 * s))) (targetSum q mk s))) 15

/-- The distribution loss of a cell. -/
def dfl : FVec F S32x128 .f32 :=
  steps (fun s a => subf (addf a (mulf (mk 16) (logMass x s))) (interp q x mk s)) (cst 0x00000000#32) 4

/-- The area of the predicted box. -/
def area : FVec F S32x128 .f32 :=
  mulf (subf (addf cx (dist x 2)) (subf cx (dist x 0))) (subf (addf cy (dist x 3)) (subf cy (dist x 1)))

/-- The area that the predicted box shares with box `g`. -/
def shared (g : ℕ) : FVec F S32x128 .f32 :=
  mulf
    (maximumf (cst 0x00000000#32)
      (subf (minimumf (addf cx (dist x 2)) (fill (q g 2))) (maximumf (subf cx (dist x 0)) (fill (q g 0)))))
    (maximumf (cst 0x00000000#32)
      (subf (minimumf (addf cy (dist x 3)) (fill (q g 3))) (maximumf (subf cy (dist x 1)) (fill (q g 1)))))

/-- The overlap ratio of the predicted box and box `g`. -/
def iou (g : ℕ) : FVec F S32x128 .f32 :=
  divf (shared q x g)
    (addf (subf
        (addf (area x) (fill (Scalar.mulf (Scalar.subf (q g 2) (q g 0)) (Scalar.subf (q g 3) (q g 1)))))
        (shared q x g))
      (cst 0x358637BD#32))

/-- The box loss of a cell. -/
def box : FVec F S32x128 .f32 :=
  steps (fun g a => addf a (mulf (subf (cst 0x3F800000#32) (iou q x g)) (mk g))) (cst 0x00000000#32) 16

/-- The correction of a cell's class loss at the labels of its boxes. -/
def corr : FVec F S32x128 .f32 :=
  steps (fun g a => addf a (mulf (mk g) (subf (focal (xl g) (iou q x g)) (focalZero (xl g))))) (cst 0x00000000#32) 16

/-- What an odd point adds to the result's block. -/
def oddPart : F .f32 :=
  Scalar.addf
    (Scalar.addf (Scalar.mulf (Scalar.ofBits .f32 0x40F00000#32) (total (box q x mk)))
      (Scalar.mulf (Scalar.ofBits .f32 0x3F800000#32) (total (corr q x mk xl))))
    (Scalar.divf (Scalar.mulf (Scalar.ofBits .f32 0x3FC00000#32) (total (dfl q x mk)))
      (Scalar.mulf (total (mk 16)) (Scalar.ofBits .f32 0x40800000#32)))

end odd

/-- A box coordinate lies in the box block. -/
theorem gt_fits (g d : ℕ) (hg : g < 16) (hd : d < 4) :
    ∀ a, (![0, g, d] : Fin 3 → ℕ) a + S1x1x1.size a ≤ S1x16x4.size a := by
  intro a; fin_cases a <;> simp [S1x1x1, S1x16x4] <;> omega

/-- A bin plane lies in the block of predictions. -/
theorem reg_fits (k : ℕ) (hk : k < 68) :
    ∀ a, (![0, k, 0, 0] : Fin 4 → ℕ) a + S1x1x64x64.size a ≤ S1x68x64x64.size a := by
  intro a; fin_cases a <;> simp [S1x1x64x64, S1x68x64x64] <;> omega

/-- A class plane lies in the block of logits. -/
theorem cls_fits (k : ℕ) (hk : k < 80) :
    ∀ a, (![0, k, 0, 0] : Fin 4 → ℕ) a + S1x1x64x64.size a ≤ S1x80x64x64.size a := by
  intro a; fin_cases a <;> simp [S1x1x64x64, S1x80x64x64] <;> omega

/-- A plane of the first scratch lies in it. -/
theorem mask_fits (g : ℕ) (hg : g < 17) :
    ∀ a, (![g, 0, 0] : Fin 3 → ℕ) a + S1x32x128.size a ≤ S17x32x128.size a := by
  intro a; fin_cases a <;> simp [S1x32x128, S17x32x128] <;> omega

/-- A plane of the second scratch lies in it. -/
theorem logit_fits (g : ℕ) (hg : g < 16) :
    ∀ a, (![g, 0, 0] : Fin 3 → ℕ) a + S1x32x128.size a ≤ S16x32x128.size a := by
  intro a; fin_cases a <;> simp [S1x32x128, S16x32x128] <;> omega

/-- A label lies in the label block. -/
theorem lab_fits (g : ℕ) (hg : g < 16) :
    ∀ a, (![0, 0, g] : Fin 3 → ℕ) a + S1x1x1.size a ≤ S1x1x16.size a := by
  intro a; fin_cases a <;> simp [S1x1x1, S1x1x16] <;> omega

/-- The box coordinates as the body reads them. -/
def gtAt (arg3 : Memref sig .tc .smem S1x16x4 .f32) (h3 : arg3.IsWhole) (x : Vec F S1x16x4 .f32) (g d : ℕ) : F .f32 :=
  if h : g < 16 ∧ d < 4 then
    arg3.view.readAt (Elt F) (Rect.unit (s := S1x16x4) ![0, g, d] S1x1x1.size (gt_fits g d h.1 h.2)).toLoadRect
      (h3.unread x) (Shape.Idx.first (numel1_S1x1x1.symm ▸ Nat.one_pos))
  else Scalar.ofBits .f32 0x00000000#32

/-- The bin planes as the body reads them. -/
def binAt (arg1 : Memref sig .tc .vmem S1x68x64x64 .f32) (h1 : arg1.IsWhole) (x : Vec F S1x68x64x64 .f32) (k : ℕ) :
    FVec F S32x128 .f32 :=
  if h : k < 68 then
    packed (arg1.view.readAt (Elt F)
      (Rect.unit (s := S1x68x64x64) ![0, k, 0, 0] S1x1x64x64.size (reg_fits k h)).toLoadRect (h1.unread x))
  else cst 0x00000000#32

/-- The class planes as the body reads them. -/
def clsAt (arg2 : Memref sig .tc .vmem S1x80x64x64 .f32) (h2 : arg2.IsWhole) (x : Vec F S1x80x64x64 .f32) (k : ℕ) :
    FVec F S32x128 .f32 :=
  if h : k < 80 then
    packed (arg2.view.readAt (Elt F)
      (Rect.unit (s := S1x80x64x64) ![0, k, 0, 0] S1x1x64x64.size (cls_fits k h)).toLoadRect (h2.unread x))
  else cst 0x00000000#32

/-- The planes of the first scratch as the body reads them. -/
def maskAt (arg6 : Memref sig .tc .vmem S17x32x128 .f32) (h6 : arg6.IsWhole) (x : Vec F S17x32x128 .f32) (g : ℕ) :
    FVec F S32x128 .f32 :=
  if h : g < 17 then
    shapeCast S32x128 (arg6.view.readAt (Elt F)
      (Rect.unit (s := S17x32x128) ![g, 0, 0] S1x32x128.size (mask_fits g h)).toLoadRect (h6.unread x))
      shapeCasts_S1x32x128_S32x128
  else cst 0x00000000#32

/-- The planes of the second scratch as the body reads them. -/
def logitAt (arg7 : Memref sig .tc .vmem S16x32x128 .f32) (h7 : arg7.IsWhole) (x : Vec F S16x32x128 .f32) (g : ℕ) :
    FVec F S32x128 .f32 :=
  if h : g < 16 then
    shapeCast S32x128 (arg7.view.readAt (Elt F)
      (Rect.unit (s := S16x32x128) ![g, 0, 0] S1x32x128.size (logit_fits g h)).toLoadRect (h7.unread x))
      shapeCasts_S1x32x128_S32x128
  else cst 0x00000000#32

end Cert.Form

end
-- ==== Proof.Real.lean ====
module

public import Idealize.ShloMosaic.PureOps.Ideal
public import Mathlib.Data.Finset.Fold
public import Mathlib.Data.Finset.Max
public import Mathlib.Tactic.Linarith
public import Mathlib.Tactic.NormNum
public import Mathlib.Tactic.Positivity
public import Mathlib.Tactic.FinCases
public import Mathlib.Tactic.Ring

@[expose] public section

noncomputable section

/-! The loss of one cell as a real number. -/

namespace Cert.Cell

open Idealize.ShloMosaic

/-! ### Constants -/

/-- One half. -/
theorem half : Ideal.ofBits .f32 0x3F000000#32 = ((1 / 2 : ℝ) : EReal) := by
  simp [Ideal.ofBits, Ideal.ieee]; norm_num; rw [← EReal.coe_mul]; norm_num

/-- Three quarters. -/
theorem threeQuarters : Ideal.ofBits .f32 0x3F400000#32 = ((3 / 4 : ℝ) : EReal) := by
  simp [Ideal.ofBits, Ideal.ieee]; norm_num; rw [← EReal.coe_mul]; norm_num

/-- One quarter. -/
theorem quarter : Ideal.ofBits .f32 0x3E800000#32 = ((1 / 4 : ℝ) : EReal) := by
  simp [Ideal.ofBits, Ideal.ieee]; norm_num; rw [← EReal.coe_mul]; norm_num

/-- Two and a half. -/
theorem radius : Ideal.ofBits .f32 0x40200000#32 = ((5 / 2 : ℝ) : EReal) := by
  simp [Ideal.ofBits, Ideal.ieee]; norm_num; rw [← EReal.coe_mul]; norm_num

/-- Seven and a half. -/
theorem boxWeight : Ideal.ofBits .f32 0x40F00000#32 = ((15 / 2 : ℝ) : EReal) := by
  simp [Ideal.ofBits, Ideal.ieee]; norm_num; rw [← EReal.coe_mul]; norm_num

/-- One and a half. -/
theorem dflWeight : Ideal.ofBits .f32 0x3FC00000#32 = ((3 / 2 : ℝ) : EReal) := by
  simp [Ideal.ofBits, Ideal.ieee]; norm_num; rw [← EReal.coe_mul]; norm_num

/-- Zero. -/
theorem zero : Ideal.ofBits .f32 0x00000000#32 = ((0 : ℝ) : EReal) := by
  simp [Ideal.ofBits, Ideal.ieee]

/-- One. -/
theorem one : Ideal.ofBits .f32 0x3F800000#32 = ((1 : ℝ) : EReal) := by
  simp [Ideal.ofBits, Ideal.ieee]; norm_num; rw [← EReal.coe_mul]; norm_num

/-- Two. -/
theorem two : Ideal.ofBits .f32 0x40000000#32 = ((2 : ℝ) : EReal) := by
  simp [Ideal.ofBits, Ideal.ieee]; norm_num; rw [← EReal.coe_mul]; norm_num

/-- Four. -/
theorem four : Ideal.ofBits .f32 0x40800000#32 = ((4 : ℝ) : EReal) := by
  simp [Ideal.ofBits, Ideal.ieee]; norm_num; rw [← EReal.coe_mul]; norm_num

/-- The largest clipped distance. -/
def cap : ℝ := 16777111 / 1048576

/-- The constant near 15.9999. -/
theorem cap_word : Ideal.ofBits .f32 0x417FFF97#32 = ((cap : ℝ) : EReal) := by
  simp [Ideal.ofBits, Ideal.ieee, cap]; norm_num; rw [← EReal.coe_mul]; norm_num

/-- The small number in the denominator of the overlap ratio. -/
def tiny : ℝ := 8796093 / 8796093022208

/-- The constant near one millionth. -/
theorem tiny_word : Ideal.ofBits .f32 0x358637BD#32 = ((tiny : ℝ) : EReal) := by
  simp [Ideal.ofBits, Ideal.ieee, tiny]; norm_num; rw [← EReal.coe_mul]; norm_num

/-- Minus infinity. -/
theorem negInf : Ideal.ofBits .f32 0xFF800000#32 = (⊥ : EReal) := by
  simp [Ideal.ofBits, Ideal.ieee]

/-- Plus infinity. -/
theorem posInf : Ideal.ofBits .f32 0x7F800000#32 = (⊤ : EReal) := by
  simp [Ideal.ofBits, Ideal.ieee]

/-! ### Reals inside the extended reals -/

/-- The larger of two reals. -/
theorem coe_max (a b : ℝ) : max (a : EReal) (b : EReal) = ((max a b : ℝ) : EReal) :=
  (EReal.coe_strictMono.monotone.map_max).symm

/-- The smaller of two reals. -/
theorem coe_min (a b : ℝ) : min (a : EReal) (b : EReal) = ((min a b : ℝ) : EReal) :=
  (EReal.coe_strictMono.monotone.map_min).symm

/-- A finite sum of reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

/-- A finite maximum of reals is a real. -/
theorem fold_max_real {ι : Type} [DecidableEq ι] (s : Finset ι) (f : ι → ℝ) (hs : s.Nonempty) :
    ∃ T : ℝ, s.fold max (⊥ : EReal) (fun i => (f i : EReal)) = (T : EReal) := by
  induction s using Finset.induction_on with
  | empty => exact absurd hs (by simp)
  | insert a s h ih =>
    rw [Finset.fold_insert h]
    by_cases he : s.Nonempty
    · obtain ⟨T, hT⟩ := ih he
      exact ⟨max (f a) T, by rw [hT, coe_max]⟩
    · rw [Finset.not_nonempty_iff_eq_empty] at he
      subst he
      exact ⟨f a, by simp⟩

/-- Division of reals. -/
theorem div_real (a b : ℝ) (h : b ≠ 0) : Ideal.div (a : EReal) (b : EReal) = ((a / b : ℝ) : EReal) := by
  rw [Ideal.div_coe h, ← EReal.coe_mul]; congr 1; ring

/-- The logarithm of a positive real. -/
theorem log_pos (a : ℝ) (h : 0 < a) : Ideal.log (a : EReal) = (Real.log a : EReal) := by
  rw [Ideal.log_coe, if_neg (not_le.mpr h)]

/-- The magnitude of a real. -/
theorem abs_real (a : ℝ) : max (a : EReal) (-(a : EReal)) = ((|a| : ℝ) : EReal) := by
  rw [← EReal.coe_neg, coe_max]; rfl

/-- The square of a real as the power operation computes it. -/
theorem pow_two (a : ℝ) : Ideal.pow (a : EReal) ((2 : ℝ) : EReal) = ((a ^ 2 : ℝ) : EReal) := by
  rw [Ideal.pow_coe_coe]
  congr 1
  exact Real.rpow_two a

/-! ### The focal term -/

/-- The logistic function. -/
def sig (x : ℝ) : ℝ := (1 + Real.exp (-x))⁻¹

/-- The focal term of the logit `x` at target `t`. -/
def focal (x t : ℝ) : ℝ :=
  (max x 0 - x * t + Real.log (1 + Real.exp (-|x|))) * (1 / 4 * t + 3 / 4 * (1 - t)) *
    (1 - (sig x * t + (1 - sig x) * (1 - t))) ^ 2

/-- The focal term at target zero. -/
theorem focal_zero (x : ℝ) :
    focal x 0 = (max x 0 + Real.log (1 + Real.exp (-|x|))) * (3 / 4) * sig x * sig x := by
  unfold focal; ring

/-- The logarithm of one plus an exponential. -/
theorem log1p_exp (a : ℝ) : Ideal.log1p (Ideal.exp (a : EReal)) = ((Real.log (1 + Real.exp a) : ℝ) : EReal) := by
  have h : 0 < 1 + Real.exp a := by positivity
  rw [Ideal.exp_coe, Ideal.log1p, ← EReal.coe_one, ← EReal.coe_add, log_pos _ h]

/-! ### Interpolation between bins -/

/-- The value at `t` of the function that is linear between the whole numbers and `x n` at `n`. -/
def pwl (x : ℕ → ℝ) (t : ℝ) : ℝ :=
  x ⌊t⌋₊ * ((⌊t⌋₊ + 1 : ℝ) - t) + x (⌊t⌋₊ + 1) * (t - ⌊t⌋₊)

/-- The interpolation as a sum of excesses over the bins. -/
theorem pwl_eq (x : ℕ → ℝ) (t : ℝ) (h0 : 0 ≤ t) (h1 : t < 16) :
    pwl x t = x 0 + (x 1 - x 0) * t
      + ∑ k ∈ Finset.range 15, (x (k + 2) - 2 * x (k + 1) + x k) * max (t - (k + 1 : ℝ)) 0 := by
  have hf : ⌊t⌋₊ < 16 := (Nat.floor_lt h0).mpr (by exact_mod_cast h1)
  have hl : (⌊t⌋₊ : ℝ) ≤ t := Nat.floor_le h0
  have hu : t < ⌊t⌋₊ + 1 := Nat.lt_floor_add_one t
  unfold pwl
  generalize ⌊t⌋₊ = n at hf hl hu
  have pos : ∀ k : ℕ, k < n → max (t - (k + 1 : ℝ)) 0 = t - (k + 1) := by
    intro k hk
    have : (k : ℝ) + 1 ≤ n := by exact_mod_cast hk
    exact max_eq_left (by linarith)
  have neg : ∀ k : ℕ, n ≤ k → max (t - (k + 1 : ℝ)) 0 = 0 := by
    intro k hk
    have : (n : ℝ) ≤ k := by exact_mod_cast hk
    exact max_eq_right (by linarith)
  have split : ∀ N : ℕ, n ≤ N → ∑ k ∈ Finset.range N, (x (k + 2) - 2 * x (k + 1) + x k) * max (t - (k + 1 : ℝ)) 0
      = ∑ k ∈ Finset.range n, (x (k + 2) - 2 * x (k + 1) + x k) * (t - (k + 1 : ℝ)) := by
    intro N hN
    induction N, hN using Nat.le_induction with
    | base => exact Finset.sum_congr rfl fun k hk => by rw [pos k (Finset.mem_range.mp hk)]
    | succ N hN ih => rw [Finset.sum_range_succ, ih, neg N hN, mul_zero, add_zero]
  rw [split 15 (by omega)]
  have tele : ∀ n : ℕ, ∑ k ∈ Finset.range n, (x (k + 2) - 2 * x (k + 1) + x k) * (t - (k + 1 : ℝ))
      = x n * ((n + 1 : ℝ) - t) + x (n + 1) * (t - n) - (x 0 + (x 1 - x 0) * t) := by
    intro n
    induction n with
    | zero => simp; ring
    | succ n ih => rw [Finset.sum_range_succ, ih]; push_cast; ring
  rw [tele n]; ring

/-! ### One side of the predicted distribution -/

/-- The predicted distance: the mean bin number under the softmax of the bins. -/
def dist (x : ℕ → ℝ) : ℝ :=
  (∑ b ∈ Finset.range 17, Real.exp (x b) * b) / ∑ b ∈ Finset.range 17, Real.exp (x b)

/-- The logarithm of the sum of the exponentials of the bins. -/
def lse (x : ℕ → ℝ) : ℝ := Real.log (∑ b ∈ Finset.range 17, Real.exp (x b))

/-- The sum of the exponentials of the bins is positive. -/
theorem mass_pos (x : ℕ → ℝ) : 0 < ∑ b ∈ Finset.range 17, Real.exp (x b) :=
  Finset.sum_pos (fun b _ => Real.exp_pos _) ⟨0, by simp⟩

/-- A common shift of the bins leaves the ratio. -/
theorem dist_shift (x : ℕ → ℝ) (T : ℝ) :
    (∑ b ∈ Finset.range 17, Real.exp (x b - T) * b) / (∑ b ∈ Finset.range 17, Real.exp (x b - T)) = dist x := by
  have h : ∀ b, Real.exp (x b - T) = Real.exp (-T) * Real.exp (x b) := by
    intro b; rw [← Real.exp_add]; congr 1; ring
  simp only [h, mul_assoc, ← Finset.mul_sum]
  rw [mul_div_mul_left _ _ (Real.exp_pos _).ne']; rfl

/-- A common shift of the bins shifts the logarithm. -/
theorem lse_shift (x : ℕ → ℝ) (T : ℝ) :
    Real.log (∑ b ∈ Finset.range 17, Real.exp (x b - T)) + T = lse x := by
  have h : ∀ b, Real.exp (x b - T) = Real.exp (-T) * Real.exp (x b) := by
    intro b; rw [← Real.exp_add]; congr 1; ring
  simp only [h, ← Finset.mul_sum]
  rw [Real.log_mul (Real.exp_pos _).ne' (mass_pos x).ne', Real.log_exp, lse]; ring

/-- The predicted distance is not negative. -/
theorem dist_nonneg (x : ℕ → ℝ) : 0 ≤ dist x :=
  div_nonneg (Finset.sum_nonneg fun b _ => mul_nonneg (Real.exp_pos _).le (Nat.cast_nonneg b)) (mass_pos x).le

/-! ### Which boxes are matched -/

/-- A centre lies inside an interval and within two and a half of its middle. -/
def near (c : ℝ) (lo hi : EReal) : Prop :=
  0 < (c : EReal) - lo ∧ 0 < hi - c ∧ (lo + hi) * ((1 / 2 : ℝ) : EReal) - ((5 / 2 : ℝ) : EReal) ≤ c ∧
    (c : EReal) ≤ (lo + hi) * ((1 / 2 : ℝ) : EReal) + ((5 / 2 : ℝ) : EReal)

/-- An interval that a centre is near has real ends. -/
theorem near_iff (c : ℝ) (lo hi : EReal) :
    near c lo hi ↔ ∃ a b : ℝ, lo = a ∧ hi = b ∧ a < c ∧ c < b ∧ |c - (a + b) / 2| ≤ 5 / 2 := by
  have half_pos : (0 : EReal) < ((1 / 2 : ℝ) : EReal) := by exact_mod_cast (by norm_num : (0 : ℝ) < 1 / 2)
  constructor
  · rintro ⟨h1, h2, h3, h4⟩
    induction lo with
    | top => simp at h1
    | bot =>
      rw [EReal.bot_add, EReal.bot_mul_of_pos half_pos, EReal.bot_add] at h4
      simp at h4
    | coe a =>
      induction hi with
      | bot => simp at h2
      | top =>
        rw [EReal.coe_add_top, EReal.top_mul_of_pos half_pos, EReal.top_sub_coe] at h3
        simp at h3
      | coe b =>
        refine ⟨a, b, rfl, rfl, ?_, ?_, ?_⟩
        · rw [← EReal.coe_sub] at h1; have : 0 < c - a := by exact_mod_cast h1
          linarith
        · rw [← EReal.coe_sub] at h2; have : 0 < b - c := by exact_mod_cast h2
          linarith
        · rw [← EReal.coe_add, ← EReal.coe_mul, ← EReal.coe_sub, EReal.coe_le_coe_iff] at h3
          rw [← EReal.coe_add, ← EReal.coe_mul, ← EReal.coe_add, EReal.coe_le_coe_iff] at h4
          rw [abs_le]; constructor <;> linarith
  · rintro ⟨a, b, rfl, rfl, h1, h2, h3⟩
    rw [abs_le] at h3
    refine ⟨?_, ?_, ?_, ?_⟩
    · rw [← EReal.coe_sub]; exact_mod_cast (by linarith : (0 : ℝ) < c - a)
    · rw [← EReal.coe_sub]; exact_mod_cast (by linarith : (0 : ℝ) < b - c)
    · rw [← EReal.coe_add, ← EReal.coe_mul, ← EReal.coe_sub, EReal.coe_le_coe_iff]; linarith [h3.1, h3.2]
    · rw [← EReal.coe_add, ← EReal.coe_mul, ← EReal.coe_add, EReal.coe_le_coe_iff]; linarith [h3.1, h3.2]

/-- The same condition with the distance to the middle as one magnitude. -/
theorem near_abs (c : ℝ) (lo hi : EReal) :
    near c lo hi ↔ (0 < (c : EReal) - lo ∧ 0 < hi - c ∧
      max ((c : EReal) - (lo + hi) * ((1 / 2 : ℝ) : EReal)) (-((c : EReal) - (lo + hi) * ((1 / 2 : ℝ) : EReal)))
        ≤ ((5 / 2 : ℝ) : EReal)) := by
  have half_pos : (0 : EReal) < ((1 / 2 : ℝ) : EReal) := by exact_mod_cast (by norm_num : (0 : ℝ) < 1 / 2)
  rw [near_iff]
  constructor
  · rintro ⟨a, b, rfl, rfl, h1, h2, h3⟩
    refine ⟨?_, ?_, ?_⟩
    · rw [← EReal.coe_sub]; exact_mod_cast (by linarith : (0 : ℝ) < c - a)
    · rw [← EReal.coe_sub]; exact_mod_cast (by linarith : (0 : ℝ) < b - c)
    · rw [← EReal.coe_add, ← EReal.coe_mul, ← EReal.coe_sub, abs_real, EReal.coe_le_coe_iff]
      rwa [show (a + b) * (1 / 2) = (a + b) / 2 by ring]
  · rintro ⟨h1, h2, h3⟩
    induction lo with
    | top => simp at h1
    | bot =>
      rw [EReal.bot_add, EReal.bot_mul_of_pos half_pos] at h3
      simp at h3
    | coe a =>
      induction hi with
      | bot => simp at h2
      | top =>
        rw [EReal.coe_add_top, EReal.top_mul_of_pos half_pos] at h3
        simp at h3
      | coe b =>
        refine ⟨a, b, rfl, rfl, ?_, ?_, ?_⟩
        · rw [← EReal.coe_sub] at h1; have : 0 < c - a := by exact_mod_cast h1
          linarith
        · rw [← EReal.coe_sub] at h2; have : 0 < b - c := by exact_mod_cast h2
          linarith
        · rw [← EReal.coe_add, ← EReal.coe_mul, ← EReal.coe_sub, abs_real, EReal.coe_le_coe_iff] at h3
          rwa [show (a + b) * (1 / 2) = (a + b) / 2 by ring] at h3

end Cert.Cell

end
-- ==== Proof.Cell.lean ====
module

public import proofs.«01_k».proof.Proof.Real

@[expose] public section

noncomputable section

/-! The losses of one cell, as real numbers, and the two ways in which they are summed. -/

namespace Cert.Cell

open Idealize.ShloMosaic

/-! ### One cell and one box -/

/-- The cell centre `(px, py)` is matched to the box with corners `b 0, b 1` and `b 2, b 3`. -/
def Hit (px py : ℝ) (b : ℕ → EReal) : Prop := near px (b 0) (b 2) ∧ near py (b 1) (b 3)

open Classical in
/-- One where the cell is matched to the box, zero elsewhere. -/
def ind (px py : ℝ) (b : ℕ → EReal) : ℝ := if Hit px py b then 1 else 0

/-- The signed distances from the centre to the sides of the box. -/
def gap (px py : ℝ) (b : ℕ → EReal) : ℕ → EReal
  | 0 => (px : EReal) - b 0
  | 1 => (py : EReal) - b 1
  | 2 => b 2 - (px : EReal)
  | _ => b 3 - (py : EReal)

/-- A distance clipped to the range of the bins. -/
def clip (z : EReal) : ℝ := (min (cap : EReal) (max ((0 : ℝ) : EReal) z)).toReal

/-- The clipped distance is a real. -/
theorem clip_coe (z : EReal) : min (cap : EReal) (max ((0 : ℝ) : EReal) z) = (clip z : EReal) := by
  have hc : (0 : ℝ) ≤ cap := by norm_num [cap]
  refine (EReal.coe_toReal ?_ ?_).symm
  · exact ne_of_lt (lt_of_le_of_lt (min_le_left _ _) (EReal.coe_lt_top _))
  · refine ne_of_gt (lt_of_lt_of_le (EReal.bot_lt_coe 0) (le_min ?_ (le_max_left _ _)))
    exact_mod_cast hc

/-- The clipped distance is not negative. -/
theorem clip_nonneg (z : EReal) : 0 ≤ clip z := by
  have hc : (0 : ℝ) ≤ cap := by norm_num [cap]
  have h : ((0 : ℝ) : EReal) ≤ (clip z : EReal) := by
    rw [← clip_coe]; exact le_min (by exact_mod_cast hc) (le_max_left _ _)
  exact_mod_cast h

/-- The clipped distance is below sixteen. -/
theorem clip_lt (z : EReal) : clip z < 16 := by
  have h : (clip z : EReal) ≤ (cap : EReal) := by rw [← clip_coe]; exact min_le_left _ _
  have h' : clip z ≤ cap := by exact_mod_cast h
  exact lt_of_le_of_lt h' (by norm_num [cap])

/-- The area that the predicted box shares with the box. -/
def common (px py : ℝ) (d : ℕ → ℝ) (b : ℕ → EReal) : EReal :=
  max ((0 : ℝ) : EReal) (min ((px + d 2 : ℝ) : EReal) (b 2) - max ((px - d 0 : ℝ) : EReal) (b 0)) *
    max ((0 : ℝ) : EReal) (min ((py + d 3 : ℝ) : EReal) (b 3) - max ((py - d 1 : ℝ) : EReal) (b 1))

/-- The overlap ratio of the predicted box and the box. -/
def ratio (px py : ℝ) (d : ℕ → ℝ) (b : ℕ → EReal) : EReal :=
  Ideal.div (common px py d b)
    ((((((px + d 2 : ℝ) : EReal) - ((px - d 0 : ℝ) : EReal)) * (((py + d 3 : ℝ) : EReal) - ((py - d 1 : ℝ) : EReal)))
      + (b 2 - b 0) * (b 3 - b 1)) - common px py d b + (tiny : EReal))

/-- At a matched box the overlap ratio is a real. -/
theorem ratio_real (px py : ℝ) (d : ℕ → ℝ) (b : ℕ → EReal) (hd : ∀ s, 0 ≤ d s) (h : Hit px py b) :
    ratio px py d b = ((ratio px py d b).toReal : EReal) := by
  obtain ⟨hx, hy⟩ := h
  obtain ⟨a0, a2, e0, e2, h0, h2, -⟩ := (near_iff _ _ _).mp hx
  obtain ⟨a1, a3, e1, e3, h1, h3, -⟩ := (near_iff _ _ _).mp hy
  suffices ∃ r : ℝ, ratio px py d b = (r : EReal) by
    obtain ⟨r, hr⟩ := this
    rw [hr, EReal.toReal_coe]
  set w : ℝ := max 0 (min (px + d 2) a2 - max (px - d 0) a0) with hw
  set v : ℝ := max 0 (min (py + d 3) a3 - max (py - d 1) a1) with hv
  have hc : common px py d b = ((w * v : ℝ) : EReal) := by
    unfold common
    rw [e0, e1, e2, e3, coe_min, coe_min, coe_max, coe_max, ← EReal.coe_sub, ← EReal.coe_sub, coe_max, coe_max,
      ← EReal.coe_mul]
  have hw0 : 0 ≤ w := le_max_left _ _
  have hv0 : 0 ≤ v := le_max_left _ _
  have hw1 : w ≤ a2 - a0 :=
    max_le (by linarith) (by linarith [min_le_right (px + d 2) a2, le_max_right (px - d 0) a0])
  have hv1 : v ≤ a3 - a1 :=
    max_le (by linarith) (by linarith [min_le_right (py + d 3) a3, le_max_right (py - d 1) a1])
  have hle : w * v ≤ (a2 - a0) * (a3 - a1) := mul_le_mul hw1 hv1 hv0 (by linarith)
  have hA : 0 ≤ (px + d 2 - (px - d 0)) * (py + d 3 - (py - d 1)) :=
    mul_nonneg (by linarith [hd 0, hd 2]) (by linarith [hd 1, hd 3])
  have ht : (0 : ℝ) < tiny := by norm_num [tiny]
  refine ⟨w * v / ((px + d 2 - (px - d 0)) * (py + d 3 - (py - d 1)) + (a2 - a0) * (a3 - a1) - w * v + tiny), ?_⟩
  unfold ratio
  rw [hc, e0, e1, e2, e3]
  rw [← EReal.coe_sub, ← EReal.coe_sub, ← EReal.coe_sub, ← EReal.coe_sub, ← EReal.coe_mul, ← EReal.coe_mul, ← EReal.coe_add,
    ← EReal.coe_sub, ← EReal.coe_add, div_real]
  have : 0 < (px + d 2 - (px - d 0)) * (py + d 3 - (py - d 1)) + (a2 - a0) * (a3 - a1) - w * v + tiny := by linarith
  exact this.ne'

/-- The indicator is zero or one. -/
theorem ind_cases (px py : ℝ) (b : ℕ → EReal) :
    (Hit px py b ∧ ind px py b = 1) ∨ (¬ Hit px py b ∧ ind px py b = 0) := by
  unfold ind
  by_cases h : Hit px py b
  · exact .inl ⟨h, if_pos h⟩
  · exact .inr ⟨h, if_neg h⟩

/-- What is multiplied by the indicator may be replaced by a real that it equals at a matched box. -/
theorem mul_ind (px py : ℝ) (b : ℕ → EReal) (z : EReal) (r : ℝ) (h : Hit px py b → z = (r : EReal)) :
    z * (ind px py b : EReal) = ((r * ind px py b : ℝ) : EReal) := by
  rcases ind_cases px py b with ⟨hh, he⟩ | ⟨-, he⟩
  · rw [he, h hh, EReal.coe_mul]
  · rw [he]; simp

/-! ### One cell -/

/-- The bins of side `s`. -/
def bins (x : ℕ → ℝ) (s : ℕ) : ℕ → ℝ := fun b => x (17 * s + b)

/-- The predicted distances of a cell. -/
def dists (x : ℕ → ℝ) : ℕ → ℝ := fun s => dist (bins x s)

/-- The overlap ratio with a box as a real. -/
def overlap (px py : ℝ) (x : ℕ → ℝ) (b : ℕ → EReal) : ℝ := (ratio px py (dists x) b).toReal

/-- The number of boxes matched to a cell. -/
def cellCount (px py : ℝ) (q : ℕ → ℕ → EReal) : ℝ := ∑ g ∈ Finset.range 16, ind px py (q g)

/-- The box loss of a cell. -/
def cellBox (px py : ℝ) (q : ℕ → ℕ → EReal) (x : ℕ → ℝ) : ℝ :=
  ∑ g ∈ Finset.range 16, (1 - overlap px py x (q g)) * ind px py (q g)

/-- The distribution loss of a cell at one box. -/
def pairDfl (px py : ℝ) (x : ℕ → ℝ) (b : ℕ → EReal) (s : ℕ) : ℝ :=
  lse (bins x s) - pwl (bins x s) (clip (gap px py b s))

/-- The distribution loss of a cell. -/
def cellDfl (px py : ℝ) (q : ℕ → ℕ → EReal) (x : ℕ → ℝ) : ℝ :=
  ∑ g ∈ Finset.range 16, ∑ s ∈ Finset.range 4, pairDfl px py x (q g) s * ind px py (q g)

/-- The class loss of a cell at one box, summed over the classes. -/
def pairCls (y : ℕ → ℝ) (l : ℕ) (r : ℝ) : ℝ := ∑ k ∈ Finset.range 80, focal (y k) (if k = l then r else 0)

open Classical in
/-- The class loss of a cell. -/
def cellCls (px py : ℝ) (q : ℕ → ℕ → EReal) (x y : ℕ → ℝ) (lab : ℕ → ℕ) : ℝ :=
  (∑ g ∈ Finset.range 16, pairCls y (lab g) (overlap px py x (q g)) * ind px py (q g))
    + (∑ k ∈ Finset.range 80, focal (y k) 0) * (if ∃ g, g < 16 ∧ Hit px py (q g) then 0 else 1)

/-- The count of a cell is zero exactly when no box is matched. -/
theorem count_eq_zero (px py : ℝ) (q : ℕ → ℕ → EReal) :
    cellCount px py q = 0 ↔ ¬ ∃ g, g < 16 ∧ Hit px py (q g) := by
  unfold cellCount
  have hnn : ∀ g ∈ Finset.range 16, 0 ≤ ind px py (q g) := by
    intro g _
    rcases ind_cases px py (q g) with ⟨-, h⟩ | ⟨-, h⟩ <;> rw [h]; norm_num
  rw [Finset.sum_eq_zero_iff_of_nonneg hnn]
  constructor
  · rintro h ⟨g, hg, hit⟩
    have := h g (Finset.mem_range.mpr hg)
    rcases ind_cases px py (q g) with ⟨-, h1⟩ | ⟨hn, -⟩
    · rw [h1] at this; exact one_ne_zero this
    · exact hn hit
  · intro h g hg
    rcases ind_cases px py (q g) with ⟨hit, -⟩ | ⟨-, h0⟩
    · exact absurd ⟨g, Finset.mem_range.mp hg, hit⟩ h
    · exact h0

/-- A count is not negative. -/
theorem count_nonneg (px py : ℝ) (q : ℕ → ℕ → EReal) : 0 ≤ cellCount px py q := by
  refine Finset.sum_nonneg fun g _ => ?_
  rcases ind_cases px py (q g) with ⟨-, h⟩ | ⟨-, h⟩ <;> rw [h]; norm_num

/-- The class loss at one box, as the loss at target zero and a correction at the label. -/
theorem pairCls_eq (y : ℕ → ℝ) (l : ℕ) (r : ℝ) (hl : l < 80) :
    pairCls y l r = (∑ k ∈ Finset.range 80, focal (y k) 0) + (focal (y l) r - focal (y l) 0) := by
  have h : ∀ k, focal (y k) (if k = l then r else 0)
      = focal (y k) 0 + (if k = l then focal (y l) r - focal (y l) 0 else 0) := by
    intro k
    by_cases hk : k = l
    · subst hk; simp
    · simp [hk]
  unfold pairCls
  simp only [h, Finset.sum_add_distrib]
  rw [Finset.sum_ite_eq', if_pos (Finset.mem_range.mpr hl)]

/-- The class loss of a cell as a weight of the loss at target zero and the corrections. -/
theorem cellCls_eq (px py : ℝ) (q : ℕ → ℕ → EReal) (x y : ℕ → ℝ) (lab : ℕ → ℕ) (hl : ∀ g, g < 16 → lab g < 80) :
    (∑ k ∈ Finset.range 80, focal (y k) 0) * (cellCount px py q + if cellCount px py q = 0 then 1 else 0)
      + ∑ g ∈ Finset.range 16,
          ind px py (q g) * (focal (y (lab g)) (overlap px py x (q g)) - focal (y (lab g)) 0)
      = cellCls px py q x y lab := by
  unfold cellCls
  have h : (∑ g ∈ Finset.range 16, pairCls y (lab g) (overlap px py x (q g)) * ind px py (q g))
      = (∑ k ∈ Finset.range 80, focal (y k) 0) * cellCount px py q
        + ∑ g ∈ Finset.range 16,
            ind px py (q g) * (focal (y (lab g)) (overlap px py x (q g)) - focal (y (lab g)) 0) := by
    unfold cellCount
    rw [Finset.mul_sum, ← Finset.sum_add_distrib]
    refine Finset.sum_congr rfl fun g hg => ?_
    rw [pairCls_eq _ _ _ (hl g (Finset.mem_range.mp hg))]; ring
  rw [h]
  by_cases hc : cellCount px py q = 0
  · rw [if_pos hc, if_neg ((count_eq_zero px py q).mp hc)]; ring
  · rw [if_neg hc, if_pos (not_not.mp (mt (count_eq_zero px py q).mpr hc))]; ring

/-- The distribution loss of a cell with the sums over the boxes taken first. -/
theorem cellDfl_eq (px py : ℝ) (q : ℕ → ℕ → EReal) (x : ℕ → ℝ) :
    ∑ s ∈ Finset.range 4,
      (cellCount px py q * lse (bins x s)
        - (bins x s 0 * cellCount px py q
            + (bins x s 1 - bins x s 0) * (∑ g ∈ Finset.range 16, ind px py (q g) * clip (gap px py (q g) s))
            + ∑ k ∈ Finset.range 15, (bins x s (k + 2) - 2 * bins x s (k + 1) + bins x s k)
                * ∑ g ∈ Finset.range 16,
                    max (ind px py (q g) * clip (gap px py (q g) s) - ind px py (q g) * (k + 1 : ℝ)) 0))
      = cellDfl px py q x := by
  unfold cellDfl
  rw [Finset.sum_comm]
  refine Finset.sum_congr rfl fun s _ => ?_
  have hm : ∀ g (k : ℕ), max (ind px py (q g) * clip (gap px py (q g) s) - ind px py (q g) * (k + 1 : ℝ)) 0
      = ind px py (q g) * max (clip (gap px py (q g) s) - (k + 1 : ℝ)) 0 := by
    intro g k
    rcases ind_cases px py (q g) with ⟨-, h⟩ | ⟨-, h⟩ <;> simp [h]
  simp only [hm]
  unfold cellCount pairDfl
  have hp : ∀ g, pwl (bins x s) (clip (gap px py (q g) s)) = _ :=
    fun g => pwl_eq (bins x s) _ (clip_nonneg (gap px py (q g) s)) (clip_lt (gap px py (q g) s))
  simp only [hp]
  simp only [Finset.mul_sum, Finset.sum_mul]
  rw [Finset.sum_comm (s := Finset.range 15)]
  rw [← Finset.sum_add_distrib, ← Finset.sum_add_distrib, ← Finset.sum_sub_distrib]
  refine Finset.sum_congr rfl fun g _ => ?_
  have hs : ∑ k ∈ Finset.range 15, (bins x s (k + 2) - 2 * bins x s (k + 1) + bins x s k)
        * (ind px py (q g) * max (clip (gap px py (q g) s) - (k + 1 : ℝ)) 0)
      = (∑ k ∈ Finset.range 15, (bins x s (k + 2) - 2 * bins x s (k + 1) + bins x s k)
        * max (clip (gap px py (q g) s) - (k + 1 : ℝ)) 0) * ind px py (q g) := by
    rw [Finset.sum_mul]
    exact Finset.sum_congr rfl fun k _ => by ring
  rw [hs]
  ring

end Cert.Cell

end
-- ==== Proof.Lane.lean ====
module

public import proofs.«01_k».proof.Proof.Form
public import proofs.«01_k».proof.Proof.Cell
public import Idealize.ShloMosaic.Lib.Pointwise

@[expose] public section

set_option maxRecDepth 16384

noncomputable section

/-! The quantities of the body at one cell, over the extended reals. -/

namespace Cert.Lane

open Cert.KernelIdeal Cert.KernelIdeal.Gen Cert.Form Cert.Cell
open Idealize.ShloMosaic Idealize.ShloMosaic.TcCoe Idealize.ShloMosaic.Tactic

/-- The row of the cell at tile position `j`. -/
def row (j : S32x128.Idx) : ℕ := (j 0).val + 32 * ((j 1).val / 64)

/-- The column of the cell at tile position `j`. -/
def col (j : S32x128.Idx) : ℕ := (j 1).val % 64

/-- Steps that add reals at one place. -/
theorem steps_coe {ι : Type} (f : ℕ → (ι → EReal) → ι → EReal) (z : ι → EReal) (j : ι) (D : ℕ → ℝ) (Z : ℝ)
    (n : ℕ) (hz : z j = (Z : EReal))
    (hf : ∀ s, s < n → ∀ (a : ι → EReal) (r : ℝ), a j = (r : EReal) → f s a j = ((r + D s : ℝ) : EReal)) :
    steps f z n j = ((Z + ∑ s ∈ Finset.range n, D s : ℝ) : EReal) := by
  induction n with
  | zero => simpa [steps] using hz
  | succ n ih =>
    rw [Finset.sum_range_succ, ← add_assoc]
    exact hf n (Nat.lt_succ_self n) _ _ (ih fun s hs => hf s (Nat.lt_succ_of_lt hs))

/-- Steps that take maxima of reals at one place end in a real. -/
theorem steps_max {ι : Type} (f : ℕ → (ι → EReal) → ι → EReal) (z : ι → EReal) (j : ι) (D : ℕ → ℝ) (Z : ℝ)
    (n : ℕ) (hz : z j = (Z : EReal))
    (hf : ∀ s, s < n → ∀ (a : ι → EReal) (r : ℝ), a j = (r : EReal) → f s a j = ((max r (D s) : ℝ) : EReal)) :
    ∃ T : ℝ, steps f z n j = (T : EReal) := by
  induction n with
  | zero => exact ⟨Z, hz⟩
  | succ n ih =>
    obtain ⟨T, hT⟩ := ih fun s hs => hf s (Nat.lt_succ_of_lt hs)
    exact ⟨_, hf n (Nat.lt_succ_self n) _ T hT⟩

/-- The packed tile at a position is the plane at the row and column. -/
theorem packed_apply (x : Vec Ideal S1x1x64x64 .f32) (s : Fin 32) (l : Fin 128) :
    packed x (ix2 s l) = x (ix4 0 0 ⟨s.val + 32 * (l.val / 64), by omega⟩ ⟨l.val % 64, by omega⟩) := by
  unfold packed
  pointwise
  split
  · rename_i h
    congr 2 <;> apply Fin.ext <;> simp only <;> omega
  · rename_i h
    congr 2 <;> apply Fin.ext <;> simp only <;> omega

/-- The low six bits of a lane number. -/
theorem lane_low : ∀ l : Fin 128, (IntOp.andi (BitVec.ofNat 32 l.val) 63#32).toInt = ((l.val % 64 : ℕ) : ℤ) := by
  decide +kernel

/-- The row that a lane number and a sublane number name. -/
theorem lane_high : ∀ (s : Fin 32) (l : Fin 128), (IntOp.addi (BitVec.ofNat 32 s.val)
    (IntOp.shli ArithUnit.vector (IntOp.shrsi ArithUnit.vector (BitVec.ofNat 32 l.val) 6#32) 5#32)).toInt
      = ((s.val + 32 * (l.val / 64) : ℕ) : ℤ) := by
  decide +kernel

/-- The column coordinate of a cell centre. -/
theorem cx_apply (s : Fin 32) (l : Fin 128) :
    cx (F := Ideal) (ix2 s l) = ((((l.val % 64 : ℕ) : ℝ) + 1 / 2 : ℝ) : EReal) := by
  unfold cx
  unfold_payloads
  pointwise
  show (((IntOp.andi (BitVec.ofNat 32 l.val) 63#32).toInt : ℝ) : EReal) + _ = _
  rw [lane_low, half, ← EReal.coe_add]
  rfl

/-- The row coordinate of a cell centre. -/
theorem cy_apply (s : Fin 32) (l : Fin 128) :
    cy (F := Ideal) (ix2 s l) = ((((s.val + 32 * (l.val / 64) : ℕ) : ℝ) + 1 / 2 : ℝ) : EReal) := by
  unfold cy
  unfold_payloads
  pointwise
  show (((IntOp.addi (BitVec.ofNat 32 s.val)
    (IntOp.shli ArithUnit.vector (IntOp.shrsi ArithUnit.vector (BitVec.ofNat 32 l.val) 6#32) 5#32)).toInt : ℝ) : EReal) + _ = _
  rw [lane_high, half, ← EReal.coe_add]
  rfl

/-- The sum of a tile is the sum over its positions. -/
theorem total_apply (x : FVec Ideal S32x128 .f32) : total x = ∑ s : Fin 32, ∑ l : Fin 128, x (ix2 s l) := by
  unfold total
  pointwise

section cell

variable (j : S32x128.Idx) (px py : ℝ)

/-- A constant tile at a place. -/
theorem cst_apply (w : BitVec 32) : cst (F := Ideal) w j = Ideal.ofBits .f32 w := rfl

/-- The focal term at target zero of a real logit. -/
theorem focalZero_apply (x : FVec Ideal S32x128 .f32) (X : ℝ) (h : x j = (X : EReal)) :
    focalZero x j = ((focal X 0 : ℝ) : EReal) := by
  have hl : Ideal.logistic (X : EReal) = ((sig X : ℝ) : EReal) := Ideal.logistic_coe X
  show (max (x j) (Ideal.ofBits .f32 0x00000000#32)
      + Ideal.log1p (Ideal.exp (Ideal.ofBits .f32 0x00000000#32 - max (x j) (-(x j)))))
      * Ideal.ofBits .f32 0x3F400000#32 * Ideal.logistic (x j) * Ideal.logistic (x j) = _
  rw [h, hl, zero, threeQuarters, abs_real, coe_max, ← EReal.coe_sub, log1p_exp, ← EReal.coe_add, ← EReal.coe_mul,
    ← EReal.coe_mul, ← EReal.coe_mul, focal_zero, zero_sub]

/-- The focal term of a real logit at a real target. -/
theorem focal_apply (x t : FVec Ideal S32x128 .f32) (X T : ℝ) (h : x j = (X : EReal)) (ht : t j = (T : EReal)) :
    Form.focal x t j = ((Cell.focal X T : ℝ) : EReal) := by
  have hl : Ideal.logistic (X : EReal) = ((sig X : ℝ) : EReal) := Ideal.logistic_coe X
  show (max (x j) (Ideal.ofBits .f32 0x00000000#32) - x j * t j
      + Ideal.log1p (Ideal.exp (Ideal.ofBits .f32 0x00000000#32 - max (x j) (-(x j)))))
      * (Ideal.ofBits .f32 0x3E800000#32 * t j
        + Ideal.ofBits .f32 0x3F400000#32 * (Ideal.ofBits .f32 0x3F800000#32 - t j))
      * Ideal.pow (Ideal.ofBits .f32 0x3F800000#32 - (Ideal.logistic (x j) * t j
        + (Ideal.ofBits .f32 0x3F800000#32 - Ideal.logistic (x j)) * (Ideal.ofBits .f32 0x3F800000#32 - t j)))
        (Ideal.ofBits .f32 0x40000000#32) = _
  rw [h, ht, hl, zero, threeQuarters, quarter, one, two, abs_real, coe_max]
  simp only [← EReal.coe_sub, ← EReal.coe_mul, ← EReal.coe_add, log1p_exp, pow_two]
  rw [zero_sub]; rfl

/-- The distances to the sides of a box. -/
theorem side_apply (q : ℕ → ℕ → EReal) (hx : cx (F := Ideal) j = (px : EReal)) (hy : cy (F := Ideal) j = (py : EReal))
    (g s : ℕ) : side (F := Ideal) q g s j = gap px py (q g) s := by
  match s with
  | 0 => show cx (F := Ideal) j - q g 0 = (px : EReal) - q g 0; rw [hx]
  | 1 => show cy (F := Ideal) j - q g 1 = (py : EReal) - q g 1; rw [hy]
  | 2 => show q g 2 - cx (F := Ideal) j = q g 2 - (px : EReal); rw [hx]
  | s + 3 => show q g 3 - cy (F := Ideal) j = q g 3 - (py : EReal); rw [hy]

/-- Two bits joined and widened to a word. -/
theorem both (a b : Bool) :
    ((IntOp.andi (BitVec.ofBool a) (BitVec.ofBool b)).setWidth 32).toInt = if (a && b) = true then 1 else 0 := by
  cases a <;> cases b <;> decide

/-- The match of a cell and a box is the indicator. -/
theorem matched_apply (q : ℕ → ℕ → EReal) (hx : cx (F := Ideal) j = (px : EReal))
    (hy : cy (F := Ideal) j = (py : EReal)) (g : ℕ) :
    matched (F := Ideal) q g j = ((ind px py (q g) : ℝ) : EReal) := by
  have e : ∀ a b : EReal, Scalar.mulf (F := Ideal) (φ := .f32) (Scalar.addf (F := Ideal) (φ := .f32) a b)
      (Scalar.ofBits .f32 0x3F000000#32) = (a + b) * ((1 / 2 : ℝ) : EReal) := by
    intro a b; rw [← half]; rfl
  show ((((IntOp.andi
      (BitVec.ofBool (decide (Ideal.ofBits .f32 0x00000000#32
        < min (min (side (F := Ideal) q g 0 j) (side (F := Ideal) q g 1 j))
            (min (side (F := Ideal) q g 2 j) (side (F := Ideal) q g 3 j)))))
      (BitVec.ofBool (decide (max
        (max (cx (F := Ideal) j - Scalar.mulf (F := Ideal) (φ := .f32) (Scalar.addf (F := Ideal) (φ := .f32) (q g 0) (q g 2)) (Scalar.ofBits .f32 0x3F000000#32))
          (-(cx (F := Ideal) j - Scalar.mulf (F := Ideal) (φ := .f32) (Scalar.addf (F := Ideal) (φ := .f32) (q g 0) (q g 2)) (Scalar.ofBits .f32 0x3F000000#32))))
        (max (cy (F := Ideal) j - Scalar.mulf (F := Ideal) (φ := .f32) (Scalar.addf (F := Ideal) (φ := .f32) (q g 1) (q g 3)) (Scalar.ofBits .f32 0x3F000000#32))
          (-(cy (F := Ideal) j - Scalar.mulf (F := Ideal) (φ := .f32) (Scalar.addf (F := Ideal) (φ := .f32) (q g 1) (q g 3)) (Scalar.ofBits .f32 0x3F000000#32))))
        ≤ Ideal.ofBits .f32 0x40200000#32)))).setWidth 32).toInt : ℝ) : EReal) = _
  simp only [side_apply j px py q hx hy, hx, hy, e, radius, zero]
  rw [EReal.coe_zero]
  have hit : Hit px py (q g) ↔
      (0 < min (min (gap px py (q g) 0) (gap px py (q g) 1)) (min (gap px py (q g) 2) (gap px py (q g) 3))) ∧
      (max (max ((px : EReal) - (q g 0 + q g 2) * ((1 / 2 : ℝ) : EReal)) (-((px : EReal) - (q g 0 + q g 2) * ((1 / 2 : ℝ) : EReal))))
        (max ((py : EReal) - (q g 1 + q g 3) * ((1 / 2 : ℝ) : EReal)) (-((py : EReal) - (q g 1 + q g 3) * ((1 / 2 : ℝ) : EReal))))
        ≤ ((5 / 2 : ℝ) : EReal)) := by
    unfold Hit
    rw [near_abs, near_abs, lt_min_iff, lt_min_iff, lt_min_iff]
    generalize max ((px : EReal) - (q g 0 + q g 2) * ((1 / 2 : ℝ) : EReal))
      (-((px : EReal) - (q g 0 + q g 2) * ((1 / 2 : ℝ) : EReal))) = A
    generalize max ((py : EReal) - (q g 1 + q g 3) * ((1 / 2 : ℝ) : EReal))
      (-((py : EReal) - (q g 1 + q g 3) * ((1 / 2 : ℝ) : EReal))) = B
    rw [max_le_iff]
    show _ ↔ ((0 < (px : EReal) - q g 0 ∧ 0 < (py : EReal) - q g 1) ∧ 0 < q g 2 - (px : EReal) ∧ 0 < q g 3 - (py : EReal)) ∧ _
    tauto
  rcases ind_cases px py (q g) with ⟨h, hi⟩ | ⟨h, hi⟩
  · rw [hi]
    obtain ⟨h1, h2⟩ := hit.mp h
    rw [both, decide_eq_true h1, decide_eq_true h2]
    norm_num
  · rw [hi]
    rw [hit] at h
    rw [both, ← Bool.decide_and, decide_eq_false h]
    norm_num

/-- The number of matches of a cell. -/
theorem matches_apply (q : ℕ → ℕ → EReal) (hx : cx (F := Ideal) j = (px : EReal))
    (hy : cy (F := Ideal) j = (py : EReal)) :
    matches' (F := Ideal) q j = ((cellCount px py q : ℝ) : EReal) := by
  have h := steps_coe (fun g a => addf a (matched (F := Ideal) q g)) (cst (F := Ideal) 0x00000000#32) j
    (fun g => ind px py (q g)) 0 16 zero (fun g _ a r ha => by
      show a j + matched (F := Ideal) q g j = _
      rw [ha, matched_apply j px py q hx hy, ← EReal.coe_add])
  rw [zero_add] at h
  exact h

/-- The sum over the classes of the focal terms at target zero. -/
theorem zeroSum_apply (y : ℕ → FVec Ideal S32x128 .f32) (Y : ℕ → ℝ) (h : ∀ k, k < 80 → y k j = (Y k : EReal)) :
    zeroSum y j = ((∑ k ∈ Finset.range 80, Cell.focal (Y k) 0 : ℝ) : EReal) := by
  have h := steps_coe (fun k a => addf a (focalZero (y k))) (cst (F := Ideal) 0x00000000#32) j
    (fun k => Cell.focal (Y k) 0) 0 80 zero (fun k hk a r ha => by
      show a j + focalZero (y k) j = _
      rw [ha, focalZero_apply j _ _ (h k hk), ← EReal.coe_add])
  rw [zero_add] at h
  exact h

section odd

variable (q : ℕ → ℕ → EReal) (x mk xl : ℕ → FVec Ideal S32x128 .f32) (X : ℕ → ℝ)

/-- The words of the bin numbers. -/
theorem binWord_value : ∀ b, b < 17 → Ideal.ofBits .f32 (binWord b) = ((b : ℝ) : EReal) := by
  intro b hb
  have hw : ∀ w : BitVec 32, ∀ r : ℝ, Ideal.ofBits .f32 w = (r : EReal) → r = b → Ideal.ofBits .f32 w = ((b : ℝ) : EReal) := by
    rintro w r h rfl; exact h
  interval_cases b
  · simpa [binWord] using zero
  · simpa [binWord] using one
  all_goals
    simp [binWord, Ideal.ofBits, Ideal.ieee]; norm_num
    rw [← EReal.coe_mul]; norm_num

/-- The largest bin of a side is a real. -/
theorem top_real (hX : ∀ k, k < 68 → x k j = (X k : EReal)) (s : ℕ) (hs : s < 4) :
    ∃ T : ℝ, top x s j = (T : EReal) :=
  steps_max (fun b a => maximumf a (x (17 * s + (b + 1)))) (x (17 * s)) j (fun b => X (17 * s + (b + 1))) (X (17 * s)) 16
    (hX _ (by omega)) (fun b hb a r ha => by
      show max (a j) (x (17 * s + (b + 1)) j) = _
      rw [ha, hX _ (by omega), coe_max])

/-- The sums of the exponentials of a side. -/
theorem mass_apply (hX : ∀ k, k < 68 → x k j = (X k : EReal)) (s : ℕ) (hs : s < 4) (T : ℝ)
    (hT : top x s j = (T : EReal)) :
    mass x s j = ((∑ b ∈ Finset.range 17, Real.exp (bins X s b - T) : ℝ) : EReal)
      ∧ moment x s j = ((∑ b ∈ Finset.range 17, Real.exp (bins X s b - T) * b : ℝ) : EReal) := by
  have he : ∀ b, b < 17 → expo x s b j = ((Real.exp (bins X s b - T) : ℝ) : EReal) := by
    intro b hb
    show Ideal.exp (x (17 * s + b) j - top x s j) = _
    rw [hX _ (by omega), hT, ← EReal.coe_sub, Ideal.exp_coe]; rfl
  constructor
  · have h := steps_coe (fun b a => addf a (expo x s b)) (cst (F := Ideal) 0x00000000#32) j
      (fun b => Real.exp (bins X s b - T)) 0 17 zero (fun b hb a r ha => by
        show a j + expo x s b j = _
        rw [ha, he b hb, ← EReal.coe_add])
    rw [zero_add] at h
    exact h
  · have h := steps_coe (fun b a => addf a (mulf (expo x s b) (cst (F := Ideal) (binWord b)))) (cst (F := Ideal) 0x00000000#32) j
      (fun b => Real.exp (bins X s b - T) * b) 0 17 zero (fun b hb a r ha => by
        show a j + expo x s b j * Ideal.ofBits .f32 (binWord b) = _
        rw [ha, he b hb, binWord_value b hb, ← EReal.coe_mul, ← EReal.coe_add])
    rw [zero_add] at h
    exact h

/-- The predicted distance of a side. -/
theorem dist_apply (hX : ∀ k, k < 68 → x k j = (X k : EReal)) (s : ℕ) (hs : s < 4) :
    Form.dist x s j = ((dists X s : ℝ) : EReal) := by
  obtain ⟨T, hT⟩ := top_real j x X hX s hs
  obtain ⟨h1, h2⟩ := mass_apply j x X hX s hs T hT
  show Ideal.div (moment x s j) (mass x s j) = _
  have hp : 0 < ∑ b ∈ Finset.range 17, Real.exp (bins X s b - T) := mass_pos fun b => bins X s b - T
  rw [h1, h2, div_real _ _ hp.ne', dist_shift]; rfl

/-- The logarithm of the sum of the exponentials of a side. -/
theorem logMass_apply (hX : ∀ k, k < 68 → x k j = (X k : EReal)) (s : ℕ) (hs : s < 4) :
    logMass x s j = ((lse (bins X s) : ℝ) : EReal) := by
  obtain ⟨T, hT⟩ := top_real j x X hX s hs
  obtain ⟨h1, -⟩ := mass_apply j x X hX s hs T hT
  have hp : 0 < ∑ b ∈ Finset.range 17, Real.exp (bins X s b - T) := mass_pos fun b => bins X s b - T
  show Ideal.log (mass x s j) + top x s j = _
  rw [h1, hT, log_pos _ hp, ← EReal.coe_add, lse_shift]

/-- The overlap ratio of the predicted box and a box. -/
theorem iou_apply (hx : cx (F := Ideal) j = (px : EReal)) (hy : cy (F := Ideal) j = (py : EReal))
    (hX : ∀ k, k < 68 → x k j = (X k : EReal)) (g : ℕ) :
    iou (F := Ideal) q x g j = ratio px py (dists X) (q g) := by
  have hs : shared (F := Ideal) q x g j = common px py (dists X) (q g) := by
    show max (Ideal.ofBits .f32 0x00000000#32)
        (min (cx (F := Ideal) j + Form.dist x 2 j) (q g 2) - max (cx (F := Ideal) j - Form.dist x 0 j) (q g 0))
      * max (Ideal.ofBits .f32 0x00000000#32)
        (min (cy (F := Ideal) j + Form.dist x 3 j) (q g 3) - max (cy (F := Ideal) j - Form.dist x 1 j) (q g 1)) = _
    rw [hx, hy, zero, dist_apply j x X hX 0 (by omega), dist_apply j x X hX 1 (by omega), dist_apply j x X hX 2 (by omega),
      dist_apply j x X hX 3 (by omega)]
    rfl
  show Ideal.div (shared (F := Ideal) q x g j)
    ((((cx (F := Ideal) j + Form.dist x 2 j) - (cx (F := Ideal) j - Form.dist x 0 j))
        * ((cy (F := Ideal) j + Form.dist x 3 j) - (cy (F := Ideal) j - Form.dist x 1 j))
      + (q g 2 - q g 0) * (q g 3 - q g 1)) - shared (F := Ideal) q x g j + Ideal.ofBits .f32 0x358637BD#32) = _
  rw [hs, hx, hy, tiny_word, dist_apply j x X hX 0 (by omega), dist_apply j x X hX 1 (by omega), dist_apply j x X hX 2 (by omega),
      dist_apply j x X hX 3 (by omega)]
  rfl

/-- The overlap ratio with a matched box is a real. -/
theorem iou_real (hx : cx (F := Ideal) j = (px : EReal)) (hy : cy (F := Ideal) j = (py : EReal))
    (hX : ∀ k, k < 68 → x k j = (X k : EReal)) (g : ℕ) (hit : Hit px py (q g)) :
    iou (F := Ideal) q x g j = ((overlap px py X (q g) : ℝ) : EReal) := by
  rw [iou_apply j px py q x X hx hy hX]
  exact ratio_real px py _ _ (fun s => dist_nonneg _) hit

/-- The box loss of a cell. -/
theorem box_apply (hx : cx (F := Ideal) j = (px : EReal)) (hy : cy (F := Ideal) j = (py : EReal))
    (hX : ∀ k, k < 68 → x k j = (X k : EReal))
    (hm : ∀ g, g < 16 → mk g j = ((ind px py (q g) : ℝ) : EReal)) :
    box (F := Ideal) q x mk j = ((cellBox px py q X : ℝ) : EReal) := by
  have h := steps_coe (fun g a => addf a (mulf (subf (cst (F := Ideal) 0x3F800000#32) (iou (F := Ideal) q x g)) (mk g)))
    (cst (F := Ideal) 0x00000000#32) j
    (fun g => (1 - overlap px py X (q g)) * ind px py (q g)) 0 16 zero (fun g hg a r ha => by
      show a j + (Ideal.ofBits .f32 0x3F800000#32 - iou (F := Ideal) q x g j) * mk g j = _
      rw [ha, hm g hg, one, mul_ind px py (q g) _ (1 - overlap px py X (q g)) (fun hit => by
        rw [iou_real j px py q x X hx hy hX g hit, ← EReal.coe_sub]), ← EReal.coe_add])
  rw [zero_add] at h
  exact h

/-- The correction of the class loss of a cell. -/
theorem corr_apply (hx : cx (F := Ideal) j = (px : EReal)) (hy : cy (F := Ideal) j = (py : EReal))
    (hX : ∀ k, k < 68 → x k j = (X k : EReal))
    (hm : ∀ g, g < 16 → mk g j = ((ind px py (q g) : ℝ) : EReal))
    (Y : ℕ → ℝ) (lab : ℕ → ℕ) (hl : ∀ g, g < 16 → xl g j = (Y (lab g) : EReal)) :
    corr (F := Ideal) q x mk xl j
      = ((∑ g ∈ Finset.range 16,
          ind px py (q g) * (Cell.focal (Y (lab g)) (overlap px py X (q g)) - Cell.focal (Y (lab g)) 0) : ℝ) : EReal) := by
  have h := steps_coe (fun g a => addf a (mulf (mk g) (subf (Form.focal (xl g) (iou (F := Ideal) q x g)) (focalZero (xl g)))))
    (cst (F := Ideal) 0x00000000#32) j
    (fun g => ind px py (q g) * (Cell.focal (Y (lab g)) (overlap px py X (q g)) - Cell.focal (Y (lab g)) 0)) 0 16 zero
    (fun g hg a r ha => by
      show a j + mk g j * (Form.focal (xl g) (iou (F := Ideal) q x g) j - focalZero (xl g) j) = _
      rw [ha, hm g hg, mul_comm ((ind px py (q g) : ℝ) : EReal), mul_ind px py (q g) _
        (Cell.focal (Y (lab g)) (overlap px py X (q g)) - Cell.focal (Y (lab g)) 0) (fun hit => by
        rw [focal_apply j _ _ _ _ (hl g hg) (iou_real j px py q x X hx hy hX g hit),
          focalZero_apply j _ _ (hl g hg), ← EReal.coe_sub]), ← EReal.coe_add, mul_comm])
  rw [zero_add] at h
  exact h

/-- The clipped target of a cell and a box. -/
theorem target_apply (hx : cx (F := Ideal) j = (px : EReal)) (hy : cy (F := Ideal) j = (py : EReal))
    (hm : ∀ g, g < 16 → mk g j = ((ind px py (q g) : ℝ) : EReal)) (s g : ℕ) (hg : g < 16) :
    target (F := Ideal) q mk s g j = ((ind px py (q g) * clip (gap px py (q g) s) : ℝ) : EReal) := by
  show mk g j * min (Ideal.ofBits .f32 0x417FFF97#32) (max (Ideal.ofBits .f32 0x00000000#32) (side (F := Ideal) q g s j)) = _
  rw [hm g hg, side_apply j px py q hx hy, cap_word, zero, clip_coe, ← EReal.coe_mul]

/-- The distribution loss of a cell. -/
theorem dfl_apply (hx : cx (F := Ideal) j = (px : EReal)) (hy : cy (F := Ideal) j = (py : EReal))
    (hX : ∀ k, k < 68 → x k j = (X k : EReal))
    (hm : ∀ g, g < 16 → mk g j = ((ind px py (q g) : ℝ) : EReal))
    (hc : mk 16 j = ((cellCount px py q : ℝ) : EReal)) :
    dfl (F := Ideal) q x mk j = ((cellDfl px py q X : ℝ) : EReal) := by
  have htarget := target_apply j px py q mk hx hy hm
  have hsum : ∀ s, targetSum (F := Ideal) q mk s j
      = ((∑ g ∈ Finset.range 16, ind px py (q g) * clip (gap px py (q g) s) : ℝ) : EReal) := by
    intro s
    have h := steps_coe (fun g a => addf a (target (F := Ideal) q mk s g)) (cst (F := Ideal) 0x00000000#32) j
      (fun g => ind px py (q g) * clip (gap px py (q g) s)) 0 16 zero (fun g hg a r ha => by
        show a j + target (F := Ideal) q mk s g j = _
        rw [ha, htarget s g hg, ← EReal.coe_add])
    rw [zero_add] at h
    exact h
  have hex : ∀ s k, k < 15 → excess (F := Ideal) q mk s (k + 1) j
      = ((∑ g ∈ Finset.range 16,
          max (ind px py (q g) * clip (gap px py (q g) s) - ind px py (q g) * (k + 1 : ℝ)) 0 : ℝ) : EReal) := by
    intro s k hk
    have h := steps_coe (fun g a => addf a (maximumf (subf (target (F := Ideal) q mk s g)
        (mulf (mk g) (cst (F := Ideal) (binWord (k + 1))))) (cst (F := Ideal) 0x00000000#32))) (cst (F := Ideal) 0x00000000#32) j
      (fun g => max (ind px py (q g) * clip (gap px py (q g) s) - ind px py (q g) * (k + 1 : ℝ)) 0) 0 16 zero
      (fun g hg a r ha => by
        show a j + max (target (F := Ideal) q mk s g j - mk g j * Ideal.ofBits .f32 (binWord (k + 1)))
          (Ideal.ofBits .f32 0x00000000#32) = _
        rw [ha, htarget s g hg, hm g hg, binWord_value (k + 1) (by omega), zero, ← EReal.coe_mul, ← EReal.coe_sub, coe_max,
          ← EReal.coe_add]
        push_cast; rfl)
    rw [zero_add] at h
    exact h
  have hin : ∀ s, s < 4 → interp (F := Ideal) q x mk s j
      = ((bins X s 0 * cellCount px py q
            + (bins X s 1 - bins X s 0) * (∑ g ∈ Finset.range 16, ind px py (q g) * clip (gap px py (q g) s))
            + ∑ k ∈ Finset.range 15, (bins X s (k + 2) - 2 * bins X s (k + 1) + bins X s k)
                * ∑ g ∈ Finset.range 16,
                    max (ind px py (q g) * clip (gap px py (q g) s) - ind px py (q g) * (k + 1 : ℝ)) 0 : ℝ) : EReal) := by
    intro s hs
    refine steps_coe (fun k a => addf a (mulf
      (addf (subf (x (17 * s + (k + 2))) (mulf (cst (F := Ideal) 0x40000000#32) (x (17 * s + (k + 1))))) (x (17 * s + k)))
      (excess (F := Ideal) q mk s (k + 1)))) _ j
      (fun k => (bins X s (k + 2) - 2 * bins X s (k + 1) + bins X s k)
                * ∑ g ∈ Finset.range 16,
                    max (ind px py (q g) * clip (gap px py (q g) s) - ind px py (q g) * (k + 1 : ℝ)) 0) _ 15 ?_
      (fun k hk a r ha => ?_)
    · show x (17 * s) j * mk 16 j + (x (17 * s + 1) j - x (17 * s) j) * targetSum (F := Ideal) q mk s j = _
      rw [hX _ (by omega), hX _ (by omega), hc, hsum, ← EReal.coe_mul, ← EReal.coe_sub, ← EReal.coe_mul, ← EReal.coe_add]
      rfl
    · show a j + (x (17 * s + (k + 2)) j - Ideal.ofBits .f32 0x40000000#32 * x (17 * s + (k + 1)) j + x (17 * s + k) j)
        * excess (F := Ideal) q mk s (k + 1) j = _
      rw [ha, hX _ (by omega), hX _ (by omega), hX _ (by omega), hex s k hk, two, ← EReal.coe_mul, ← EReal.coe_sub, ← EReal.coe_add,
        ← EReal.coe_mul, ← EReal.coe_add]
      rfl
  have h := steps_coe (fun s a => subf (addf a (mulf (mk 16) (logMass x s))) (interp (F := Ideal) q x mk s))
    (cst (F := Ideal) 0x00000000#32) j
    (fun s => cellCount px py q * lse (bins X s)
        - (bins X s 0 * cellCount px py q
            + (bins X s 1 - bins X s 0) * (∑ g ∈ Finset.range 16, ind px py (q g) * clip (gap px py (q g) s))
            + ∑ k ∈ Finset.range 15, (bins X s (k + 2) - 2 * bins X s (k + 1) + bins X s k)
                * ∑ g ∈ Finset.range 16,
                    max (ind px py (q g) * clip (gap px py (q g) s) - ind px py (q g) * (k + 1 : ℝ)) 0)) 0 4 zero
    (fun s hs a r ha => by
      show a j + mk 16 j * logMass x s j - interp (F := Ideal) q x mk s j = _
      rw [ha, hc, logMass_apply j x X hX s hs, hin s hs, ← EReal.coe_mul, ← EReal.coe_add, ← EReal.coe_sub]
      congr 1; ring)
  rw [zero_add, cellDfl_eq] at h
  exact h

end odd

end cell

end Cert.Lane

end
-- ==== Proof.Image.lean ====
module

public import proofs.«01_k».proof.Proof.Lane
public import Mathlib.Algebra.BigOperators.Fin

@[expose] public section

set_option maxRecDepth 16384

noncomputable section

namespace Cert.Cell

/-- A sum over the 64 by 64 cells of an image, in row order: `f` takes the row and the column. -/
def cells (f : ℕ → ℕ → ℝ) : ℝ := ∑ p : Fin 4096, f (p.val / 64) (p.val % 64)

/-- The cells of an image as sublanes and lanes. -/
def laneCell : Fin 32 × Fin 128 ≃ Fin 4096 where
  toFun a := ⟨64 * (a.1.val + 32 * (a.2.val / 64)) + a.2.val % 64, by omega⟩
  invFun p := (⟨p.val / 64 % 32, by omega⟩, ⟨64 * (p.val / 2048) + p.val % 64, by omega⟩)
  left_inv := by
    rintro ⟨s, l⟩
    have hs := s.isLt
    have hl := l.isLt
    refine Prod.ext (Fin.ext ?_) (Fin.ext ?_)
    · show (64 * (s.val + 32 * (l.val / 64)) + l.val % 64) / 64 % 32 = s.val
      omega
    · show 64 * ((64 * (s.val + 32 * (l.val / 64)) + l.val % 64) / 2048) + (64 * (s.val + 32 * (l.val / 64)) + l.val % 64) % 64 = l.val
      omega
  right_inv := by
    intro p
    apply Fin.ext
    simp only
    omega

/-- A sum over sublanes and lanes is a sum over cells. -/
theorem lanes_sum (f : ℕ → ℕ → ℝ) :
    ∑ s : Fin 32, ∑ l : Fin 128, f (s.val + 32 * (l.val / 64)) (l.val % 64) = cells f := by
  unfold cells
  rw [← Fintype.sum_prod_type' (f := fun (s : Fin 32) (l : Fin 128) => f (s.val + 32 * (l.val / 64)) (l.val % 64))]
  refine Fintype.sum_equiv laneCell _ _ ?_
  rintro ⟨s, l⟩
  have e : (laneCell (s, l)).val = 64 * (s.val + 32 * (l.val / 64)) + l.val % 64 := rfl
  rw [e]
  show f (s.val + 32 * (l.val / 64)) (l.val % 64) = _
  congr 1 <;> omega

/-- The centre of the cell of an index along one axis. -/
def ctr (i : ℕ) : ℝ := (i : ℝ) + 1 / 2

section image

variable (q : ℕ → ℕ → EReal) (X Y : ℕ → ℕ → ℕ → ℝ) (lab : ℕ → ℕ)

/-- The number of matches of an image. -/
def imgCount : ℝ := cells fun r c => cellCount (ctr c) (ctr r) q

/-- The box loss of an image. -/
def imgBox : ℝ := cells fun r c => cellBox (ctr c) (ctr r) q (X r c)

/-- The distribution loss of an image before its division. -/
def imgDfl : ℝ := cells fun r c => cellDfl (ctr c) (ctr r) q (X r c)

/-- The class loss of an image. -/
def imgCls : ℝ := cells fun r c => cellCls (ctr c) (ctr r) q (X r c) (Y r c) lab

/-- The loss of an image. -/
def imgLoss : ℝ := 15 / 2 * imgBox q X + imgCls q X Y lab + 3 / 2 * (imgDfl q X / (imgCount q * 4))

end image

end Cert.Cell

namespace Cert.Lane

open Cert.KernelIdeal Cert.KernelIdeal.Gen Cert.Form Cert.Cell
open Idealize.ShloMosaic Idealize.ShloMosaic.TcCoe Idealize.ShloMosaic.Tactic

/-- The total of a plane of reals. -/
theorem total_coe (x : FVec Ideal S32x128 .f32) (f : ℕ → ℕ → ℝ)
    (h : ∀ (s : Fin 32) (l : Fin 128), x (ix2 s l) = ((f (s.val + 32 * (l.val / 64)) (l.val % 64) : ℝ) : EReal)) :
    total x = ((cells f : ℝ) : EReal) := by
  rw [total_apply, ← lanes_sum]
  simp only [h, coe_sum]

variable (q : ℕ → ℕ → EReal) (X Y : ℕ → ℕ → ℕ → ℝ) (lab : ℕ → ℕ)

/-- The first part of an image's loss: the class loss with every target zero. -/
theorem evenOut_value (y : ℕ → FVec Ideal S32x128 .f32)
    (hY : ∀ k, k < 80 → ∀ (s : Fin 32) (l : Fin 128), y k (ix2 s l) = ((Y (s.val + 32 * (l.val / 64)) (l.val % 64) k : ℝ) : EReal))
    (j : S1x1x128.Idx) :
    evenOut (F := Ideal) q y j = ((cells fun r c => (∑ k ∈ Finset.range 80, Cell.focal (Y r c k) 0)
      * (cellCount (ctr c) (ctr r) q + if cellCount (ctr c) (ctr r) q = 0 then 1 else 0) : ℝ) : EReal) := by
  show Ideal.ofBits .f32 0x3F800000#32 * total _ = _
  rw [total_coe (f := fun r c => (∑ k ∈ Finset.range 80, Cell.focal (Y r c k) 0)
      * (cellCount (ctr c) (ctr r) q + if cellCount (ctr c) (ctr r) q = 0 then 1 else 0)), one, ← EReal.coe_mul, one_mul]
  intro s l
  have hm := matches_apply (ix2 s l) (ctr (l.val % 64)) (ctr (s.val + 32 * (l.val / 64))) q (cx_apply s l) (cy_apply s l)
  have hz := zeroSum_apply (ix2 s l) y (Y (s.val + 32 * (l.val / 64)) (l.val % 64)) (fun k hk => hY k hk s l)
  show zeroSum y (ix2 s l) * (matches' (F := Ideal) q (ix2 s l)
    + if BitVec.ofBool (decide (matches' (F := Ideal) q (ix2 s l) = Ideal.ofBits .f32 0x00000000#32)) = 1#1
      then Ideal.ofBits .f32 0x3F800000#32 else Ideal.ofBits .f32 0x00000000#32) = _
  rw [hm, hz, zero, one]
  by_cases hc : cellCount (ctr (l.val % 64)) (ctr (s.val + 32 * (l.val / 64))) q = 0
  · have he : ((cellCount (ctr (l.val % 64)) (ctr (s.val + 32 * (l.val / 64))) q : ℝ) : EReal) = ((0 : ℝ) : EReal) := by rw [hc]
    rw [decide_eq_true he, if_pos (show BitVec.ofBool true = 1#1 from rfl), if_pos hc, ← EReal.coe_add, ← EReal.coe_mul]
  · have he : ¬ ((cellCount (ctr (l.val % 64)) (ctr (s.val + 32 * (l.val / 64))) q : ℝ) : EReal) = ((0 : ℝ) : EReal) :=
      fun h => hc (EReal.coe_injective h)
    rw [decide_eq_false he, if_neg (show ¬ BitVec.ofBool false = 1#1 by decide), if_neg hc, ← EReal.coe_add, ← EReal.coe_mul]

/-- The second part of an image's loss. -/
theorem oddPart_value (x mk xl : ℕ → FVec Ideal S32x128 .f32)
    (hX : ∀ k, k < 68 → ∀ (s : Fin 32) (l : Fin 128), x k (ix2 s l) = ((X (s.val + 32 * (l.val / 64)) (l.val % 64) k : ℝ) : EReal))
    (hm : ∀ g, g < 16 → ∀ (s : Fin 32) (l : Fin 128),
      mk g (ix2 s l) = ((ind (ctr (l.val % 64)) (ctr (s.val + 32 * (l.val / 64))) (q g) : ℝ) : EReal))
    (hc : ∀ (s : Fin 32) (l : Fin 128),
      mk 16 (ix2 s l) = ((cellCount (ctr (l.val % 64)) (ctr (s.val + 32 * (l.val / 64))) q : ℝ) : EReal))
    (hl : ∀ g, g < 16 → ∀ (s : Fin 32) (l : Fin 128),
      xl g (ix2 s l) = ((Y (s.val + 32 * (l.val / 64)) (l.val % 64) (lab g) : ℝ) : EReal))
    (hn : imgCount q ≠ 0) :
    oddPart (F := Ideal) q x mk xl = ((15 / 2 * imgBox q X
      + (cells fun r c => ∑ g ∈ Finset.range 16, ind (ctr c) (ctr r) (q g)
          * (Cell.focal (Y r c (lab g)) (overlap (ctr c) (ctr r) (X r c) (q g)) - Cell.focal (Y r c (lab g)) 0))
      + 3 / 2 * (imgDfl q X / (imgCount q * 4)) : ℝ) : EReal) := by
  have hb := total_coe (box (F := Ideal) q x mk) (fun r c => cellBox (ctr c) (ctr r) q (X r c)) (fun s l =>
    box_apply (ix2 s l) _ _ q x mk (X _ _) (cx_apply s l) (cy_apply s l) (fun k hk => hX k hk s l) (fun g hg => hm g hg s l))
  have hd := total_coe (dfl (F := Ideal) q x mk) (fun r c => cellDfl (ctr c) (ctr r) q (X r c)) (fun s l =>
    dfl_apply (ix2 s l) _ _ q x mk (X _ _) (cx_apply s l) (cy_apply s l) (fun k hk => hX k hk s l) (fun g hg => hm g hg s l) (hc s l))
  have hk := total_coe (corr (F := Ideal) q x mk xl) (fun r c => ∑ g ∈ Finset.range 16, ind (ctr c) (ctr r) (q g)
          * (Cell.focal (Y r c (lab g)) (overlap (ctr c) (ctr r) (X r c) (q g)) - Cell.focal (Y r c (lab g)) 0)) (fun s l =>
    corr_apply (ix2 s l) _ _ q x mk xl (X _ _) (cx_apply s l) (cy_apply s l) (fun k hk => hX k hk s l) (fun g hg => hm g hg s l)
      (Y _ _) lab (fun g hg => hl g hg s l))
  have hN : total (mk 16) = ((imgCount q : ℝ) : EReal) := total_coe (mk 16) (fun r c => cellCount (ctr c) (ctr r) q) hc
  show (Ideal.ofBits .f32 0x40F00000#32 * total (box (F := Ideal) q x mk)
      + Ideal.ofBits .f32 0x3F800000#32 * total (corr (F := Ideal) q x mk xl))
    + Ideal.div (Ideal.ofBits .f32 0x3FC00000#32 * total (dfl (F := Ideal) q x mk))
      (total (mk 16) * Ideal.ofBits .f32 0x40800000#32) = _
  rw [hb, hd, hk, hN, boxWeight, one, dflWeight, four, ← EReal.coe_mul, ← EReal.coe_mul, ← EReal.coe_mul, ← EReal.coe_mul, one_mul,
    div_real _ _ (mul_ne_zero hn (by norm_num)), ← EReal.coe_add, ← EReal.coe_add, mul_div_assoc]
  rfl

/-- Both parts together are the loss of the image. -/
theorem parts_value (hlab : ∀ g, g < 16 → lab g < 80) :
    (cells fun r c => (∑ k ∈ Finset.range 80, Cell.focal (Y r c k) 0)
        * (cellCount (ctr c) (ctr r) q + if cellCount (ctr c) (ctr r) q = 0 then 1 else 0))
      + (15 / 2 * imgBox q X
        + (cells fun r c => ∑ g ∈ Finset.range 16, ind (ctr c) (ctr r) (q g)
            * (Cell.focal (Y r c (lab g)) (overlap (ctr c) (ctr r) (X r c) (q g)) - Cell.focal (Y r c (lab g)) 0))
        + 3 / 2 * (imgDfl q X / (imgCount q * 4)))
      = imgLoss q X Y lab := by
  have h : (cells fun r c => (∑ k ∈ Finset.range 80, Cell.focal (Y r c k) 0)
        * (cellCount (ctr c) (ctr r) q + if cellCount (ctr c) (ctr r) q = 0 then 1 else 0))
      + (cells fun r c => ∑ g ∈ Finset.range 16, ind (ctr c) (ctr r) (q g)
            * (Cell.focal (Y r c (lab g)) (overlap (ctr c) (ctr r) (X r c) (q g)) - Cell.focal (Y r c (lab g)) 0))
      = imgCls q X Y lab := by
    unfold imgCls cells
    rw [← Finset.sum_add_distrib]
    exact Finset.sum_congr rfl fun p _ => cellCls_eq _ _ q _ _ lab hlab
  unfold imgLoss
  rw [← h]
  ring

end Cert.Lane

end
-- ==== Proof.Args.lean ====
module

public import proofs.«01_k».proof.Proof.Image

@[expose] public section

noncomputable section

namespace Cert.Cell

open Idealize.ShloMosaic

/-- The arguments as the loss reads them: the bins, the classes, the boxes, the labels and the stride. -/
structure Args where
  /-- the bins of each image: 68 planes of 64 by 64 cells -/
  reg : (⟨4, ![8, 68, 64, 64]⟩ : Shape).Idx → EReal
  /-- the class logits of each image: 80 planes of 64 by 64 cells -/
  cls : (⟨4, ![8, 80, 64, 64]⟩ : Shape).Idx → EReal
  /-- the 16 boxes of each image -/
  gt : (⟨3, ![8, 16, 4]⟩ : Shape).Idx → EReal
  /-- the labels of the boxes -/
  lab : (⟨2, ![8, 16]⟩ : Shape).Idx → BitVec 32
  /-- the stride -/
  stride : (⟨0, ![]⟩ : Shape).Idx → BitVec 32

namespace Args

variable (A : Args)

/-- The boxes of an image in units of cells. -/
def box (b : Fin 8) (g d : ℕ) : EReal :=
  if h : g < 16 ∧ d < 4 then Ideal.div (A.gt (ix3 b ⟨g, h.1⟩ ⟨d, h.2⟩)) (((A.stride ix0).toInt : ℝ) : EReal) else 0

/-- The bins of an image as reals. -/
def bin (b : Fin 8) (r c k : ℕ) : ℝ :=
  if h : k < 68 ∧ r < 64 ∧ c < 64 then (A.reg (ix4 b ⟨k, h.1⟩ ⟨r, h.2.1⟩ ⟨c, h.2.2⟩)).toReal else 0

/-- The class logits of an image as reals. -/
def logit (b : Fin 8) (r c k : ℕ) : ℝ :=
  if h : k < 80 ∧ r < 64 ∧ c < 64 then (A.cls (ix4 b ⟨k, h.1⟩ ⟨r, h.2.1⟩ ⟨c, h.2.2⟩)).toReal else 0

/-- The labels of an image as numbers. -/
def label (b : Fin 8) (g : ℕ) : ℕ := if h : g < 16 then (A.lab (ix2 b ⟨g, h⟩)).toNat else 0

/-- What the claim assumes: real bins and logits, labels among the classes, a matched cell in each image. -/
structure Good : Prop where
  reg_real : ∀ i, A.reg i = ((A.reg i).toReal : EReal)
  cls_real : ∀ i, A.cls i = ((A.cls i).toReal : EReal)
  lab_lt : ∀ i, (A.lab i).toNat < 80
  some_match : ∀ b, imgCount (A.box b) ≠ 0

/-- The loss over the images. -/
def loss : ℝ := ∑ b : Fin 8, imgLoss (A.box b) (A.bin b) (A.logit b) (A.label b)

variable {A}

/-- A box coordinate in range. -/
theorem box_apply (b : Fin 8) (g : Fin 16) (d : Fin 4) :
    A.box b g.val d.val = Ideal.div (A.gt (ix3 b g d)) (((A.stride ix0).toInt : ℝ) : EReal) :=
  dif_pos ⟨g.isLt, d.isLt⟩

/-- A bin in range. -/
theorem Good.bin (h : A.Good) (b : Fin 8) (k : Fin 68) (r c : Fin 64) :
    A.reg (ix4 b k r c) = ((A.bin b r.val c.val k.val : ℝ) : EReal) := by
  have e : A.bin b r.val c.val k.val = (A.reg (ix4 b k r c)).toReal := by
    unfold Args.bin
    rw [dif_pos ⟨k.isLt, r.isLt, c.isLt⟩]
  rw [e, ← h.reg_real]

/-- A class logit in range. -/
theorem Good.logit (h : A.Good) (b : Fin 8) (k : Fin 80) (r c : Fin 64) :
    A.cls (ix4 b k r c) = ((A.logit b r.val c.val k.val : ℝ) : EReal) := by
  have e : A.logit b r.val c.val k.val = (A.cls (ix4 b k r c)).toReal := by
    unfold Args.logit
    rw [dif_pos ⟨k.isLt, r.isLt, c.isLt⟩]
  rw [e, ← h.cls_real]

/-- A label in range. -/
theorem label_apply (b : Fin 8) (g : Fin 16) : A.label b g.val = (A.lab (ix2 b g)).toNat := dif_pos g.isLt

/-- Each label names a class. -/
theorem Good.label_lt (h : A.Good) (b : Fin 8) (g : ℕ) (hg : g < 16) : A.label b g < 80 := by
  rw [label_apply b ⟨g, hg⟩]; exact h.lab_lt _

end Args

end Cert.Cell

end
-- ==== Proof.FormEven.lean ====
module

public import proofs.«01_k».proof.Proof.Form

@[expose] public section

noncomputable section

namespace Cert.Form

open Cert.KernelIdeal Cert.KernelIdeal.Gen
open Idealize.ShloMosaic Idealize.ShloMosaic.TcCoe Idealize.ShloMosaic.Tactic

variable {F : FTy → Type} [FloatOps F]

/-- What an even point leaves in plane `g` of the first scratch: the matches of box `g`, and last their number. -/
def keptMask (q : ℕ → ℕ → F .f32) (g : ℕ) : FVec F S32x128 .f32 := if g = 16 then matches' q else matched q g

/-- A label as the body reads it. -/
def labAt (arg4 : Memref sig .tc .smem S1x1x16 .i32) (h4 : arg4.IsWhole) (x : Vec F S1x1x16 .i32) (g : Fin 16) : BitVec 32 :=
  arg4.view.readAt (Elt F) (Rect.unit (s := S1x1x16) ![0, 0, g.val] S1x1x1.size (lab_fits g.val g.isLt)).toLoadRect
    (h4.unread x) (Shape.Idx.first (numel1_S1x1x1.symm ▸ Nat.one_pos))

/-- The plane of class `w`, as the body reads it. -/
def planeAt (arg2 : Memref sig .tc .vmem S1x80x64x64 .f32) (h2 : arg2.IsWhole) (x : Vec F S1x80x64x64 .f32) (w : BitVec 32)
    (h : ∀ a, (![0, (Scalar.indexCast w : Index).toNat, 0, 0] : Fin 4 → ℕ) a + S1x1x64x64.size a ≤ S1x80x64x64.size a) :
    FVec F S32x128 .f32 :=
  packed (arg2.view.readAt (Elt F)
    (Rect.unit (s := S1x80x64x64) ![0, (Scalar.indexCast w : Index).toNat, 0, 0] S1x1x64x64.size h).toLoadRect (h2.unread x))

/-- The piece of the first scratch that holds plane `g`. -/
def maskPiece (q : ℕ → ℕ → F .f32) (g : Fin 17) : View.Piece (Elt F) S17x32x128 .f32 :=
  ⟨Rect.unit (s := S17x32x128) ![g.val, 0, 0] S1x32x128.size (mask_fits g.val g.isLt),
    shapeCast S1x32x128 (keptMask q g.val) shapeCasts_S32x128_S1x32x128⟩

/-- The piece of the second scratch that holds plane `g`. -/
def logitPiece (p : Fin 16 → FVec F S32x128 .f32) (g : Fin 16) : View.Piece (Elt F) S16x32x128 .f32 :=
  ⟨Rect.unit (s := S16x32x128) ![g.val, 0, 0] S1x32x128.size (logit_fits g.val g.isLt),
    shapeCast S1x32x128 (p g) shapeCasts_S32x128_S1x32x128⟩

/-- What an even point stores in the result's block. -/
theorem even_out (c : Dev nD) (i : grid0.Coords) (arg1 : Memref sig .tc .vmem S1x68x64x64 .f32) (harg1 : arg1.IsWhole) (arg2 : Memref sig .tc .vmem S1x80x64x64 .f32) (harg2 : arg2.IsWhole) (arg3 : Memref sig .tc .smem S1x16x4 .f32) (harg3 : arg3.IsWhole) (arg4 : Memref sig .tc .smem S1x1x16 .i32) (harg4 : arg4.IsWhole) (arg5 : Memref sig .tc .vmem S1x1x128 .f32) (harg5 : arg5.IsWhole) (arg6 : Memref sig .tc .vmem S17x32x128 .f32) (harg6 : arg6.IsWhole) (arg7 : Memref sig .tc .vmem S16x32x128 .f32) (harg7 : arg7.IsWhole) (hc0 : cond0_0 i) (hc1 : ¬cond0_1 i)
    (x0 : Vec F S1x68x64x64 .f32) (x1 : Vec F S1x80x64x64 .f32) (x2 : Vec F S1x16x4 .f32) (x3 : Vec F S1x1x16 .i32) (k0_hw1 : k0_chk1 i (arg4.view.readAt (Elt F) (Rect.unit (s := S1x1x16) ![0, 0, 0] S1x1x1.size inb_S1x1x16_S1x1x1_0_0_0).toLoadRect (harg4.unread x3) (Shape.Idx.first (numel1_S1x1x1.symm ▸ Nat.one_pos)))) (k0_hw2 : k0_chk2 i (arg4.view.readAt (Elt F) (Rect.unit (s := S1x1x16) ![0, 0, 1] S1x1x1.size inb_S1x1x16_S1x1x1_0_0_1).toLoadRect (harg4.unread x3) (Shape.Idx.first (numel1_S1x1x1.symm ▸ Nat.one_pos)))) (k0_hw3 : k0_chk3 i (arg4.view.readAt (Elt F) (Rect.unit (s := S1x1x16) ![0, 0, 2] S1x1x1.size inb_S1x1x16_S1x1x1_0_0_2).toLoadRect (harg4.unread x3) (Shape.Idx.first (numel1_S1x1x1.symm ▸ Nat.one_pos)))) (k0_hw4 : k0_chk4 i (arg4.view.readAt (Elt F) (Rect.unit (s := S1x1x16) ![0, 0, 3] S1x1x1.size inb_S1x1x16_S1x1x1_0_0_3).toLoadRect (harg4.unread x3) (Shape.Idx.first (numel1_S1x1x1.symm ▸ Nat.one_pos)))) (k0_hw5 : k0_chk5 i (arg4.view.readAt (Elt F) (Rect.unit (s := S1x1x16) ![0, 0, 4] S1x1x1.size inb_S1x1x16_S1x1x1_0_0_4).toLoadRect (harg4.unread x3) (Shape.Idx.first (numel1_S1x1x1.symm ▸ Nat.one_pos)))) (k0_hw6 : k0_chk6 i (arg4.view.readAt (Elt F) (Rect.unit (s := S1x1x16) ![0, 0, 5] S1x1x1.size inb_S1x1x16_S1x1x1_0_0_5).toLoadRect (harg4.unread x3) (Shape.Idx.first (numel1_S1x1x1.symm ▸ Nat.one_pos)))) (k0_hw7 : k0_chk7 i (arg4.view.readAt (Elt F) (Rect.unit (s := S1x1x16) ![0, 0, 6] S1x1x1.size inb_S1x1x16_S1x1x1_0_0_6).toLoadRect (harg4.unread x3) (Shape.Idx.first (numel1_S1x1x1.symm ▸ Nat.one_pos)))) (k0_hw8 : k0_chk8 i (arg4.view.readAt (Elt F) (Rect.unit (s := S1x1x16) ![0, 0, 7] S1x1x1.size inb_S1x1x16_S1x1x1_0_0_7).toLoadRect (harg4.unread x3) (Shape.Idx.first (numel1_S1x1x1.symm ▸ Nat.one_pos)))) (k0_hw9 : k0_chk9 i (arg4.view.readAt (Elt F) (Rect.unit (s := S1x1x16) ![0, 0, 8] S1x1x1.size inb_S1x1x16_S1x1x1_0_0_8).toLoadRect (harg4.unread x3) (Shape.Idx.first (numel1_S1x1x1.symm ▸ Nat.one_pos)))) (k0_hw10 : k0_chk10 i (arg4.view.readAt (Elt F) (Rect.unit (s := S1x1x16) ![0, 0, 9] S1x1x1.size inb_S1x1x16_S1x1x1_0_0_9).toLoadRect (harg4.unread x3) (Shape.Idx.first (numel1_S1x1x1.symm ▸ Nat.one_pos)))) (k0_hw11 : k0_chk11 i (arg4.view.readAt (Elt F) (Rect.unit (s := S1x1x16) ![0, 0, 10] S1x1x1.size inb_S1x1x16_S1x1x1_0_0_10).toLoadRect (harg4.unread x3) (Shape.Idx.first (numel1_S1x1x1.symm ▸ Nat.one_pos)))) (k0_hw12 : k0_chk12 i (arg4.view.readAt (Elt F) (Rect.unit (s := S1x1x16) ![0, 0, 11] S1x1x1.size inb_S1x1x16_S1x1x1_0_0_11).toLoadRect (harg4.unread x3) (Shape.Idx.first (numel1_S1x1x1.symm ▸ Nat.one_pos)))) (k0_hw13 : k0_chk13 i (arg4.view.readAt (Elt F) (Rect.unit (s := S1x1x16) ![0, 0, 12] S1x1x1.size inb_S1x1x16_S1x1x1_0_0_12).toLoadRect (harg4.unread x3) (Shape.Idx.first (numel1_S1x1x1.symm ▸ Nat.one_pos)))) (k0_hw14 : k0_chk14 i (arg4.view.readAt (Elt F) (Rect.unit (s := S1x1x16) ![0, 0, 13] S1x1x1.size inb_S1x1x16_S1x1x1_0_0_13).toLoadRect (harg4.unread x3) (Shape.Idx.first (numel1_S1x1x1.symm ▸ Nat.one_pos)))) (k0_hw15 : k0_chk15 i (arg4.view.readAt (Elt F) (Rect.unit (s := S1x1x16) ![0, 0, 14] S1x1x1.size inb_S1x1x16_S1x1x1_0_0_14).toLoadRect (harg4.unread x3) (Shape.Idx.first (numel1_S1x1x1.symm ▸ Nat.one_pos)))) (k0_hw16 : k0_chk16 i (arg4.view.readAt (Elt F) (Rect.unit (s := S1x1x16) ![0, 0, 15] S1x1x1.size inb_S1x1x16_S1x1x1_0_0_15).toLoadRect (harg4.unread x3) (Shape.Idx.first (numel1_S1x1x1.symm ▸ Nat.one_pos)))) :
    (kernelRun0_A c i arg1 harg1 arg2 harg2 arg3 harg3 arg4 harg4 arg5 harg5 arg6 harg6 arg7 harg7 hc0 hc1 x0 x1 x2 x3 k0_hw1 k0_hw2 k0_hw3 k0_hw4 k0_hw5 k0_hw6 k0_hw7 k0_hw8 k0_hw9 k0_hw10 k0_hw11 k0_hw12 k0_hw13 k0_hw14 k0_hw15 k0_hw16).1
      = [⟨Rect.unit (s := S1x1x128) ![0, 0, 0] S1x1x128.size inb_S1x1x128_S1x1x128_0_0_0,
          evenOut (gtAt arg3 harg3 x2) (clsAt arg2 harg2 x1)⟩] := by
  sl_kernel_rfl

/-- What an even point stores in the first scratch. -/
theorem even_masks (c : Dev nD) (i : grid0.Coords) (arg1 : Memref sig .tc .vmem S1x68x64x64 .f32) (harg1 : arg1.IsWhole) (arg2 : Memref sig .tc .vmem S1x80x64x64 .f32) (harg2 : arg2.IsWhole) (arg3 : Memref sig .tc .smem S1x16x4 .f32) (harg3 : arg3.IsWhole) (arg4 : Memref sig .tc .smem S1x1x16 .i32) (harg4 : arg4.IsWhole) (arg5 : Memref sig .tc .vmem S1x1x128 .f32) (harg5 : arg5.IsWhole) (arg6 : Memref sig .tc .vmem S17x32x128 .f32) (harg6 : arg6.IsWhole) (arg7 : Memref sig .tc .vmem S16x32x128 .f32) (harg7 : arg7.IsWhole) (hc0 : cond0_0 i) (hc1 : ¬cond0_1 i)
    (x0 : Vec F S1x68x64x64 .f32) (x1 : Vec F S1x80x64x64 .f32) (x2 : Vec F S1x16x4 .f32) (x3 : Vec F S1x1x16 .i32) (k0_hw1 : k0_chk1 i (arg4.view.readAt (Elt F) (Rect.unit (s := S1x1x16) ![0, 0, 0] S1x1x1.size inb_S1x1x16_S1x1x1_0_0_0).toLoadRect (harg4.unread x3) (Shape.Idx.first (numel1_S1x1x1.symm ▸ Nat.one_pos)))) (k0_hw2 : k0_chk2 i (arg4.view.readAt (Elt F) (Rect.unit (s := S1x1x16) ![0, 0, 1] S1x1x1.size inb_S1x1x16_S1x1x1_0_0_1).toLoadRect (harg4.unread x3) (Shape.Idx.first (numel1_S1x1x1.symm ▸ Nat.one_pos)))) (k0_hw3 : k0_chk3 i (arg4.view.readAt (Elt F) (Rect.unit (s := S1x1x16) ![0, 0, 2] S1x1x1.size inb_S1x1x16_S1x1x1_0_0_2).toLoadRect (harg4.unread x3) (Shape.Idx.first (numel1_S1x1x1.symm ▸ Nat.one_pos)))) (k0_hw4 : k0_chk4 i (arg4.view.readAt (Elt F) (Rect.unit (s := S1x1x16) ![0, 0, 3] S1x1x1.size inb_S1x1x16_S1x1x1_0_0_3).toLoadRect (harg4.unread x3) (Shape.Idx.first (numel1_S1x1x1.symm ▸ Nat.one_pos)))) (k0_hw5 : k0_chk5 i (arg4.view.readAt (Elt F) (Rect.unit (s := S1x1x16) ![0, 0, 4] S1x1x1.size inb_S1x1x16_S1x1x1_0_0_4).toLoadRect (harg4.unread x3) (Shape.Idx.first (numel1_S1x1x1.symm ▸ Nat.one_pos)))) (k0_hw6 : k0_chk6 i (arg4.view.readAt (Elt F) (Rect.unit (s := S1x1x16) ![0, 0, 5] S1x1x1.size inb_S1x1x16_S1x1x1_0_0_5).toLoadRect (harg4.unread x3) (Shape.Idx.first (numel1_S1x1x1.symm ▸ Nat.one_pos)))) (k0_hw7 : k0_chk7 i (arg4.view.readAt (Elt F) (Rect.unit (s := S1x1x16) ![0, 0, 6] S1x1x1.size inb_S1x1x16_S1x1x1_0_0_6).toLoadRect (harg4.unread x3) (Shape.Idx.first (numel1_S1x1x1.symm ▸ Nat.one_pos)))) (k0_hw8 : k0_chk8 i (arg4.view.readAt (Elt F) (Rect.unit (s := S1x1x16) ![0, 0, 7] S1x1x1.size inb_S1x1x16_S1x1x1_0_0_7).toLoadRect (harg4.unread x3) (Shape.Idx.first (numel1_S1x1x1.symm ▸ Nat.one_pos)))) (k0_hw9 : k0_chk9 i (arg4.view.readAt (Elt F) (Rect.unit (s := S1x1x16) ![0, 0, 8] S1x1x1.size inb_S1x1x16_S1x1x1_0_0_8).toLoadRect (harg4.unread x3) (Shape.Idx.first (numel1_S1x1x1.symm ▸ Nat.one_pos)))) (k0_hw10 : k0_chk10 i (arg4.view.readAt (Elt F) (Rect.unit (s := S1x1x16) ![0, 0, 9] S1x1x1.size inb_S1x1x16_S1x1x1_0_0_9).toLoadRect (harg4.unread x3) (Shape.Idx.first (numel1_S1x1x1.symm ▸ Nat.one_pos)))) (k0_hw11 : k0_chk11 i (arg4.view.readAt (Elt F) (Rect.unit (s := S1x1x16) ![0, 0, 10] S1x1x1.size inb_S1x1x16_S1x1x1_0_0_10).toLoadRect (harg4.unread x3) (Shape.Idx.first (numel1_S1x1x1.symm ▸ Nat.one_pos)))) (k0_hw12 : k0_chk12 i (arg4.view.readAt (Elt F) (Rect.unit (s := S1x1x16) ![0, 0, 11] S1x1x1.size inb_S1x1x16_S1x1x1_0_0_11).toLoadRect (harg4.unread x3) (Shape.Idx.first (numel1_S1x1x1.symm ▸ Nat.one_pos)))) (k0_hw13 : k0_chk13 i (arg4.view.readAt (Elt F) (Rect.unit (s := S1x1x16) ![0, 0, 12] S1x1x1.size inb_S1x1x16_S1x1x1_0_0_12).toLoadRect (harg4.unread x3) (Shape.Idx.first (numel1_S1x1x1.symm ▸ Nat.one_pos)))) (k0_hw14 : k0_chk14 i (arg4.view.readAt (Elt F) (Rect.unit (s := S1x1x16) ![0, 0, 13] S1x1x1.size inb_S1x1x16_S1x1x1_0_0_13).toLoadRect (harg4.unread x3) (Shape.Idx.first (numel1_S1x1x1.symm ▸ Nat.one_pos)))) (k0_hw15 : k0_chk15 i (arg4.view.readAt (Elt F) (Rect.unit (s := S1x1x16) ![0, 0, 14] S1x1x1.size inb_S1x1x16_S1x1x1_0_0_14).toLoadRect (harg4.unread x3) (Shape.Idx.first (numel1_S1x1x1.symm ▸ Nat.one_pos)))) (k0_hw16 : k0_chk16 i (arg4.view.readAt (Elt F) (Rect.unit (s := S1x1x16) ![0, 0, 15] S1x1x1.size inb_S1x1x16_S1x1x1_0_0_15).toLoadRect (harg4.unread x3) (Shape.Idx.first (numel1_S1x1x1.symm ▸ Nat.one_pos)))) :
    (kernelRun0_A c i arg1 harg1 arg2 harg2 arg3 harg3 arg4 harg4 arg5 harg5 arg6 harg6 arg7 harg7 hc0 hc1 x0 x1 x2 x3 k0_hw1 k0_hw2 k0_hw3 k0_hw4 k0_hw5 k0_hw6 k0_hw7 k0_hw8 k0_hw9 k0_hw10 k0_hw11 k0_hw12 k0_hw13 k0_hw14 k0_hw15 k0_hw16).2.1
      = [maskPiece (gtAt arg3 harg3 x2) 16, maskPiece (gtAt arg3 harg3 x2) 15, maskPiece (gtAt arg3 harg3 x2) 14, maskPiece (gtAt arg3 harg3 x2) 13, maskPiece (gtAt arg3 harg3 x2) 12, maskPiece (gtAt arg3 harg3 x2) 11, maskPiece (gtAt arg3 harg3 x2) 10, maskPiece (gtAt arg3 harg3 x2) 9, maskPiece (gtAt arg3 harg3 x2) 8, maskPiece (gtAt arg3 harg3 x2) 7, maskPiece (gtAt arg3 harg3 x2) 6, maskPiece (gtAt arg3 harg3 x2) 5, maskPiece (gtAt arg3 harg3 x2) 4, maskPiece (gtAt arg3 harg3 x2) 3, maskPiece (gtAt arg3 harg3 x2) 2, maskPiece (gtAt arg3 harg3 x2) 1, maskPiece (gtAt arg3 harg3 x2) 0] := by
  sl_kernel_rfl

/-- What an even point stores in the second scratch. -/
theorem even_logits (c : Dev nD) (i : grid0.Coords) (arg1 : Memref sig .tc .vmem S1x68x64x64 .f32) (harg1 : arg1.IsWhole) (arg2 : Memref sig .tc .vmem S1x80x64x64 .f32) (harg2 : arg2.IsWhole) (arg3 : Memref sig .tc .smem S1x16x4 .f32) (harg3 : arg3.IsWhole) (arg4 : Memref sig .tc .smem S1x1x16 .i32) (harg4 : arg4.IsWhole) (arg5 : Memref sig .tc .vmem S1x1x128 .f32) (harg5 : arg5.IsWhole) (arg6 : Memref sig .tc .vmem S17x32x128 .f32) (harg6 : arg6.IsWhole) (arg7 : Memref sig .tc .vmem S16x32x128 .f32) (harg7 : arg7.IsWhole) (hc0 : cond0_0 i) (hc1 : ¬cond0_1 i)
    (x0 : Vec F S1x68x64x64 .f32) (x1 : Vec F S1x80x64x64 .f32) (x2 : Vec F S1x16x4 .f32) (x3 : Vec F S1x1x16 .i32) (k0_hw1 : k0_chk1 i (arg4.view.readAt (Elt F) (Rect.unit (s := S1x1x16) ![0, 0, 0] S1x1x1.size inb_S1x1x16_S1x1x1_0_0_0).toLoadRect (harg4.unread x3) (Shape.Idx.first (numel1_S1x1x1.symm ▸ Nat.one_pos)))) (k0_hw2 : k0_chk2 i (arg4.view.readAt (Elt F) (Rect.unit (s := S1x1x16) ![0, 0, 1] S1x1x1.size inb_S1x1x16_S1x1x1_0_0_1).toLoadRect (harg4.unread x3) (Shape.Idx.first (numel1_S1x1x1.symm ▸ Nat.one_pos)))) (k0_hw3 : k0_chk3 i (arg4.view.readAt (Elt F) (Rect.unit (s := S1x1x16) ![0, 0, 2] S1x1x1.size inb_S1x1x16_S1x1x1_0_0_2).toLoadRect (harg4.unread x3) (Shape.Idx.first (numel1_S1x1x1.symm ▸ Nat.one_pos)))) (k0_hw4 : k0_chk4 i (arg4.view.readAt (Elt F) (Rect.unit (s := S1x1x16) ![0, 0, 3] S1x1x1.size inb_S1x1x16_S1x1x1_0_0_3).toLoadRect (harg4.unread x3) (Shape.Idx.first (numel1_S1x1x1.symm ▸ Nat.one_pos)))) (k0_hw5 : k0_chk5 i (arg4.view.readAt (Elt F) (Rect.unit (s := S1x1x16) ![0, 0, 4] S1x1x1.size inb_S1x1x16_S1x1x1_0_0_4).toLoadRect (harg4.unread x3) (Shape.Idx.first (numel1_S1x1x1.symm ▸ Nat.one_pos)))) (k0_hw6 : k0_chk6 i (arg4.view.readAt (Elt F) (Rect.unit (s := S1x1x16) ![0, 0, 5] S1x1x1.size inb_S1x1x16_S1x1x1_0_0_5).toLoadRect (harg4.unread x3) (Shape.Idx.first (numel1_S1x1x1.symm ▸ Nat.one_pos)))) (k0_hw7 : k0_chk7 i (arg4.view.readAt (Elt F) (Rect.unit (s := S1x1x16) ![0, 0, 6] S1x1x1.size inb_S1x1x16_S1x1x1_0_0_6).toLoadRect (harg4.unread x3) (Shape.Idx.first (numel1_S1x1x1.symm ▸ Nat.one_pos)))) (k0_hw8 : k0_chk8 i (arg4.view.readAt (Elt F) (Rect.unit (s := S1x1x16) ![0, 0, 7] S1x1x1.size inb_S1x1x16_S1x1x1_0_0_7).toLoadRect (harg4.unread x3) (Shape.Idx.first (numel1_S1x1x1.symm ▸ Nat.one_pos)))) (k0_hw9 : k0_chk9 i (arg4.view.readAt (Elt F) (Rect.unit (s := S1x1x16) ![0, 0, 8] S1x1x1.size inb_S1x1x16_S1x1x1_0_0_8).toLoadRect (harg4.unread x3) (Shape.Idx.first (numel1_S1x1x1.symm ▸ Nat.one_pos)))) (k0_hw10 : k0_chk10 i (arg4.view.readAt (Elt F) (Rect.unit (s := S1x1x16) ![0, 0, 9] S1x1x1.size inb_S1x1x16_S1x1x1_0_0_9).toLoadRect (harg4.unread x3) (Shape.Idx.first (numel1_S1x1x1.symm ▸ Nat.one_pos)))) (k0_hw11 : k0_chk11 i (arg4.view.readAt (Elt F) (Rect.unit (s := S1x1x16) ![0, 0, 10] S1x1x1.size inb_S1x1x16_S1x1x1_0_0_10).toLoadRect (harg4.unread x3) (Shape.Idx.first (numel1_S1x1x1.symm ▸ Nat.one_pos)))) (k0_hw12 : k0_chk12 i (arg4.view.readAt (Elt F) (Rect.unit (s := S1x1x16) ![0, 0, 11] S1x1x1.size inb_S1x1x16_S1x1x1_0_0_11).toLoadRect (harg4.unread x3) (Shape.Idx.first (numel1_S1x1x1.symm ▸ Nat.one_pos)))) (k0_hw13 : k0_chk13 i (arg4.view.readAt (Elt F) (Rect.unit (s := S1x1x16) ![0, 0, 12] S1x1x1.size inb_S1x1x16_S1x1x1_0_0_12).toLoadRect (harg4.unread x3) (Shape.Idx.first (numel1_S1x1x1.symm ▸ Nat.one_pos)))) (k0_hw14 : k0_chk14 i (arg4.view.readAt (Elt F) (Rect.unit (s := S1x1x16) ![0, 0, 13] S1x1x1.size inb_S1x1x16_S1x1x1_0_0_13).toLoadRect (harg4.unread x3) (Shape.Idx.first (numel1_S1x1x1.symm ▸ Nat.one_pos)))) (k0_hw15 : k0_chk15 i (arg4.view.readAt (Elt F) (Rect.unit (s := S1x1x16) ![0, 0, 14] S1x1x1.size inb_S1x1x16_S1x1x1_0_0_14).toLoadRect (harg4.unread x3) (Shape.Idx.first (numel1_S1x1x1.symm ▸ Nat.one_pos)))) (k0_hw16 : k0_chk16 i (arg4.view.readAt (Elt F) (Rect.unit (s := S1x1x16) ![0, 0, 15] S1x1x1.size inb_S1x1x16_S1x1x1_0_0_15).toLoadRect (harg4.unread x3) (Shape.Idx.first (numel1_S1x1x1.symm ▸ Nat.one_pos))))
    (hl : ∀ g : Fin 16, ∀ a, (![0, (Scalar.indexCast (labAt arg4 harg4 x3 g) : Index).toNat, 0, 0] : Fin 4 → ℕ) a + S1x1x64x64.size a ≤ S1x80x64x64.size a) :
    (kernelRun0_A c i arg1 harg1 arg2 harg2 arg3 harg3 arg4 harg4 arg5 harg5 arg6 harg6 arg7 harg7 hc0 hc1 x0 x1 x2 x3 k0_hw1 k0_hw2 k0_hw3 k0_hw4 k0_hw5 k0_hw6 k0_hw7 k0_hw8 k0_hw9 k0_hw10 k0_hw11 k0_hw12 k0_hw13 k0_hw14 k0_hw15 k0_hw16).2.2.1
      = [logitPiece (fun g => planeAt arg2 harg2 x1 (labAt arg4 harg4 x3 g) (hl g)) 15, logitPiece (fun g => planeAt arg2 harg2 x1 (labAt arg4 harg4 x3 g) (hl g)) 14, logitPiece (fun g => planeAt arg2 harg2 x1 (labAt arg4 harg4 x3 g) (hl g)) 13, logitPiece (fun g => planeAt arg2 harg2 x1 (labAt arg4 harg4 x3 g) (hl g)) 12, logitPiece (fun g => planeAt arg2 harg2 x1 (labAt arg4 harg4 x3 g) (hl g)) 11, logitPiece (fun g => planeAt arg2 harg2 x1 (labAt arg4 harg4 x3 g) (hl g)) 10, logitPiece (fun g => planeAt arg2 harg2 x1 (labAt arg4 harg4 x3 g) (hl g)) 9, logitPiece (fun g => planeAt arg2 harg2 x1 (labAt arg4 harg4 x3 g) (hl g)) 8, logitPiece (fun g => planeAt arg2 harg2 x1 (labAt arg4 harg4 x3 g) (hl g)) 7, logitPiece (fun g => planeAt arg2 harg2 x1 (labAt arg4 harg4 x3 g) (hl g)) 6, logitPiece (fun g => planeAt arg2 harg2 x1 (labAt arg4 harg4 x3 g) (hl g)) 5, logitPiece (fun g => planeAt arg2 harg2 x1 (labAt arg4 harg4 x3 g) (hl g)) 4, logitPiece (fun g => planeAt arg2 harg2 x1 (labAt arg4 harg4 x3 g) (hl g)) 3, logitPiece (fun g => planeAt arg2 harg2 x1 (labAt arg4 harg4 x3 g) (hl g)) 2, logitPiece (fun g => planeAt arg2 harg2 x1 (labAt arg4 harg4 x3 g) (hl g)) 1, logitPiece (fun g => planeAt arg2 harg2 x1 (labAt arg4 harg4 x3 g) (hl g)) 0] := by
  sl_kernel_rfl

end Cert.Form

end
-- ==== Proof.FormOdd.lean ====
module

public import proofs.«01_k».proof.Proof.Form

@[expose] public section

noncomputable section

namespace Cert.Form

open Cert.KernelIdeal Cert.KernelIdeal.Gen
open Idealize.ShloMosaic Idealize.ShloMosaic.TcCoe Idealize.ShloMosaic.Tactic

variable {F : FTy → Type} [FloatOps F]

/-- What an odd point stores: what the block held, with the point's part added everywhere. -/
theorem odd_pieces (c : Dev nD) (i : grid0.Coords) (arg1 : Memref sig .tc .vmem S1x68x64x64 .f32) (harg1 : arg1.IsWhole) (arg2 : Memref sig .tc .vmem S1x80x64x64 .f32) (harg2 : arg2.IsWhole) (arg3 : Memref sig .tc .smem S1x16x4 .f32) (harg3 : arg3.IsWhole) (arg4 : Memref sig .tc .smem S1x1x16 .i32) (harg4 : arg4.IsWhole) (arg5 : Memref sig .tc .vmem S1x1x128 .f32) (harg5 : arg5.IsWhole) (arg6 : Memref sig .tc .vmem S17x32x128 .f32) (harg6 : arg6.IsWhole) (arg7 : Memref sig .tc .vmem S16x32x128 .f32) (harg7 : arg7.IsWhole) (hc0 : ¬cond0_0 i) (hc1 : cond0_1 i)
    (x0 : Vec F S1x68x64x64 .f32) (x1 : Vec F S1x80x64x64 .f32) (x2 : Vec F S1x16x4 .f32) (x3 : Vec F S1x1x16 .i32) (xo4 : Vec F S1x1x128 .f32) (xs0 : Vec F S17x32x128 .f32) (xs1 : Vec F S16x32x128 .f32) :
    (kernelRun0_B c i arg1 harg1 arg2 harg2 arg3 harg3 arg4 harg4 arg5 harg5 arg6 harg6 arg7 harg7 hc0 hc1 x0 x1 x2 x3 xo4 xs0 xs1).1
      = [⟨Rect.unit (s := S1x1x128) ![0, 0, 0] S1x1x128.size inb_S1x1x128_S1x1x128_0_0_0,
          addf (shapeCast S1x1x128 (arg5.view.readAt (Elt F) (Rect.unit (s := S1x1x128) ![0, 0, 0] S1x1x128.size inb_S1x1x128_S1x1x128_0_0_0).toLoadRect (harg5.unread xo4)) shapeCasts_S1x1x128_S1x1x128)
            (broadcast S1x1x128 (oddPart (gtAt arg3 harg3 x2) (binAt arg1 harg1 x0) (maskAt arg6 harg6 xs0) (logitAt arg7 harg7 xs1)))⟩] := by
  sl_kernel_rfl

end Cert.Form

end
-- ==== Proof.Carry.lean ====
module

public import proofs.«01_k».proof.Proof.FormEven
public import proofs.«01_k».proof.Proof.FormOdd
public import proofs.«01_k».proof.Proof.Lane
public import Idealize.ShloMosaic.Lib.Pipeline.ValueKit.Tiles

@[expose] public section

set_option maxRecDepth 16384

noncomputable section

namespace Cert.Form

open Cert.KernelIdeal Cert.KernelIdeal.Gen
open Idealize.ShloMosaic Idealize.ShloMosaic.TcCoe Idealize.ShloMosaic.Tactic

/-- A place inside a unit rectangle. -/
theorem unit_val {S : Shape} (off size : Fin S.rank → ℕ) (h : ∀ a, off a + size a ≤ S.size a) (y : (Rect.unit (s := S) off size h).shape.Idx)
    (a : Fin S.rank) : ((Rect.unit (s := S) off size h).idx y a).val = off a + (y a).val := by
  show off a + 1 * (y a).val = _
  omega

/-- A plane with a leading axis of length one, without it. -/
theorem drop_apply {α : EltTy} (v : Vec Ideal S1x32x128 α) (s : Fin 32) (l : Fin 128) :
    shapeCast S32x128 v shapeCasts_S1x32x128_S32x128 (ix2 s l) = v (ix3 0 s l) := by
  pointwise

/-- A plane given a leading axis of length one. -/
theorem lift_apply {α : EltTy} (v : Vec Ideal S32x128 α) (s : Fin 32) (l : Fin 128) :
    shapeCast S1x32x128 v shapeCasts_S32x128_S1x32x128 (ix3 0 s l) = v (ix2 s l) := by
  pointwise

/-- A box coordinate is the block's entry. -/
theorem gtAt_apply (arg3 : Memref sig .tc .smem S1x16x4 .f32) (h3 : arg3.IsWhole) (x : Vec Ideal S1x16x4 .f32) (g : Fin 16) (d : Fin 4) :
    gtAt arg3 h3 x g.val d.val = x (ix3 0 g d) := by
  unfold gtAt
  rw [dif_pos ⟨g.isLt, d.isLt⟩]
  simp only [View.readAt_apply, Memref.IsWhole.read_unread]
  refine congrArg x (funext fun a => Fin.ext ((unit_val _ _ _ _ a).trans ?_))
  fin_cases a <;> simp [ix4, ix3, Shape.Idx.first]

/-- A label is the block's entry. -/
theorem labAt_apply (arg4 : Memref sig .tc .smem S1x1x16 .i32) (h4 : arg4.IsWhole) (x : Vec Ideal S1x1x16 .i32) (g : Fin 16) :
    labAt arg4 h4 x g = x (ix3 0 0 g) := by
  unfold labAt
  simp only [View.readAt_apply, Memref.IsWhole.read_unread]
  refine congrArg x (funext fun a => Fin.ext ((unit_val _ _ _ _ a).trans ?_))
  fin_cases a <;> simp [ix4, ix3, Shape.Idx.first]

/-- A bin plane at a lane is the block at that lane's cell. -/
theorem binAt_apply (arg1 : Memref sig .tc .vmem S1x68x64x64 .f32) (h1 : arg1.IsWhole) (x : Vec Ideal S1x68x64x64 .f32) (k : Fin 68)
    (s : Fin 32) (l : Fin 128) :
    binAt arg1 h1 x k.val (ix2 s l) = x (ix4 0 k ⟨s.val + 32 * (l.val / 64), by omega⟩ ⟨l.val % 64, by omega⟩) := by
  unfold binAt
  rw [dif_pos k.isLt, Cert.Lane.packed_apply]
  simp only [View.readAt_apply, Memref.IsWhole.read_unread]
  refine congrArg x (funext fun a => Fin.ext ((unit_val _ _ _ _ a).trans ?_))
  fin_cases a <;> simp [ix4, ix3, Shape.Idx.first]

/-- A class plane at a lane is the block at that lane's cell. -/
theorem clsAt_apply (arg2 : Memref sig .tc .vmem S1x80x64x64 .f32) (h2 : arg2.IsWhole) (x : Vec Ideal S1x80x64x64 .f32) (k : Fin 80)
    (s : Fin 32) (l : Fin 128) :
    clsAt arg2 h2 x k.val (ix2 s l) = x (ix4 0 k ⟨s.val + 32 * (l.val / 64), by omega⟩ ⟨l.val % 64, by omega⟩) := by
  unfold clsAt
  rw [dif_pos k.isLt, Cert.Lane.packed_apply]
  simp only [View.readAt_apply, Memref.IsWhole.read_unread]
  refine congrArg x (funext fun a => Fin.ext ((unit_val _ _ _ _ a).trans ?_))
  fin_cases a <;> simp [ix4, ix3, Shape.Idx.first]

/-- The plane of a class below 80 at a lane is the block at that class and that lane's cell. -/
theorem planeAt_apply (arg2 : Memref sig .tc .vmem S1x80x64x64 .f32) (h2 : arg2.IsWhole) (x : Vec Ideal S1x80x64x64 .f32) (w : BitVec 32)
    (h) (hw : w.toNat < 80) (s : Fin 32) (l : Fin 128) :
    planeAt arg2 h2 x w h (ix2 s l) = x (ix4 0 ⟨w.toNat, hw⟩ ⟨s.val + 32 * (l.val / 64), by omega⟩ ⟨l.val % 64, by omega⟩) := by
  unfold planeAt
  rw [Cert.Lane.packed_apply]
  simp only [View.readAt_apply, Memref.IsWhole.read_unread]
  refine congrArg x (funext fun a => Fin.ext ((unit_val _ _ _ _ a).trans ?_))
  fin_cases a <;> simp [ix4, ix3, Shape.Idx.first, Scalar.indexCast]

/-- A plane of the first scratch at a lane. -/
theorem maskAt_apply (arg6 : Memref sig .tc .vmem S17x32x128 .f32) (h6 : arg6.IsWhole) (x : Vec Ideal S17x32x128 .f32) (g : Fin 17)
    (s : Fin 32) (l : Fin 128) : maskAt arg6 h6 x g.val (ix2 s l) = x (ix3 g s l) := by
  unfold maskAt
  rw [dif_pos g.isLt]
  rw [drop_apply]
  simp only [View.readAt_apply, Memref.IsWhole.read_unread]
  refine congrArg x (funext fun a => Fin.ext ((unit_val _ _ _ _ a).trans ?_))
  fin_cases a <;> simp [ix4, ix3, Shape.Idx.first]

/-- A plane of the second scratch at a lane. -/
theorem logitAt_apply (arg7 : Memref sig .tc .vmem S16x32x128 .f32) (h7 : arg7.IsWhole) (x : Vec Ideal S16x32x128 .f32) (g : Fin 16)
    (s : Fin 32) (l : Fin 128) : logitAt arg7 h7 x g.val (ix2 s l) = x (ix3 g s l) := by
  unfold logitAt
  rw [dif_pos g.isLt]
  rw [drop_apply]
  simp only [View.readAt_apply, Memref.IsWhole.read_unread]
  refine congrArg x (funext fun a => Fin.ext ((unit_val _ _ _ _ a).trans ?_))
  fin_cases a <;> simp [ix4, ix3, Shape.Idx.first]

/-- The piece of plane `g` says of a place it holds what that plane says there. -/
theorem maskPiece_tile (q : ℕ → ℕ → Ideal .f32) (g k : Fin 17) (s : Fin 32) (l : Fin 128) (y : S1x32x128.Idx)
    (e : (maskPiece (F := Ideal) q g).1.emb y = ix3 k s l) :
    (maskPiece (F := Ideal) q g).2 y = keptMask q k.val (ix2 s l) := by
  have e0 : (((maskPiece (F := Ideal) q g).1.emb y) 0).val = k.val := by rw [e]; rfl
  have e1 : (((maskPiece (F := Ideal) q g).1.emb y) 1).val = s.val := by rw [e]; rfl
  have e2 : (((maskPiece (F := Ideal) q g).1.emb y) 2).val = l.val := by rw [e]; rfl
  change g.val + 1 * (y 0).val = k.val at e0
  change 0 + 1 * (y 1).val = s.val at e1
  change 0 + 1 * (y 2).val = l.val at e2
  have b0 : (y 0).val < 1 := (y 0).isLt
  have hg : g = k := Fin.ext (by omega)
  have hy : y = ix3 (0 : Fin 1) s l := by
    funext a
    apply Fin.ext
    fin_cases a
    · show (y 0).val = 0
      omega
    · show (y 1).val = s.val
      omega
    · show (y 2).val = l.val
      omega
  subst hg hy
  exact lift_apply (α := .f32) (keptMask q g.val) s l

/-- The same of the second scratch. -/
theorem logitPiece_tile (p : Fin 16 → FVec Ideal S32x128 .f32) (g k : Fin 16) (s : Fin 32) (l : Fin 128) (y : S1x32x128.Idx)
    (e : (logitPiece (F := Ideal) p g).1.emb y = ix3 k s l) :
    (logitPiece (F := Ideal) p g).2 y = p k (ix2 s l) := by
  have e0 : (((logitPiece (F := Ideal) p g).1.emb y) 0).val = k.val := by rw [e]; rfl
  have e1 : (((logitPiece (F := Ideal) p g).1.emb y) 1).val = s.val := by rw [e]; rfl
  have e2 : (((logitPiece (F := Ideal) p g).1.emb y) 2).val = l.val := by rw [e]; rfl
  change g.val + 1 * (y 0).val = k.val at e0
  change 0 + 1 * (y 1).val = s.val at e1
  change 0 + 1 * (y 2).val = l.val at e2
  have b0 : (y 0).val < 1 := (y 0).isLt
  have hg : g = k := Fin.ext (by omega)
  have hy : y = ix3 (0 : Fin 1) s l := by
    funext a
    apply Fin.ext
    fin_cases a
    · show (y 0).val = 0
      omega
    · show (y 1).val = s.val
      omega
    · show (y 2).val = l.val
      omega
  subst hg hy
  exact lift_apply (α := .f32) (p g) s l

/-- After an even point the first scratch holds, plane by plane, the matches of each box and last their number. -/
theorem carried_mask (m : (ℓ : Loc nD τ sig) → Buf (Elt Ideal) ℓ) (hH : Hyps m) (c : Dev nD) (t : Fin cfg0.N) (h0 : t.val % 2 = 0)
    (g : Fin 17) (s : Fin 32) (l : Fin 128) :
    (outsAt0 m hH c t.val t.isLt).2.1 (ix3 g s l)
      = keptMask (gtAt (ms0_2 t) (hs0_2 t) (iblk m c 2 t)) g.val (ix2 s l) := by
  rw [outsAt0_A m hH c t h0 (by omega)]
  dsimp only
  unfold sout0_A_0
  rw [View.read_writes_junk_eq_canon]
  refine View.canon_eq_of_allAt _ _ _ (scover0_A_0 _ _ _ _ _ _ _ _ _ _ _ _ _ _ _ _ _ _ _ _ _ _ _ _ _ _ _ _ _ _ _ _ _ _ _ _ _ _ _) ?_
  rw [even_masks]
  intro p hp y e
  simp only [List.mem_cons, List.not_mem_nil, or_false] at hp
  rcases hp with rfl | rfl | rfl | rfl | rfl | rfl | rfl | rfl | rfl | rfl | rfl | rfl | rfl | rfl | rfl | rfl | rfl <;> exact maskPiece_tile _ _ g s l y e

/-- After an even point the second scratch holds, plane by plane, the class plane that each label names. -/
theorem carried_logit (m : (ℓ : Loc nD τ sig) → Buf (Elt Ideal) ℓ) (hH : Hyps m) (c : Dev nD) (t : Fin cfg0.N) (h0 : t.val % 2 = 0)
    (hl : ∀ g : Fin 16, ∀ a, (![0, (Scalar.indexCast (labAt (ms0_3 t) (hs0_3 t) (iblk m c 3 t) g) : Index).toNat, 0, 0] : Fin 4 → ℕ) a
      + S1x1x64x64.size a ≤ S1x80x64x64.size a)
    (g : Fin 16) (s : Fin 32) (l : Fin 128) :
    (outsAt0 m hH c t.val t.isLt).2.2 (ix3 g s l)
      = planeAt (ms0_1 t) (hs0_1 t) (iblk m c 1 t) (labAt (ms0_3 t) (hs0_3 t) (iblk m c 3 t) g) (hl g) (ix2 s l) := by
  rw [outsAt0_A m hH c t h0 (by omega)]
  dsimp only
  unfold sout0_A_1
  rw [View.read_writes_junk_eq_canon]
  refine View.canon_eq_of_allAt _ _ _ (scover0_A_1 _ _ _ _ _ _ _ _ _ _ _ _ _ _ _ _ _ _ _ _ _ _ _ _ _ _ _ _ _ _ _ _ _ _ _ _ _ _ _) ?_
  rw [even_logits (hl := hl)]
  intro p hp y e
  simp only [List.mem_cons, List.not_mem_nil, or_false] at hp
  rcases hp with rfl | rfl | rfl | rfl | rfl | rfl | rfl | rfl | rfl | rfl | rfl | rfl | rfl | rfl | rfl | rfl <;>
    exact logitPiece_tile (fun g => planeAt (ms0_1 t) (hs0_1 t) (iblk m c 1 t) (labAt (ms0_3 t) (hs0_3 t) (iblk m c 3 t) g) (hl g)) _ g s l y e

/-- After an even point the result's block holds the first part of the loss. -/
theorem carried_out (m : (ℓ : Loc nD τ sig) → Buf (Elt Ideal) ℓ) (hH : Hyps m) (c : Dev nD) (t : Fin cfg0.N) (h0 : t.val % 2 = 0) :
    (outsAt0 m hH c t.val t.isLt).1
      = evenOut (gtAt (ms0_2 t) (hs0_2 t) (iblk m c 2 t)) (clsAt (ms0_1 t) (hs0_1 t) (iblk m c 1 t)) := by
  rw [outsAt0_A m hH c t h0 (by omega)]
  dsimp only
  unfold out0_A_4
  rw [View.read_writes_junk_eq_canon, even_out]
  exact View.canon_cons_unit_lit _ _ _ (by decide)

/-- After an odd point the result's block holds what the point before left there and the second part of the loss. -/
theorem final_out (m : (ℓ : Loc nD τ sig) → Buf (Elt Ideal) ℓ) (hH : Hyps m) (c : Dev nD) (t : Fin cfg0.N) (h1 : t.val % 2 = 1)
    (j : Fin 128) :
    (outsAt0 m hH c t.val t.isLt).1 (ix3 0 0 j)
      = (outsAt0 m hH c (t.val - 1) (Nat.lt_of_le_of_lt (Nat.sub_le _ _) t.isLt)).1 (ix3 0 0 j)
        + oddPart (gtAt (ms0_2 t) (hs0_2 t) (iblk m c 2 t)) (binAt (ms0_0 t) (hs0_0 t) (iblk m c 0 t))
          (maskAt scM0_0 (Memref.isWhole_whole _) (outsAt0 m hH c (t.val - 1) (Nat.lt_of_le_of_lt (Nat.sub_le _ _) t.isLt)).2.1)
          (logitAt scM0_1 (Memref.isWhole_whole _) (outsAt0 m hH c (t.val - 1) (Nat.lt_of_le_of_lt (Nat.sub_le _ _) t.isLt)).2.2) := by
  rw [outsAt0_B m hH c t (by omega) h1]
  dsimp only
  unfold out0_B_4
  rw [View.read_writes_junk_eq_canon, odd_pieces, View.canon_cons_unit_lit _ _ _ (by decide)]
  show _ + _ = _ + _
  congr 1
  refine (congrFun (shapeCast_self (s := S1x1x128) _ _) _).trans ?_
  simp only [View.readAt_apply, Memref.IsWhole.read_unread]
  refine congrArg _ (funext fun a => Fin.ext ((unit_val _ _ _ _ a).trans ?_))
  fin_cases a <;> simp [ix3]

end Cert.Form

end
-- ==== Proof.Launch.lean ====
module

public import proofs.«01_k».proof.Proof.Args
public import proofs.«01_k».proof.Proof.Carry
public import proofs.«01_k».proof.Proof.LabelsIdeal
public import Idealize.ShloMosaic.Lib.Pipeline.ValueKit.Geometry
public import Idealize.ShloMosaic.Lib.IdealHost
public import Idealize.ShloMosaic.Lib.Pointwise

@[expose] public section

set_option maxRecDepth 16384

noncomputable section

namespace Cert.Launch

open Cert.KernelIdeal Cert.KernelIdeal.Gen Cert.Form Cert.Cell
open Idealize.ShloMosaic Idealize.ShloMosaic.TcCoe Idealize.ShloMosaic.Tactic Idealize.SL.Sem

variable (m : (ℓ : Loc nD τ sig) → Buf (Elt Ideal) ℓ) (c : Dev nD)

/-- The arguments of a memory. -/
def args : Args where
  reg := m ((c : Thread nD τ).loc main_arg0)
  cls := m ((c : Thread nD τ).loc main_arg1)
  gt := m ((c : Thread nD τ).loc main_arg2)
  lab := m ((c : Thread nD τ).loc main_arg3)
  stride := m ((c : Thread nD τ).loc main_arg4)

theorem index0 : ∀ t : Fin cfg0.N, t.val % 2 = 1 → win0_0.index t = ![t.val / 2, 0, 0, 0] :=
  (by decide +kernel : ∀ t : Fin grid0.N, t.val % 2 = 1 → win0_0.index t = ![t.val / 2, 0, 0, 0])

theorem index1 : ∀ t : Fin cfg0.N, win0_1.index t = ![t.val / 2, 0, 0, 0] :=
  (by decide +kernel : ∀ t : Fin grid0.N, win0_1.index t = ![t.val / 2, 0, 0, 0])

theorem index2 : ∀ t : Fin cfg0.N, win0_2.index t = ![t.val / 2, 0, 0] :=
  (by decide +kernel : ∀ t : Fin grid0.N, win0_2.index t = ![t.val / 2, 0, 0])

theorem index3 : ∀ t : Fin cfg0.N, win0_3.index t = ![t.val / 2, 0, 0] :=
  (by decide +kernel : ∀ t : Fin grid0.N, win0_3.index t = ![t.val / 2, 0, 0])

theorem index4 : ∀ t : Fin cfg0.N, win0_4.index t = ![t.val / 2, 0, 0] :=
  (by decide +kernel : ∀ t : Fin grid0.N, win0_4.index t = ![t.val / 2, 0, 0])

/-- The image of a point. -/
def image (t : Fin cfg0.N) : Fin 8 := ⟨t.val / 2, by have h : t.val < 16 := lt_of_lt_of_eq t.isLt N_0; omega⟩

/-- The bin block of an odd point is the image's bins. -/
theorem block0 (t : Fin cfg0.N) (h : t.val % 2 = 1) (k : Fin 68) (r l : Fin 64) :
    iblk m c 0 t (ix4 (0 : Fin 1) k r l) = (args m c).reg (ix4 (image t) k r l) := by
  blk_simp [iblk]
  rw [V_main_arg0]
  show m ((c : Thread nD τ).loc main_arg0) _ = m ((c : Thread nD τ).loc main_arg0) _
  congr 1
  blk_ext [index0 t h]
  all_goals simp [ix4, image]

/-- The class block of a point is the image's class logits. -/
theorem block1 (t : Fin cfg0.N) (k : Fin 80) (r l : Fin 64) :
    iblk m c 1 t (ix4 (0 : Fin 1) k r l) = (args m c).cls (ix4 (image t) k r l) := by
  blk_simp [iblk]
  rw [V_main_arg1]
  show m ((c : Thread nD τ).loc main_arg1) _ = m ((c : Thread nD τ).loc main_arg1) _
  congr 1
  blk_ext [index1 t]
  all_goals simp [ix4, image]

/-- What the region reads as boxes: the boxes over the stride. -/
theorem region_boxes (b : Fin 8) (g : Fin 16) (d : Fin 4) :
    (V m c main_v2 : FVec Ideal S8x16x4 .f32) (ix3 b g d) = (args m c).box b g.val d.val := by
  have e : V m c main_v2 = (Host.divf (m ((c : Thread nD τ).loc main_arg2) : FVec Ideal S8x16x4 .f32)
      (broadcastInDim S8x16x4 ![] bcast_S_S8x16x4 (sitofp .f32 (m ((c : Thread nD τ).loc main_arg4) : IVec S_ 32)) : FVec Ideal S8x16x4 .f32)) := by
    show StableHlo.after (List.flatten [hostOps0]) (fun b => m (c, b)) (Proc.devRef .tc main_v2) = _
    simp only [List.flatten_cons, List.flatten_nil, List.append_nil, hostOps0]
    after_results
  rw [e, Args.box_apply]
  show Ideal.div _ ((((_ : BitVec 32)).toInt : ℝ) : EReal) = Ideal.div _ _
  congr 4
  exact congrArg (m ((c : Thread nD τ).loc main_arg4)) (funext fun a => a.elim0)

/-- The box block of a point is the image's boxes over the stride. -/
theorem block2 (t : Fin cfg0.N) (g : Fin 16) (d : Fin 4) :
    iblk m c 2 t (ix3 (0 : Fin 1) g d) = (args m c).box (image t) g.val d.val := by
  rw [← region_boxes]
  blk_simp [iblk]
  show (V m c main_v2 : FVec Ideal S8x16x4 .f32) _ = _
  congr 1
  blk_ext [index2 t]
  all_goals simp [ix3, image]

/-- The label block of a point is the image's labels. -/
theorem block3 (t : Fin cfg0.N) (g : Fin 16) :
    iblk m c 3 t (ix3 (0 : Fin 1) (0 : Fin 1) g) = (args m c).lab (ix2 (image t) g) := by
  blk_simp [iblk]
  rw [Cert.KernelIdealLabels.region_labels]
  have e : ∀ v : Vec Ideal S8x16 .i32, shapeCast S8x1x16 v shapeCasts_S8x16_S8x1x16 (ix3 (image t) 0 g) = v (ix2 (image t) g) := by
    intro v; pointwise
  refine Eq.trans ?_ (e _)
  congr 1
  blk_ext [index3 t]
  all_goals simp [ix3, image]

variable {m c}

/-- The launch's labels name classes when the arguments are good. -/
theorem named (h : ∀ c, (args m c).Good) : Cert.KernelIdealLabels.Named m := fun c y => (h c).lab_lt y

/-- The boxes that the body reads at a point. -/
theorem boxes (t : Fin cfg0.N) : gtAt (ms0_2 t) (hs0_2 t) (iblk m c 2 t) = (args m c).box (image t) := by
  funext g d
  by_cases h : g < 16 ∧ d < 4
  · exact (gtAt_apply _ _ _ ⟨g, h.1⟩ ⟨d, h.2⟩).trans (block2 m c t _ _)
  · unfold gtAt Args.box
    rw [dif_neg h, dif_neg h]
    exact Ideal.ofBits_zero_f32

/-- The first part of an image's loss, left by an even point. -/
theorem even_value (h : (args m c).Good) (hH : Hyps m) (t : Fin cfg0.N) (h0 : t.val % 2 = 0) (j : Fin 128) :
    (outsAt0 m hH c t.val t.isLt).1 (ix3 0 0 j)
      = ((cells fun r l => (∑ k ∈ Finset.range 80, focal ((args m c).logit (image t) r l k) 0)
          * (cellCount (ctr l) (ctr r) ((args m c).box (image t))
            + if cellCount (ctr l) (ctr r) ((args m c).box (image t)) = 0 then 1 else 0) : ℝ) : EReal) := by
  rw [carried_out m hH c t h0, boxes]
  refine Cert.Lane.evenOut_value _ _ _ (fun k hk s l => ?_) _
  rw [clsAt_apply _ _ _ ⟨k, hk⟩, block1]
  exact h.logit _ _ _ _

/-- The second part of an image's loss, added by an odd point. -/
theorem odd_value (h : (args m c).Good) (hN : Cert.KernelIdealLabels.Named m) (hH : Hyps m) (t : Fin cfg0.N) (h1 : t.val % 2 = 1) (u : Fin cfg0.N)
    (hu : u.val % 2 = 0) (e : image u = image t) :
    oddPart (gtAt (ms0_2 t) (hs0_2 t) (iblk m c 2 t)) (binAt (ms0_0 t) (hs0_0 t) (iblk m c 0 t))
        (maskAt scM0_0 (Memref.isWhole_whole _) (outsAt0 m hH c u.val u.isLt).2.1)
        (logitAt scM0_1 (Memref.isWhole_whole _) (outsAt0 m hH c u.val u.isLt).2.2)
      = ((15 / 2 * imgBox ((args m c).box (image t)) ((args m c).bin (image t))
      + (cells fun r l => ∑ g ∈ Finset.range 16, ind (ctr l) (ctr r) ((args m c).box (image t) g)
          * (focal ((args m c).logit (image t) r l ((args m c).label (image t) g))
              (overlap (ctr l) (ctr r) ((args m c).bin (image t) r l) ((args m c).box (image t) g))
            - focal ((args m c).logit (image t) r l ((args m c).label (image t) g)) 0))
      + 3 / 2 * (imgDfl ((args m c).box (image t)) ((args m c).bin (image t)) / (imgCount ((args m c).box (image t)) * 4)) : ℝ) : EReal) := by
  rw [boxes]
  refine Cert.Lane.oddPart_value _ _ _ _ _ _ _ (fun k hk s l => ?_) (fun g hg s l => ?_) (fun s l => ?_) (fun g hg s l => ?_) (h.some_match _)
  · rw [binAt_apply _ _ _ ⟨k, hk⟩, block0 m c t h1]
    exact h.bin _ _ _ _
  · rw [maskAt_apply _ _ _ ⟨g, by omega⟩, carried_mask m hH c u hu, boxes, e]
    unfold keptMask
    rw [if_neg (show g ≠ 16 by omega)]
    exact Cert.Lane.matched_apply _ _ _ _ (Cert.Lane.cx_apply s l) (Cert.Lane.cy_apply s l) g
  · refine (maskAt_apply _ _ _ (16 : Fin 17) _ _).trans ?_
    rw [carried_mask m hH c u hu, boxes, e]
    exact Cert.Lane.matches_apply _ _ _ _ (Cert.Lane.cx_apply s l) (Cert.Lane.cy_apply s l)
  · have el : labAt (ms0_3 u) (hs0_3 u) (iblk m c 3 u) ⟨g, hg⟩ = (args m c).lab (ix2 (image u) ⟨g, hg⟩) :=
      (labAt_apply _ _ _ _).trans (block3 m c u _)
    have hb : ∀ g : Fin 16, (labAt (ms0_3 u) (hs0_3 u) (iblk m c 3 u) g).toNat < 80 := fun g => by
      rw [labAt_apply]; exact Cert.KernelIdealLabels.below hN c u _
    rw [logitAt_apply _ _ _ ⟨g, hg⟩, carried_logit m hH c u hu (fun g => Cert.KernelIdealLabels.fits _ (hb g)),
      planeAt_apply _ _ _ _ _ (hb _), block1, h.logit, ← e]
    congr 2
    show (labAt (ms0_3 u) (hs0_3 u) (iblk m c 3 u) ⟨g, hg⟩).toNat = _
    rw [el]
    exact (Args.label_apply _ ⟨g, hg⟩).symm

/-- After an odd point every entry of the result's block is the image's loss. -/
theorem image_value (h : (args m c).Good) (hN : Cert.KernelIdealLabels.Named m) (hH : Hyps m) (t : Fin cfg0.N) (h1 : t.val % 2 = 1) (j : Fin 128) :
    (outsAt0 m hH c t.val t.isLt).1 (ix3 0 0 j)
      = ((imgLoss ((args m c).box (image t)) ((args m c).bin (image t)) ((args m c).logit (image t)) ((args m c).label (image t)) : ℝ) : EReal) := by
  have hu : t.val - 1 < cfg0.N := Nat.lt_of_le_of_lt (Nat.sub_le _ _) t.isLt
  have e : image ⟨t.val - 1, hu⟩ = image t := Fin.ext (show (t.val - 1) / 2 = t.val / 2 by omega)
  have h0 : (⟨t.val - 1, hu⟩ : Fin cfg0.N).val % 2 = 0 := by show (t.val - 1) % 2 = 0; omega
  rw [final_out m hH c t h1, even_value h hH ⟨t.val - 1, hu⟩ h0 j, odd_value h hN hH t h1 ⟨t.val - 1, hu⟩ h0 e, e, ← EReal.coe_add,
    Cert.Lane.parts_value _ _ _ _ (fun g hg => h.label_lt _ g hg)]

/-- The result array after the launch: every entry of an image's row is that image's loss. -/
theorem array_value (h : (args m c).Good) (hN : Cert.KernelIdealLabels.Named m) (hH : Hyps m) (i : S8x1x128.Idx) :
    (dats m hH 0 c).arrAt 4 cfg0.N i
      = ((imgLoss ((args m c).box (i 0)) ((args m c).bin (i 0)) ((args m c).logit (i 0)) ((args m c).label (i 0)) : ℝ) : EReal) := by
  refine (dats m hH 0 c).arrAt_forall_of_covers 4 (fun (i : S8x1x128.Idx) (v : EReal) => v
      = ((imgLoss ((args m c).box (i 0)) ((args m c).bin (i 0)) ((args m c).logit (i 0)) ((args m c).label (i 0)) : ℝ) : EReal))
    (by decide +kernel) (fun t hf y => ?_) i
  have h1 := (flush0_4 t).1 hf
  blk_simp
  have e : (win0_4.blk t).view.emb y 0 = image t := Fin.ext (by blk_simp; simp [index4 t, image])
  rw [e, after0_4]
  have ey : (y : S1x1x128.Idx) = ix3 (0 : Fin 1) (0 : Fin 1) ((y : S1x1x128.Idx) 2) := by
    funext a
    fin_cases a
    · exact Subsingleton.elim (α := Fin 1) _ _
    · exact Subsingleton.elim (α := Fin 1) _ _
    · rfl
  refine Eq.trans ?_ (image_value h hN hH t h1 ((y : S1x1x128.Idx) 2))
  exact congrArg (outsAt0 m hH c t.val t.isLt).1 ey

/-- The sum that the host takes over the images: the loss. -/
theorem tail_value (h : (args m c).Good) (hN : Cert.KernelIdealLabels.Named m) (hH : Hyps m) :
    Pipeline.afterTail₀ cfgs (dats m hH) 0 (V0 m) [hostOps1] c main_v7 = fun _ => (((args m c).loss : ℝ) : EReal) := by
  have e : Pipeline.afterTail₀ cfgs (dats m hH) 0 (V0 m) [hostOps1] c main_v7
      = (Host.reduceAdd (shapeCast S8 (extractStridedSlice S8x1x1 ![0, 0, 0] ((dats m hH 0 c).arrAt 4 cfg0.N : FVec Ideal S8x1x128 .f32)
          slices_S8x1x128_S8x1x1_0_0_0) shapeCasts_S8x1x1_S8) (constant S_ .f32 0x00000000#32) reducesTo_S8_S_d0 h_S_ : FVec Ideal S_ .f32) := by
    unfold Pipeline.afterTail₀
    simp only [List.flatten_cons, List.flatten_nil, List.append_nil, hostOps1]
    after_results
    have w : Pipeline.withArrays (cfgs 0).spec c (V0 m c) (fun w => (dats m hH 0 c).arrAt w (cfgs 0).N) (Proc.tc.devRef main_v4)
        = (dats m hH 0 c).arrAt 4 cfg0.N := Pipeline.withArrays_arr spec0 (by decide) c _ _ 4
    rw [w]
    rfl
  rw [e]
  have e' : ∀ v : FVec Ideal S8x1x128 .f32, Host.reduceAdd (shapeCast S8 (extractStridedSlice S8x1x1 ![0, 0, 0] v
      slices_S8x1x128_S8x1x1_0_0_0) shapeCasts_S8x1x1_S8) (constant S_ .f32 0x00000000#32) reducesTo_S8_S_d0 h_S_ ix0
      = Ideal.ofBits .f32 0x00000000#32 + ∑ b : Fin 8, v (ix3 b 0 0) := by
    intro v
    pointwise
  funext j
  rw [show j = ix0 from funext fun a => a.elim0, e', Ideal.ofBits_zero_f32, zero_add]
  unfold Args.loss
  rw [← coe_sum]
  exact Finset.sum_congr rfl fun b _ => array_value h hN hH _

/-- The launch: the result is the loss and the arguments end as launched. -/
theorem run (m : (ℓ : Loc nD τ sig) → Buf (Elt Ideal) ℓ) (ρ : _) (h : ∀ c, (args m c).Good) :
    θ_run defs (onTc (τ := τ) (main (F := Ideal))) ⟨m, fun _ => 0, ρ⟩ (fun r => ∀ c : Dev nD,
      r.2.mem ((c.tc : Thread nD τ).loc main_v7) = (fun _ => (((args m c).loss : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hN := named h
  have hH := Cert.KernelIdealLabels.hyps hN
  refine (θ_run defs _ _).mono (fun r hr c => ⟨?_, hr.2 c⟩)
    (θ_run_and (run_main m ρ hH) (unchanged m ρ hH))
  exact ((hr.1 c).2 main_v7 (Pipeline.mem_restRefs_of main_v7 (by decide) (by decide))).trans (tail_value (h c) hN hH)

end Cert.Launch

end
-- ==== Proof.RefGeom.lean ====
module

public import proofs.«01_k».proof.Proof.Args
public import proofs.«01_k».proof.Proof.Gen.ReferenceIdeal.Read
public import Idealize.ShloMosaic.Lib.IdealHost
public import Idealize.ShloMosaic.Lib.Pointwise

@[expose] public section

set_option maxRecDepth 16384

noncomputable section

/-! The reference's geometry, read at a cell and a box: centres, boxes in units of cells, signed distances, matches. -/

namespace Cert.Ref

open Cert.ReferenceIdeal Cert.ReferenceIdeal.Read Cert.Cell
open Idealize.ShloMosaic Idealize.ShloMosaic.TcCoe Idealize.ShloMosaic.Tactic Idealize.SL.Sem

/-- The row of a flat cell. -/
def row (p : Fin 4096) : ℕ := p.val / 64

/-- The column of a flat cell. -/
def col (p : Fin 4096) : ℕ := p.val % 64

variable (A : Args) (b : Fin 8) (p : Fin 4096) (g : Fin 16)

/-- A small whole number as a word denotes itself. -/
theorem word_real (n : ℕ) (h : n < 4096) : (((BitVec.ofNat 32 n).toInt : ℝ) : EReal) = ((n : ℝ) : EReal) := by
  have e : (BitVec.ofNat 32 n).toInt = (n : ℤ) := by
    rw [BitVec.toInt_eq_toNat_of_lt]
    · simp; omega
    · simp; omega
  rw [e]; norm_cast

/-- The horizontal centre of a column of the grid. -/
theorem grid_x (r l : Fin 64) : val_main_v6 (F := Ideal) (ix2 r l) = ((ctr l.val : ℝ) : EReal) := by
  have h : val_main_v6 (F := Ideal) (ix2 r l) = (((BitVec.ofNat 32 l.val).toInt : ℝ) : EReal) + Ideal.ofBits .f32 0x3F000000#32 := by
    pointwise [val_main_v6, val_main_v4, val_main_v3, val_main_v1, val_main_v5, val_main_cst]
    rfl
  rw [h, half, word_real _ (by omega), ← EReal.coe_add]; rfl

/-- The vertical centre of a row of the grid. -/
theorem grid_y (r l : Fin 64) : val_main_v9 (F := Ideal) (ix2 r l) = ((ctr r.val : ℝ) : EReal) := by
  have h : val_main_v9 (F := Ideal) (ix2 r l) = (((BitVec.ofNat 32 r.val).toInt : ℝ) : EReal) + Ideal.ofBits .f32 0x3F000000#32 := by
    pointwise [val_main_v9, val_main_v7, val_main_v2, val_main_v0, val_main_v8, val_main_cst_0]
    rfl
  rw [h, half, word_real _ (by omega), ← EReal.coe_add]; rfl

/-- The horizontal centre of a flat cell. -/
theorem centre_x : val_main_v14 (F := Ideal) (ix2 p (0 : Fin 2)) = ((ctr (col p) : ℝ) : EReal) := by
  refine Eq.trans ?_ (grid_x ⟨p.val / 64, by omega⟩ ⟨p.val % 64, by omega⟩)
  have h : ∀ r l : Fin 64, val_main_v12 (F := Ideal) (ix3 r l (0 : Fin 2)) = val_main_v6 (F := Ideal) (ix2 r l) := by
    intro r l
    pointwise [val_main_v12, val_main_v10, val_main_v11]
  rw [← h, val_main_v14_apply, val_main_v13_apply]
  refine congrArg _ (funext fun a => Fin.ext ?_)
  fin_cases a
  · show (p.val * 2 + 0) / 128 = p.val / 64; omega
  · show (p.val * 2 + 0) / 2 % 64 = p.val % 64; omega
  · show (p.val * 2 + 0) % 2 = 0; omega

/-- The vertical centre of a flat cell. -/
theorem centre_y : val_main_v14 (F := Ideal) (ix2 p (1 : Fin 2)) = ((ctr (row p) : ℝ) : EReal) := by
  refine Eq.trans ?_ (grid_y ⟨p.val / 64, by omega⟩ ⟨p.val % 64, by omega⟩)
  have h : ∀ r l : Fin 64, val_main_v12 (F := Ideal) (ix3 r l (1 : Fin 2)) = val_main_v9 (F := Ideal) (ix2 r l) := by
    intro r l
    pointwise [val_main_v12, val_main_v10, val_main_v11]
  rw [← h, val_main_v14_apply, val_main_v13_apply]
  refine congrArg _ (funext fun a => Fin.ext ?_)
  fin_cases a
  · show (p.val * 2 + 1) / 128 = p.val / 64; omega
  · show (p.val * 2 + 1) / 2 % 64 = p.val % 64; omega
  · show (p.val * 2 + 1) % 2 = 1; omega

/-- A box in units of cells. -/
theorem boxes (d : Fin 4) : val_main_v18 (F := Ideal) A.gt A.stride (ix3 b g d) = A.box b g.val d.val := by
  rw [Args.box_apply]
  pointwise [val_main_v18, val_main_v17, val_main_v16]
  rfl

/-- The signed distance to side 0. -/
theorem side_v33 : val_main_v33 (F := Ideal) A.gt A.stride (ix3 b p g) = gap (ctr (col p)) (ctr (row p)) (A.box b g.val) 0 := by
  have h : val_main_v33 (F := Ideal) A.gt A.stride (ix3 b p g) = val_main_v14 (F := Ideal) (ix2 p (0 : Fin 2)) - val_main_v18 (F := Ideal) A.gt A.stride (ix3 b g (0 : Fin 4)) := by
    pointwise [val_main_v33, val_main_v31, val_main_v30, val_main_v26, val_main_v25, val_main_v24, val_main_v32, val_main_v29, val_main_v28, val_main_v27]
  rw [h, centre_x, boxes]; rfl

/-- The signed distance to side 1. -/
theorem side_v43 : val_main_v43 (F := Ideal) A.gt A.stride (ix3 b p g) = gap (ctr (col p)) (ctr (row p)) (A.box b g.val) 1 := by
  have h : val_main_v43 (F := Ideal) A.gt A.stride (ix3 b p g) = val_main_v14 (F := Ideal) (ix2 p (1 : Fin 2)) - val_main_v18 (F := Ideal) A.gt A.stride (ix3 b g (1 : Fin 4)) := by
    pointwise [val_main_v43, val_main_v41, val_main_v40, val_main_v36, val_main_v35, val_main_v34, val_main_v42, val_main_v39, val_main_v38, val_main_v37]
  rw [h, centre_y, boxes]; rfl

/-- The signed distance to side 2. -/
theorem side_v53 : val_main_v53 (F := Ideal) A.gt A.stride (ix3 b p g) = gap (ctr (col p)) (ctr (row p)) (A.box b g.val) 2 := by
  have h : val_main_v53 (F := Ideal) A.gt A.stride (ix3 b p g) = val_main_v18 (F := Ideal) A.gt A.stride (ix3 b g (2 : Fin 4)) - val_main_v14 (F := Ideal) (ix2 p (0 : Fin 2)) := by
    pointwise [val_main_v53, val_main_v51, val_main_v46, val_main_v45, val_main_v44, val_main_v52, val_main_v50, val_main_v49, val_main_v48, val_main_v47]
  rw [h, centre_x, boxes]; rfl

/-- The signed distance to side 3. -/
theorem side_v63 : val_main_v63 (F := Ideal) A.gt A.stride (ix3 b p g) = gap (ctr (col p)) (ctr (row p)) (A.box b g.val) 3 := by
  have h : val_main_v63 (F := Ideal) A.gt A.stride (ix3 b p g) = val_main_v18 (F := Ideal) A.gt A.stride (ix3 b g (3 : Fin 4)) - val_main_v14 (F := Ideal) (ix2 p (1 : Fin 2)) := by
    pointwise [val_main_v63, val_main_v61, val_main_v56, val_main_v55, val_main_v54, val_main_v62, val_main_v60, val_main_v59, val_main_v58, val_main_v57]
  rw [h, centre_y, boxes]; rfl

/-- The signed distance to side 0. -/
theorem side_v163 : val_main_v163 (F := Ideal) A.gt A.stride (ix3 b p g) = gap (ctr (col p)) (ctr (row p)) (A.box b g.val) 0 := by
  have h : val_main_v163 (F := Ideal) A.gt A.stride (ix3 b p g) = val_main_v14 (F := Ideal) (ix2 p (0 : Fin 2)) - val_main_v18 (F := Ideal) A.gt A.stride (ix3 b g (0 : Fin 4)) := by
    pointwise [val_main_v163, val_main_v161, val_main_v160, val_main_v156, val_main_v155, val_main_v154, val_main_v162, val_main_v159, val_main_v158, val_main_v157]
  rw [h, centre_x, boxes]; rfl

/-- The signed distance to side 1. -/
theorem side_v173 : val_main_v173 (F := Ideal) A.gt A.stride (ix3 b p g) = gap (ctr (col p)) (ctr (row p)) (A.box b g.val) 1 := by
  have h : val_main_v173 (F := Ideal) A.gt A.stride (ix3 b p g) = val_main_v14 (F := Ideal) (ix2 p (1 : Fin 2)) - val_main_v18 (F := Ideal) A.gt A.stride (ix3 b g (1 : Fin 4)) := by
    pointwise [val_main_v173, val_main_v171, val_main_v170, val_main_v166, val_main_v165, val_main_v164, val_main_v172, val_main_v169, val_main_v168, val_main_v167]
  rw [h, centre_y, boxes]; rfl

/-- The signed distance to side 2. -/
theorem side_v183 : val_main_v183 (F := Ideal) A.gt A.stride (ix3 b p g) = gap (ctr (col p)) (ctr (row p)) (A.box b g.val) 2 := by
  have h : val_main_v183 (F := Ideal) A.gt A.stride (ix3 b p g) = val_main_v18 (F := Ideal) A.gt A.stride (ix3 b g (2 : Fin 4)) - val_main_v14 (F := Ideal) (ix2 p (0 : Fin 2)) := by
    pointwise [val_main_v183, val_main_v181, val_main_v176, val_main_v175, val_main_v174, val_main_v182, val_main_v180, val_main_v179, val_main_v178, val_main_v177]
  rw [h, centre_x, boxes]; rfl

/-- The signed distance to side 3. -/
theorem side_v193 : val_main_v193 (F := Ideal) A.gt A.stride (ix3 b p g) = gap (ctr (col p)) (ctr (row p)) (A.box b g.val) 3 := by
  have h : val_main_v193 (F := Ideal) A.gt A.stride (ix3 b p g) = val_main_v18 (F := Ideal) A.gt A.stride (ix3 b g (3 : Fin 4)) - val_main_v14 (F := Ideal) (ix2 p (1 : Fin 2)) := by
    pointwise [val_main_v193, val_main_v191, val_main_v186, val_main_v185, val_main_v184, val_main_v192, val_main_v190, val_main_v189, val_main_v188, val_main_v187]
  rw [h, centre_y, boxes]; rfl

/-- The four signed distances side by side. -/
theorem sides (s : Fin 4) : val_main_v198 (F := Ideal) A.gt A.stride (ix4 b p g s)
    = gap (ctr (col p)) (ctr (row p)) (A.box b g.val) s.val := by
  fin_cases s
  · rw [← side_v163]; pointwise [val_main_v198, val_main_v194, val_main_v195, val_main_v196, val_main_v197]
  · rw [← side_v173]; pointwise [val_main_v198, val_main_v194, val_main_v195, val_main_v196, val_main_v197]
  · rw [← side_v183]; pointwise [val_main_v198, val_main_v194, val_main_v195, val_main_v196, val_main_v197]
  · rw [← side_v193]; pointwise [val_main_v198, val_main_v194, val_main_v195, val_main_v196, val_main_v197]

/-- Two decisions joined. -/
theorem and_bool (p q : Bool) : IntOp.andi (BitVec.ofBool p) (BitVec.ofBool q) = BitVec.ofBool (p && q) := by
  cases p <;> cases q <;> decide

open Classical in
/-- Whether the centre lies inside the box. -/
theorem inside : val_main_v74 (F := Ideal) A.gt A.stride (ix3 b p g) = BitVec.ofBool (decide
    (0 < (ctr (col p) : EReal) - A.box b g.val 0 ∧ 0 < (ctr (row p) : EReal) - A.box b g.val 1 ∧
      0 < A.box b g.val 2 - (ctr (col p) : EReal) ∧ 0 < A.box b g.val 3 - (ctr (row p) : EReal))) := by
  have h : val_main_v74 (F := Ideal) A.gt A.stride (ix3 b p g)
      = IntOp.andi (IntOp.andi (IntOp.andi
          (BitVec.ofBool (decide (Ideal.ofBits .f32 0x00000000#32 < val_main_v33 (F := Ideal) A.gt A.stride (ix3 b p g))))
          (BitVec.ofBool (decide (Ideal.ofBits .f32 0x00000000#32 < val_main_v43 (F := Ideal) A.gt A.stride (ix3 b p g)))))
          (BitVec.ofBool (decide (Ideal.ofBits .f32 0x00000000#32 < val_main_v53 (F := Ideal) A.gt A.stride (ix3 b p g)))))
          (BitVec.ofBool (decide (Ideal.ofBits .f32 0x00000000#32 < val_main_v63 (F := Ideal) A.gt A.stride (ix3 b p g)))) := by
    pointwise [val_main_v74, val_main_v71, val_main_v68, val_main_v65, val_main_v64, val_main_cst_2, val_main_v67, val_main_v66, val_main_cst_3, val_main_v70, val_main_v69, val_main_cst_4, val_main_v73, val_main_v72, val_main_cst_5]
  rw [h, side_v33, side_v43, side_v53, side_v63, Ideal.ofBits_zero_f32]
  simp only [and_bool, gap, Bool.decide_and, Bool.and_assoc]

/-- The middle of a box. -/
theorem middle (d : Fin 2) : val_main_v23 (F := Ideal) A.gt A.stride (ix3 b g d)
    = (A.box b g.val d.val + A.box b g.val (d.val + 2)) * ((1 / 2 : ℝ) : EReal) := by
  have h : ∀ d d' d'' : ℕ, True := fun _ _ _ => trivial
  fin_cases d
  · have h : val_main_v23 (F := Ideal) A.gt A.stride (ix3 b g (0 : Fin 2)) = (val_main_v18 (F := Ideal) A.gt A.stride (ix3 b g (0 : Fin 4))
        + val_main_v18 (F := Ideal) A.gt A.stride (ix3 b g (2 : Fin 4))) * Ideal.ofBits .f32 0x3F000000#32 := by
      pointwise [val_main_v23, val_main_v21, val_main_v19, val_main_v20, val_main_v22, val_main_cst_1]
    exact h.trans (by rw [boxes, boxes, half]; rfl)
  · have h : val_main_v23 (F := Ideal) A.gt A.stride (ix3 b g (1 : Fin 2)) = (val_main_v18 (F := Ideal) A.gt A.stride (ix3 b g (1 : Fin 4))
        + val_main_v18 (F := Ideal) A.gt A.stride (ix3 b g (3 : Fin 4))) * Ideal.ofBits .f32 0x3F000000#32 := by
      pointwise [val_main_v23, val_main_v21, val_main_v19, val_main_v20, val_main_v22, val_main_cst_1]
    exact h.trans (by rw [boxes, boxes, half]; rfl)

open Classical in
/-- Whether the centre lies within two and a half of the box's middle. -/
theorem central : val_main_v125 (F := Ideal) A.gt A.stride (ix3 b p g) = BitVec.ofBool (decide
    ((A.box b g.val 0 + A.box b g.val 2) * ((1 / 2 : ℝ) : EReal) - ((5 / 2 : ℝ) : EReal) ≤ (ctr (col p) : EReal) ∧
      (ctr (col p) : EReal) ≤ (A.box b g.val 0 + A.box b g.val 2) * ((1 / 2 : ℝ) : EReal) + ((5 / 2 : ℝ) : EReal) ∧
      (A.box b g.val 1 + A.box b g.val 3) * ((1 / 2 : ℝ) : EReal) - ((5 / 2 : ℝ) : EReal) ≤ (ctr (row p) : EReal) ∧
      (ctr (row p) : EReal) ≤ (A.box b g.val 1 + A.box b g.val 3) * ((1 / 2 : ℝ) : EReal) + ((5 / 2 : ℝ) : EReal))) := by
  have h : val_main_v125 (F := Ideal) A.gt A.stride (ix3 b p g)
      = IntOp.andi (IntOp.andi (IntOp.andi (BitVec.ofBool (decide (val_main_v23 (F := Ideal) A.gt A.stride (ix3 b g (0 : Fin 2)) - Ideal.ofBits .f32 0x40200000#32 ≤ val_main_v14 (F := Ideal) (ix2 p (0 : Fin 2))))) (BitVec.ofBool (decide (val_main_v14 (F := Ideal) (ix2 p (0 : Fin 2)) ≤ val_main_v23 (F := Ideal) A.gt A.stride (ix3 b g (0 : Fin 2)) + Ideal.ofBits .f32 0x40200000#32)))) (BitVec.ofBool (decide (val_main_v23 (F := Ideal) A.gt A.stride (ix3 b g (1 : Fin 2)) - Ideal.ofBits .f32 0x40200000#32 ≤ val_main_v14 (F := Ideal) (ix2 p (1 : Fin 2)))))) (BitVec.ofBool (decide (val_main_v14 (F := Ideal) (ix2 p (1 : Fin 2)) ≤ val_main_v23 (F := Ideal) A.gt A.stride (ix3 b g (1 : Fin 2)) + Ideal.ofBits .f32 0x40200000#32))) := by
    pointwise [val_main_v125, val_main_v112, val_main_v99, val_main_v86, val_main_v84, val_main_v83, val_main_v77, val_main_v76, val_main_v75, val_main_v85, val_main_v82, val_main_v80, val_main_v79, val_main_v78, val_main_v81, val_main_cst_6, val_main_v98, val_main_v96, val_main_v95, val_main_v89, val_main_v88, val_main_v87, val_main_v97, val_main_v94, val_main_v92, val_main_v91, val_main_v90, val_main_v93, val_main_cst_7, val_main_v111, val_main_v109, val_main_v108, val_main_v102, val_main_v101, val_main_v100, val_main_v110, val_main_v107, val_main_v105, val_main_v104, val_main_v103, val_main_v106, val_main_cst_8, val_main_v124, val_main_v122, val_main_v121, val_main_v115, val_main_v114, val_main_v113, val_main_v123, val_main_v120, val_main_v118, val_main_v117, val_main_v116, val_main_v119, val_main_cst_9]
  rw [h, middle, middle, centre_x, centre_y, radius]
  simp only [and_bool, Bool.decide_and, Bool.and_assoc]
  rfl

open Classical in
/-- The mask says whether the cell is matched to the box. -/
theorem mask : val_main_v126 (F := Ideal) A.gt A.stride (ix3 b p g)
    = BitVec.ofBool (decide (Hit (ctr (col p)) (ctr (row p)) (A.box b g.val))) := by
  rw [val_main_v126_apply, inside, central]
  show IntOp.andi _ _ = _
  rw [and_bool, ← Bool.decide_and]
  congr 2
  apply propext
  unfold Hit near
  tauto

end Cert.Ref

end
-- ==== Proof.RefMatch.lean ====
module

public import proofs.«01_k».proof.Proof.RefGeom

@[expose] public section

set_option maxRecDepth 16384

noncomputable section

/-! The reference's matches: which cells it counts, and how many. -/

namespace Cert.Ref

open Cert.ReferenceIdeal Cert.ReferenceIdeal.Read Cert.Cell
open Idealize.ShloMosaic Idealize.ShloMosaic.TcCoe Idealize.ShloMosaic.Tactic Idealize.SL.Sem

variable (A : Args) (b : Fin 8) (p : Fin 4096) (g : Fin 16)

/-- A choice decided for its first value. -/
theorem pick {α : Type} (x y : α) : Scalar.select 1#1 x y = x := rfl

/-- One decision that holds makes the disjunction hold. -/
theorem fold_or_one {ι : Type} [Fintype ι] (f : ι → BitVec 1) (i : ι) (h : f i = 1#1) :
    Finset.univ.fold IntOp.ori 0#1 f = 1#1 := by
  classical
  have k : ∀ x : BitVec 1, IntOp.ori 1#1 x = 1#1 := by decide
  rw [← Finset.insert_erase (Finset.mem_univ i), Finset.fold_insert (Finset.notMem_erase i _), h, k]

/-- No decision that holds: the disjunction does not. -/
theorem fold_or_zero {ι : Type} [DecidableEq ι] (s : Finset ι) (f : ι → BitVec 1) (h : ∀ i, f i = 0#1) :
    s.fold IntOp.ori 0#1 f = 0#1 := by
  induction s using Finset.induction_on with
  | empty => exact Finset.fold_empty
  | insert a s ha ih =>
    rw [Finset.fold_insert ha, ih, h]
    decide

/-- An image with a match has a matched cell and box. -/
theorem some_hit (h : A.Good) : ∃ p : Fin 4096, ∃ g : Fin 16, Hit (ctr (col p)) (ctr (row p)) (A.box b g.val) := by
  by_contra hn
  refine h.some_match b ?_
  unfold imgCount cells
  refine Finset.sum_eq_zero fun p _ => (count_eq_zero _ _ _).mpr ?_
  rintro ⟨g, hg, hh⟩
  exact hn ⟨p, ⟨g, hg⟩, hh⟩

open Classical in
/-- A matched cell has its mask set. -/
theorem mask_one (hh : Hit (ctr (col p)) (ctr (row p)) (A.box b g.val)) : val_main_v126 (F := Ideal) A.gt A.stride (ix3 b p g) = 1#1 := by
  rw [mask, decide_eq_true hh]
  rfl

open Classical in
/-- A cell that is not matched has its mask clear. -/
theorem mask_zero (hh : ¬ Hit (ctr (col p)) (ctr (row p)) (A.box b g.val)) : val_main_v126 (F := Ideal) A.gt A.stride (ix3 b p g) = 0#1 := by
  rw [mask, decide_eq_false hh]
  rfl

/-- Some cell of each image is matched. -/
theorem any_match (h : A.Good) : val_main_v127 (F := Ideal) A.gt A.stride (ix1 b) = 1#1 := by
  have e : val_main_v127 (F := Ideal) A.gt A.stride (ix1 b) = Finset.fold IntOp.ori (0#1)
      (fun x : Fin 4096 × Fin 16 => val_main_v126 (F := Ideal) A.gt A.stride (ix3 b x.1 x.2)) Finset.univ := by
    pointwise [val_main_v127, val_main_c]
  obtain ⟨p, g, hh⟩ := some_hit A b h
  exact e.trans (fold_or_one (fun x : Fin 4096 × Fin 16 => val_main_v126 (F := Ideal) A.gt A.stride (ix3 b x.1 x.2)) (p, g) (mask_one A b p g hh))

/-- The mask that the losses use is the plain mask. -/
theorem used (h : A.Good) : val_main_v147 (F := Ideal) A.gt A.stride (ix3 b p g) = val_main_v126 (F := Ideal) A.gt A.stride (ix3 b p g) := by
  have e : val_main_v147 (F := Ideal) A.gt A.stride (ix3 b p g) = Scalar.select (val_main_v127 (F := Ideal) A.gt A.stride (ix1 b))
      (val_main_v126 (F := Ideal) A.gt A.stride (ix3 b p g)) (val_main_v146 (F := Ideal) A.gt A.stride (ix3 b p g)) := by
    pointwise [val_main_v147, val_main_call0_v0]
  rw [e, any_match A b h]
  exact pick _ _

/-- The mask as a number. -/
theorem weight (h : A.Good) : val_main_v148 (F := Ideal) A.gt A.stride (ix3 b p g) = ((ind (ctr (col p)) (ctr (row p)) (A.box b g.val) : ℝ) : EReal) := by
  rw [val_main_v148_apply, used A b p g h]
  unfold ind
  by_cases hh : Hit (ctr (col p)) (ctr (row p)) (A.box b g.val)
  · rw [mask_one A b p g hh, if_pos hh]
    show (((1#1 : BitVec 1).toNat : ℝ) : EReal) = _
    simp
  · rw [mask_zero A b p g hh, if_neg hh]
    show (((0#1 : BitVec 1).toNat : ℝ) : EReal) = _
    simp

/-- A sum over the sixteen boxes. -/
theorem boxes_sum (f : ℕ → ℝ) : ∑ g : Fin 16, ((f g.val : ℝ) : EReal) = ((∑ g ∈ Finset.range 16, f g : ℝ) : EReal) := by
  rw [coe_sum, Finset.sum_range]

/-- A sum over the cells of a sum over the boxes. -/
theorem cells_boxes (f : ℕ → ℕ → ℕ → ℝ) : ∑ p : Fin 4096, ∑ g : Fin 16, ((f (row p) (col p) g.val : ℝ) : EReal)
    = ((cells fun r c => ∑ g ∈ Finset.range 16, f r c g : ℝ) : EReal) := by
  unfold cells
  rw [← coe_sum]
  exact Finset.sum_congr rfl fun p _ => boxes_sum (f (row p) (col p))

/-- The number of matches of an image. -/
theorem count (h : A.Good) : val_main_v149 (F := Ideal) A.gt A.stride (ix1 b) = ((imgCount (A.box b) : ℝ) : EReal) := by
  have e : val_main_v149 (F := Ideal) A.gt A.stride (ix1 b) = ∑ x : Fin 4096, ∑ y : Fin 16, val_main_v148 (F := Ideal) A.gt A.stride (ix3 b x y) := by
    pointwise [val_main_v149, val_main_cst_12]
  refine e.trans ((Finset.sum_congr rfl fun p _ => Finset.sum_congr rfl fun g _ => weight A b p g h).trans ?_)
  exact cells_boxes fun r c g => ind (ctr c) (ctr r) (A.box b g)

open Classical in
/-- Whether a cell is matched to no box, as a number. -/
theorem unmatched (h : A.Good) : val_main_v427 (F := Ideal) A.gt A.stride (ix2 b p)
    = (((if ∃ g, g < 16 ∧ Hit (ctr (col p)) (ctr (row p)) (A.box b g) then 0 else 1 : ℝ)) : EReal) := by
  have e : val_main_v378 (F := Ideal) A.gt A.stride (ix2 b p) = Finset.fold IntOp.ori (0#1)
      (fun x : Fin 16 => val_main_v147 (F := Ideal) A.gt A.stride (ix3 b p x)) Finset.univ := by
    pointwise [val_main_v378, val_main_c_38]
  rw [val_main_v427_apply, val_main_v426_apply]
  by_cases hh : ∃ g, g < 16 ∧ Hit (ctr (col p)) (ctr (row p)) (A.box b g)
  · rw [if_pos hh]
    obtain ⟨g, hg, hh⟩ := hh
    rw [e.trans (fold_or_one _ (⟨g, hg⟩ : Fin 16)
      ((used A b p ⟨g, hg⟩ h).trans (mask_one A b p ⟨g, hg⟩ hh)))]
    show (((0#1 : BitVec 1).toNat : ℝ) : EReal) = _
    simp
  · rw [if_neg hh, e.trans (fold_or_zero Finset.univ _ fun x : Fin 16 =>
      (used A b p x h).trans (mask_zero A b p x fun k => hh ⟨x.val, x.isLt, k⟩))]
    show (((1#1 : BitVec 1).toNat : ℝ) : EReal) = _
    simp

end Cert.Ref

end
-- ==== Proof.WellPosed.lean ====
module

public import proofs.«01_k».proof.Defs
public import proofs.«01_k».proof.Proof.Launch
public import proofs.«01_k».proof.Proof.RefMatch
public import Idealize.ShloMosaic.Lib.ReduceAll

@[expose] public section

set_option maxRecDepth 16384

noncomputable section

/-! What the printed test of the arguments says: the parts of the test, read from its result. -/

namespace Cert.WellPosed

open Cert.Pre_well_posed Cert.Cell
open Idealize.ShloMosaic Idealize.ShloMosaic.TcCoe Idealize.ShloMosaic.Tactic Idealize.SL.Sem

/-- A conjunction of two decisions holds: both do. -/
theorem both {p q : BitVec 1} (h : IntOp.andi p q = 1#1) : p = 1#1 ∧ q = 1#1 := by
  revert p q
  decide

/-- A decision that holds. -/
theorem holds {p : Bool} (h : BitVec.ofBool p = 1#1) : p = true := by
  cases p
  · exact absurd h (by decide)
  · rfl

/-- A disjunction that holds has a decision that holds. -/
theorem some_one {ι : Type} [Fintype ι] [DecidableEq ι] (f : ι → BitVec 1)
    (h : Finset.univ.fold IntOp.ori 0#1 f = 1#1) : ∃ i, f i = 1#1 := by
  by_contra hn
  have hz : ∀ i, f i = 0#1 := by
    intro i
    have k : ∀ x : BitVec 1, x ≠ 1#1 → x = 0#1 := by decide
    exact k _ fun e => hn ⟨i, e⟩
  rw [Cert.Ref.fold_or_zero _ f hz] at h
  exact absurd h (by decide)

/-- A magnitude below the top is that of a real. -/
theorem real_of_abs (x : EReal) (h : max x (-x) < ⊤) : x = ((x.toReal : ℝ) : EReal) := by
  refine (EReal.coe_toReal ?_ ?_).symm
  · rintro rfl
    exact absurd h (by simp)
  · rintro rfl
    exact absurd h (by simp)

variable [Facts] (a0 : FVec Ideal S8x68x64x64 .f32) (a1 : FVec Ideal S8x80x64x64 .f32) (lab : IVec S8x16 32) (b : Fin 8)

/-- The last part of the test: the disjunction over boxes, every label and every finite argument. -/
theorem part4 (v75 : IVec S8 1) (v77 v79 : IVec S8x16 1) (e : fn_part4 (F := Ideal) a0 a1 v75 v77 v79 (ix1 b) = 1#1) :
    v75 (ix1 b) = 1#1 ∧ (∀ j, v77 j = 1#1 ∧ v79 j = 1#1) ∧ (∀ i, a0 i = (((a0 i).toReal : ℝ) : EReal))
      ∧ ∀ i, a1 i = (((a1 i).toReal : ℝ) : EReal) := by
  obtain ⟨e1, e2⟩ := both e
  obtain ⟨e3, e4⟩ := both e1
  obtain ⟨e5, e6⟩ := both e2
  haveI : Subsingleton S_.Idx := ⟨fun i j => funext fun a => a.elim0⟩
  refine ⟨e3, fun j => both (Host.reduce_andi_all _ _ _ _ _ e4 j), fun i => ?_, fun i => ?_⟩
  · have k := Host.reduce_andi_all _ _ _ _ _ e5 i
    have k2 : decide (max (a0 i) (-(a0 i)) < Ideal.ofBits .f32 0x7F800000#32) = true := holds k
    rw [posInf] at k2
    exact real_of_abs _ (of_decide_eq_true k2)
  · have k := Host.reduce_andi_all _ _ _ _ _ e6 i
    have k2 : decide (max (a1 i) (-(a1 i)) < Ideal.ofBits .f32 0x7F800000#32) = true := holds k
    rw [posInf] at k2
    exact real_of_abs _ (of_decide_eq_true k2)

/-- What the test says apart from the matched cell. -/
def Rest : Prop := (∀ j, (lab j).toNat < 80) ∧ (∀ i, a0 i = (((a0 i).toReal : ℝ) : EReal)) ∧ ∀ i, a1 i = (((a1 i).toReal : ℝ) : EReal)

/-- The disjunction over the boxes of an image. -/
theorem or_boxes (x : IVec S8x16 1) (h : Host.reduce IntOp.ori x (constantI S_ 1 0#1) Facts.reducesTo_S8x16_S8_d1 Facts.h_S_ (ix1 b) = 1#1) :
    ∃ g : Fin 16, x (ix2 b g) = 1#1 := by
  refine some_one (fun g : Fin 16 => x (ix2 b g)) (Eq.trans ?_ h)
  symm
  pointwise []

/-- The disjunction over the columns or the rows at a box. -/
theorem or_cells (x : IVec S8x16x64 1) (g : Fin 16)
    (h : Host.reduce IntOp.ori x (constantI S_ 1 0#1) Facts.reducesTo_S8x16x64_S8x16_d2 Facts.h_S_ (ix2 b g) = 1#1) :
    ∃ l : Fin 64, x (ix3 b g l) = 1#1 := by
  refine some_one (fun l : Fin 64 => x (ix3 b g l)) (Eq.trans ?_ h)
  symm
  pointwise []

/-- The centres along an axis, repeated for every box. -/
theorem spread_centre (v : FVec Ideal S1x1x64 .f32) (g : Fin 16) (l : Fin 64) :
    broadcastInDim S8x16x64 ![0, 1, 2] Facts.bcast_S1x1x64_S8x16x64_0_1_2 v (ix3 b g l) = v (ix3 (0 : Fin 1) (0 : Fin 1) l) := by
  pointwise []

/-- A number of each box, repeated for every centre. -/
theorem spread_box (v : FVec Ideal S8x16x1 .f32) (g : Fin 16) (l : Fin 64) :
    broadcastInDim S8x16x64 ![0, 1, 2] Facts.bcast_S8x16x1_S8x16x64_0_1_2 v (ix3 b g l) = v (ix3 b g (0 : Fin 1)) := by
  pointwise []

/-- A decided order of two numbers. -/
theorem le_of {x y : EReal} (h : Ideal.cmp .ole x y = 1#1) : x ≤ y := of_decide_eq_true (holds h)

/-- A decided order of two numbers, the other way round. -/
theorem ge_of {x y : EReal} (h : Ideal.cmp .oge x y = 1#1) : y ≤ x := of_decide_eq_true (holds h)

/-- A decided strict order of two numbers. -/
theorem gt_of {x y : EReal} (h : Ideal.cmp .ogt x y = 1#1) : y < x := of_decide_eq_true (holds h)

/-- The two comparisons of a centre with the interval around a middle. -/
def Within (mid c : EReal) : Prop := mid - ((5 / 2 : ℝ) : EReal) ≤ c ∧ c ≤ mid + ((5 / 2 : ℝ) : EReal)

/-- A word from 0 below 80, as a number. -/
theorem word_lt (w : BitVec 32) (h1 : IntOp.cmpi .sge w 0#32 = 1#1) (h2 : IntOp.cmpi .slt w 80#32 = 1#1) : w.toNat < 80 := by
  have h3 := holds h1
  have h4 := holds h2
  simp only [BitVec.sle, BitVec.slt, decide_eq_true_eq, BitVec.toInt, BitVec.toNat_ofNat] at h3 h4
  omega

/-- The third part of the test: a box with a column and a row. -/
theorem part3 (v38 v59 : IVec S8x16x64 1) (v47 v61 : FVec Ideal S8x16x1 .f32) (v48 : FVec Ideal S1x1x64 .f32)
    (h61 : ∀ g, v61 (ix3 b g (0 : Fin 1)) = v47 (ix3 b g (0 : Fin 1)) - ((5 / 2 : ℝ) : EReal))
    (e : fn_part3 (F := Ideal) a0 a1 lab v38 v47 v48 v59 v61 (ix1 b) = 1#1) :
    (∃ (g : Fin 16) (l r : Fin 64), v38 (ix3 b g l) = 1#1 ∧ v59 (ix3 b g r) = 1#1
      ∧ Within (v47 (ix3 b g (0 : Fin 1))) (v48 (ix3 (0 : Fin 1) (0 : Fin 1) r))) ∧ Rest a0 a1 lab := by
  obtain ⟨e1, e2, e3, e4⟩ := part4 a0 a1 b _ _ _ e
  refine ⟨?_, fun j => word_lt _ (e2 j).1 (e2 j).2, e3, e4⟩
  obtain ⟨g, eg⟩ := or_boxes b _ e1
  obtain ⟨ex, ey⟩ := both eg
  obtain ⟨l, el⟩ := or_cells b _ g ex
  obtain ⟨r, er⟩ := or_cells b _ g ey
  obtain ⟨er1, er2⟩ := both er
  obtain ⟨er3, er4⟩ := both er1
  have k1 := ge_of er4
  have k2 := le_of er2
  rw [spread_centre, spread_box] at k1 k2
  refine ⟨g, l, r, el, er3, ?_, ?_⟩
  · rw [← h61]
    exact k1
  · refine k2.trans (le_of_eq ?_)
    show v47 (ix3 b g (0 : Fin 1)) + Ideal.ofBits .f32 0x40200000#32 = _
    rw [radius]

/-- The middle of an interval. -/
def mid (lo hi : EReal) : EReal := (lo + hi) * ((1 / 2 : ℝ) : EReal)

/-- The four comparisons together. -/
theorem near_of {c : ℝ} {lo hi : EReal} (h1 : 0 < (c : EReal) - lo) (h2 : 0 < hi - c) (h3 : Within (mid lo hi) c) : near c lo hi :=
  ⟨h1, h2, h3.1, h3.2⟩

/-- Coordinate 0 of the boxes, as a number of each box. -/
theorem coord0 (v5 : FVec Ideal S8x16x4 .f32) (g : Fin 16) :
    broadcastInDim S8x16x1 ![0, 1] Facts.bcast_S8x16_S8x16x1_0_1 (shapeCast S8x16
      (extractStridedSlice S8x16x1 ![0, 0, 0] v5 Facts.slices_S8x16x4_S8x16x1_0_0_0) Facts.shapeCasts_S8x16x1_S8x16) (ix3 b g (0 : Fin 1))
      = v5 (ix3 b g (0 : Fin 4)) := by
  pointwise []

/-- Coordinate 1 of the boxes, as a number of each box. -/
theorem coord1 (v5 : FVec Ideal S8x16x4 .f32) (g : Fin 16) :
    broadcastInDim S8x16x1 ![0, 1] Facts.bcast_S8x16_S8x16x1_0_1 (shapeCast S8x16
      (extractStridedSlice S8x16x1 ![0, 0, 1] v5 Facts.slices_S8x16x4_S8x16x1_0_0_1) Facts.shapeCasts_S8x16x1_S8x16) (ix3 b g (0 : Fin 1))
      = v5 (ix3 b g (1 : Fin 4)) := by
  pointwise []

/-- Coordinate 2 of the boxes, as a number of each box. -/
theorem coord2 (v5 : FVec Ideal S8x16x4 .f32) (g : Fin 16) :
    broadcastInDim S8x16x1 ![0, 1] Facts.bcast_S8x16_S8x16x1_0_1 (shapeCast S8x16
      (extractStridedSlice S8x16x1 ![0, 0, 2] v5 Facts.slices_S8x16x4_S8x16x1_0_0_2) Facts.shapeCasts_S8x16x1_S8x16) (ix3 b g (0 : Fin 1))
      = v5 (ix3 b g (2 : Fin 4)) := by
  pointwise []

/-- Coordinate 3 of the boxes, as a number of each box. -/
theorem coord3 (v5 : FVec Ideal S8x16x4 .f32) (g : Fin 16) :
    broadcastInDim S8x16x1 ![0, 1] Facts.bcast_S8x16_S8x16x1_0_1 (shapeCast S8x16
      (extractStridedSlice S8x16x1 ![0, 0, 3] v5 Facts.slices_S8x16x4_S8x16x1_0_0_3) Facts.shapeCasts_S8x16x1_S8x16) (ix3 b g (0 : Fin 1))
      = v5 (ix3 b g (3 : Fin 4)) := by
  pointwise []

/-- The centres along the last axis. -/
theorem centre_axis (v2 : FVec Ideal S64 .f32) (r : Fin 64) :
    broadcastInDim S1x1x64 ![2] Facts.bcast_S64_S1x1x64_2 v2 (ix3 (0 : Fin 1) (0 : Fin 1) r) = v2 (ix1 r) := by
  pointwise []

/-- A centre above a number of a box. -/
theorem lower (v2 : FVec Ideal S64 .f32) (w : FVec Ideal S8x16x1 .f32) (g : Fin 16) (l : Fin 64)
    (k : Ideal.ofBits .f32 0x00000000#32 < broadcastInDim S8x16x64 ![0, 1, 2] Facts.bcast_S1x1x64_S8x16x64_0_1_2
      (broadcastInDim S1x1x64 ![2] Facts.bcast_S64_S1x1x64_2 v2) (ix3 b g l)
      - broadcastInDim S8x16x64 ![0, 1, 2] Facts.bcast_S8x16x1_S8x16x64_0_1_2 w (ix3 b g l)) : 0 < v2 (ix1 l) - w (ix3 b g (0 : Fin 1)) := by
  rw [spread_centre, centre_axis, spread_box, zero, EReal.coe_zero] at k
  exact k

/-- A centre below a number of a box. -/
theorem upper (v2 : FVec Ideal S64 .f32) (w : FVec Ideal S8x16x1 .f32) (g : Fin 16) (l : Fin 64)
    (k : Ideal.ofBits .f32 0x00000000#32 < broadcastInDim S8x16x64 ![0, 1, 2] Facts.bcast_S8x16x1_S8x16x64_0_1_2 w (ix3 b g l)
      - broadcastInDim S8x16x64 ![0, 1, 2] Facts.bcast_S1x1x64_S8x16x64_0_1_2
      (broadcastInDim S1x1x64 ![2] Facts.bcast_S64_S1x1x64_2 v2) (ix3 b g l)) : 0 < w (ix3 b g (0 : Fin 1)) - v2 (ix1 l) := by
  rw [spread_centre, centre_axis, spread_box, zero, EReal.coe_zero] at k
  exact k

/-- The second part of the test: the row lies near the vertical interval. -/
theorem part2 (v2 : FVec Ideal S64 .f32) (v5 : FVec Ideal S8x16x4 .f32) (v38 : IVec S8x16x64 1) (v41 : FVec Ideal S8x16x1 .f32)
    (h2 : ∀ r : Fin 64, v2 (ix1 r) = ((ctr r.val : ℝ) : EReal)) (h41 : ∀ g, v41 (ix3 b g (0 : Fin 1)) = v5 (ix3 b g (1 : Fin 4)))
    (e : fn_part2 (F := Ideal) a0 a1 lab v2 v5 v38 v41 (ix1 b) = 1#1) :
    (∃ (g : Fin 16) (l r : Fin 64), v38 (ix3 b g l) = 1#1 ∧ near (ctr r.val) (v5 (ix3 b g (1 : Fin 4))) (v5 (ix3 b g (3 : Fin 4))))
      ∧ Rest a0 a1 lab := by
  obtain ⟨⟨g, l, r, e1, e2, e3⟩, rest⟩ := part3 a0 a1 lab b _ _ _ _ _ (fun g => congrArg (fun z : EReal => _ - z) radius) e
  refine ⟨⟨g, l, r, e1, ?_⟩, rest⟩
  obtain ⟨e4, e5⟩ := both e2
  have k1 := gt_of e4
  have k2 := gt_of e5
  have k3 : Within ((v41 (ix3 b g (0 : Fin 1)) + broadcastInDim S8x16x1 ![0, 1] Facts.bcast_S8x16_S8x16x1_0_1 (shapeCast S8x16
      (extractStridedSlice S8x16x1 ![0, 0, 3] v5 Facts.slices_S8x16x4_S8x16x1_0_0_3) Facts.shapeCasts_S8x16x1_S8x16) (ix3 b g (0 : Fin 1)))
      * Ideal.ofBits .f32 0x3F000000#32) (broadcastInDim S1x1x64 ![2] Facts.bcast_S64_S1x1x64_2 v2 (ix3 (0 : Fin 1) (0 : Fin 1) r)) := e3
  rw [h41, coord3, half, centre_axis, h2] at k3
  refine near_of ?_ ?_ k3
  · rw [← h2, ← h41]
    exact lower b v2 v41 g r k1
  · rw [← h2, ← coord3 b v5 g]
    exact upper b v2 _ g r k2

/-- The first part of the test: the column lies near the horizontal interval. -/
theorem part1 (v2 : FVec Ideal S64 .f32) (v5 : FVec Ideal S8x16x4 .f32) (v11 v14 : FVec Ideal S8x16x1 .f32)
    (v15 : FVec Ideal S1x1x64 .f32) (v20 : IVec S8x16x64 1)
    (h2 : ∀ r : Fin 64, v2 (ix1 r) = ((ctr r.val : ℝ) : EReal)) (h11 : ∀ g, v11 (ix3 b g (0 : Fin 1)) = v5 (ix3 b g (2 : Fin 4)))
    (h14 : ∀ g, v14 (ix3 b g (0 : Fin 1)) = mid (v5 (ix3 b g (0 : Fin 4))) (v5 (ix3 b g (2 : Fin 4))))
    (h15 : ∀ l : Fin 64, v15 (ix3 (0 : Fin 1) (0 : Fin 1) l) = ((ctr l.val : ℝ) : EReal))
    (h20 : ∀ (g : Fin 16) (l : Fin 64), v20 (ix3 b g l) = 1#1 → 0 < ((ctr l.val : ℝ) : EReal) - v5 (ix3 b g (0 : Fin 4)))
    (e : fn_part1 (F := Ideal) a0 a1 lab v2 v5 v11 v14 v15 v20 (ix1 b) = 1#1) :
    (∃ (g : Fin 16) (l r : Fin 64), near (ctr l.val) (v5 (ix3 b g (0 : Fin 4))) (v5 (ix3 b g (2 : Fin 4)))
      ∧ near (ctr r.val) (v5 (ix3 b g (1 : Fin 4))) (v5 (ix3 b g (3 : Fin 4)))) ∧ Rest a0 a1 lab := by
  obtain ⟨⟨g, l, r, e1, e2⟩, rest⟩ := part2 a0 a1 lab b _ _ _ _ h2 (fun g => coord1 b v5 g) e
  refine ⟨⟨g, l, r, ?_, e2⟩, rest⟩
  obtain ⟨e3, e4⟩ := both e1
  obtain ⟨e5, e6⟩ := both e3
  obtain ⟨e7, e8⟩ := both e5
  have k1 := gt_of e8
  have k2 := ge_of e6
  have k3 := le_of e4
  rw [spread_centre, spread_box, h15] at k2 k3
  have k4 : v14 (ix3 b g (0 : Fin 1)) - Ideal.ofBits .f32 0x40200000#32 ≤ ((ctr l.val : ℝ) : EReal) := k2
  have k5 : ((ctr l.val : ℝ) : EReal) ≤ v14 (ix3 b g (0 : Fin 1)) + Ideal.ofBits .f32 0x40200000#32 := k3
  rw [radius, h14] at k4 k5
  refine near_of (h20 g l e7) ?_ ⟨k4, k5⟩
  rw [← h15, ← spread_centre b v15 g l, ← h11, ← spread_box b v11 g l, ← EReal.coe_zero, ← zero]
  exact k1

/-- The boxes in units of cells. -/
theorem boxes (gt : FVec Ideal S8x16x4 .f32) (s : IVec S_ 32) (b : Fin 8) (g : Fin 16) (d : Fin 4) :
    Host.divf gt (broadcastInDim S8x16x4 ![] Facts.bcast_S_S8x16x4 (sitofp .f32 s : FVec Ideal S_ .f32)) (ix3 b g d)
      = Ideal.div (gt (ix3 b g d)) (((s ix0).toInt : ℝ) : EReal) := by
  pointwise []
  rfl

/-- The centres of the cells along an axis. -/
theorem centres (l : Fin 64) : addf (sitofp .f32 (iotaInDim S64 32 0) : FVec Ideal S64 .f32)
    (broadcastInDim S64 ![] Facts.bcast_S_S64 (constant S_ .f32 0x3F000000#32)) (ix1 l) = ((ctr l.val : ℝ) : EReal) := by
  have h : addf (sitofp .f32 (iotaInDim S64 32 0) : FVec Ideal S64 .f32)
      (broadcastInDim S64 ![] Facts.bcast_S_S64 (constant S_ .f32 0x3F000000#32)) (ix1 l)
      = (((BitVec.ofNat 32 l.val).toInt : ℝ) : EReal) + Ideal.ofBits .f32 0x3F000000#32 := by
    pointwise []
    rfl
  rw [h, half, Cert.Ref.word_real _ (by omega), ← EReal.coe_add]
  rfl

/-- The test passed at an image: a box with a column and a row near its intervals, and the rest. -/
theorem test (gt : FVec Ideal S8x16x4 .f32) (s : IVec S_ 32) (e : fn (F := Ideal) a0 a1 gt lab s (ix1 b) = 1#1) :
    (∃ (g : Fin 16) (l r : Fin 64),
      near (ctr l.val) (Ideal.div (gt (ix3 b g (0 : Fin 4))) (((s ix0).toInt : ℝ) : EReal)) (Ideal.div (gt (ix3 b g (2 : Fin 4))) (((s ix0).toInt : ℝ) : EReal))
      ∧ near (ctr r.val) (Ideal.div (gt (ix3 b g (1 : Fin 4))) (((s ix0).toInt : ℝ) : EReal)) (Ideal.div (gt (ix3 b g (3 : Fin 4))) (((s ix0).toInt : ℝ) : EReal)))
      ∧ Rest a0 a1 lab := by
  obtain ⟨⟨g, l, r, e1, e2⟩, rest⟩ := part1 a0 a1 lab b _ _ _ _ _ _ centres (fun g => coord2 b _ g)
    (fun g => by
      refine (congrArg₂ (fun x y : EReal => (x + y) * Ideal.ofBits .f32 0x3F000000#32) (coord0 b _ g) (coord2 b _ g)).trans ?_
      rw [half]
      rfl)
    (fun l => (centre_axis _ l).trans (centres l))
    (fun g l k => by
      have k1 := gt_of k
      have k2 := lower b _ _ g l k1
      rw [coord0, centres] at k2
      exact k2) e
  rw [boxes, boxes] at e1 e2
  exact ⟨⟨g, l, r, e1, e2⟩, rest⟩

/-- A box with a column and a row near its intervals is a match of the image. -/
theorem count_ne_zero (q : ℕ → ℕ → EReal) (g : Fin 16) (l r : Fin 64) (h : Hit (ctr l.val) (ctr r.val) (q g.val)) : imgCount q ≠ 0 := by
  unfold imgCount cells
  intro hz
  have hn : ∀ p ∈ (Finset.univ : Finset (Fin 4096)), 0 ≤ cellCount (ctr (p.val % 64)) (ctr (p.val / 64)) q := fun p _ => count_nonneg _ _ _
  have hp := (Finset.sum_eq_zero_iff_of_nonneg hn).mp hz ⟨64 * r.val + l.val, by omega⟩ (Finset.mem_univ (α := Fin 4096) _)
  have e1 : (64 * r.val + l.val) % 64 = l.val := by omega
  have e2 : (64 * r.val + l.val) / 64 = r.val := by omega
  rw [e1, e2] at hp
  exact (count_eq_zero _ _ _).mp hp ⟨g.val, g.isLt, h⟩

omit [Facts]

/-- The assumption of the claim, from the printed test of the kernel's arguments. -/
theorem good [Facts] (m : (ℓ : Loc Cert.KernelIdeal.nD Cert.KernelIdeal.τ Cert.KernelIdeal.sig) → Buf (Elt Ideal) ℓ)
    (h : Cert.Pre_KernelIdeal_well_posed m) (c : Dev Cert.KernelIdeal.nD) : (Cert.Launch.args m c).Good := by
  have k : ∀ b : Fin 8, _ := fun b => test _ _ _ b _ _ (congrFun (h c) (ix1 b))
  obtain ⟨h1, h2, h3⟩ := (k 0).2
  refine ⟨h2, h3, h1, fun b => ?_⟩
  obtain ⟨g, l, r, k1, k2⟩ := (k b).1
  refine count_ne_zero _ g l r ⟨?_, ?_⟩
  · have e0 := Args.box_apply (A := Cert.Launch.args m c) b g 0
    have e2 := Args.box_apply (A := Cert.Launch.args m c) b g 2
    exact e0 ▸ e2 ▸ k1
  · have e1 := Args.box_apply (A := Cert.Launch.args m c) b g 1
    have e3 := Args.box_apply (A := Cert.Launch.args m c) b g 3
    exact e1 ▸ e3 ▸ k2

end Cert.WellPosed

end
-- ==== Proof.RefCell.lean ====
module

public import proofs.«01_k».proof.Proof.RefGeom

@[expose] public section

set_option maxRecDepth 16384

noncomputable section

/-! The reference's bins and logits, read at a cell: the softmax, its mean and its logarithm. -/

namespace Cert.Ref

open Cert.ReferenceIdeal Cert.ReferenceIdeal.Read Cert.Cell
open Idealize.ShloMosaic Idealize.ShloMosaic.TcCoe Idealize.ShloMosaic.Tactic Idealize.SL.Sem

variable {A : Args} (h : A.Good) (b : Fin 8) (p : Fin 4096) (s : Fin 4)

include h

/-- A class logit of a cell. -/
theorem logit (k : Fin 80) : val_main_v151 (F := Ideal) A.cls (ix3 b p k) = ((A.logit b (row p) (col p) k.val : ℝ) : EReal) := by
  refine Eq.trans ?_ (h.logit b k ⟨p.val / 64, by omega⟩ ⟨p.val % 64, by omega⟩)
  pointwise [val_main_v151, val_main_v150]

/-- A bin of a side of a cell. -/
theorem bin (j : Fin 17) : val_main_v153 (F := Ideal) A.reg (ix4 b p s j) = ((bins (A.bin b (row p) (col p)) s.val j.val : ℝ) : EReal) := by
  refine Eq.trans ?_ (h.bin b ⟨17 * s.val + j.val, by omega⟩ ⟨p.val / 64, by omega⟩ ⟨p.val % 64, by omega⟩)
  fin_cases s <;> pointwise [val_main_v153, val_main_v152]

omit h in
/-- A sum over the seventeen bins. -/
theorem bins_sum (f : ℕ → ℝ) : ∑ j : Fin 17, ((f j.val : ℝ) : EReal) = ((∑ j ∈ Finset.range 17, f j : ℝ) : EReal) := by
  rw [coe_sum, Finset.sum_range]

omit h in
/-- The largest of finitely many reals, as the reference folds it, is a real. -/
theorem fold_real (f : Fin 17 → EReal) (x : Fin 17 → ℝ) (hf : ∀ j, f j = ((x j : ℝ) : EReal)) :
    ∃ T : ℝ, max (Ideal.ofBits .f32 0xFF800000#32) (Finset.fold max (Ideal.ofBits .f32 0xFF800000#32) f Finset.univ) = (T : EReal) := by
  obtain rfl : f = fun j => ((x j : ℝ) : EReal) := funext hf
  obtain ⟨T, hT⟩ := fold_max_real (Finset.univ : Finset (Fin 17)) x ⟨0, Finset.mem_univ _⟩
  refine ⟨T, ?_⟩
  rw [negInf, max_eq_right bot_le]
  exact hT

end Cert.Ref

end
-- ==== Proof.RefDist.lean ====
module

public import proofs.«01_k».proof.Proof.RefCell

@[expose] public section

set_option maxRecDepth 16384

noncomputable section

/-! The reference's softmax of the bins and its mean. -/

namespace Cert.Ref

open Cert.ReferenceIdeal Cert.ReferenceIdeal.Read Cert.Cell
open Idealize.ShloMosaic Idealize.ShloMosaic.TcCoe Idealize.ShloMosaic.Tactic Idealize.SL.Sem

variable {A : Args} (h : A.Good) (b : Fin 8) (p : Fin 4096) (s : Fin 4)

include h

/-- The largest bin of a side, as the softmax subtracts it, is a real. -/
theorem shift : ∃ T : ℝ, val_main_v233 (F := Ideal) A.reg (ix3 b p s) = (T : EReal) := by
  have e : val_main_v231 (F := Ideal) A.reg (ix3 b p s)
      = Finset.fold max (Ideal.ofBits .f32 0xFF800000#32) (fun j : Fin 17 => val_main_v153 (F := Ideal) A.reg (ix4 b p s j)) Finset.univ := by
    pointwise [val_main_v231, val_main_cst_20]
  have c : val_main_v232 (F := Ideal) (ix3 b p s) = Ideal.ofBits .f32 0xFF800000#32 := by
    pointwise [val_main_v232, val_main_cst_21]
  obtain ⟨T, hT⟩ := fold_real _ (fun j : Fin 17 => bins (A.bin b (row p) (col p)) s.val j.val) fun j => bin h b p s j
  refine ⟨T, Eq.trans ?_ hT⟩
  rw [val_main_v233_apply, c, e]
  rfl

/-- The predicted distance of a side. -/
theorem distance : val_main_v246 (F := Ideal) A.reg (ix3 b p s) = ((dists (A.bin b (row p) (col p)) s.val : ℝ) : EReal) := by
  obtain ⟨T, hT⟩ := shift h b p s
  have e1 : ∀ j : Fin 17, val_main_v237 (F := Ideal) A.reg (ix4 b p s j) = ((Real.exp (bins (A.bin b (row p) (col p)) s.val j.val - T) : ℝ) : EReal) := by
    intro j
    have e : val_main_v237 (F := Ideal) A.reg (ix4 b p s j) = Ideal.exp (val_main_v153 (F := Ideal) A.reg (ix4 b p s j) - val_main_v233 (F := Ideal) A.reg (ix3 b p s)) := by
      pointwise [val_main_v237, val_main_v236, val_main_v235, val_main_v234]
    rw [e, hT, bin h, ← EReal.coe_sub, Ideal.exp_coe]
  have e2 : val_main_v238 (F := Ideal) A.reg (ix3 b p s) = ((∑ j ∈ Finset.range 17, Real.exp (bins (A.bin b (row p) (col p)) s.val j - T) : ℝ) : EReal) := by
    have e : val_main_v238 (F := Ideal) A.reg (ix3 b p s) = ∑ j : Fin 17, val_main_v237 (F := Ideal) A.reg (ix4 b p s j) := by
      pointwise [val_main_v238, val_main_cst_22]
    rw [e]
    simp only [e1]
    exact bins_sum (fun j => Real.exp (bins (A.bin b (row p) (col p)) s.val j - T))
  have hp : 0 < ∑ j ∈ Finset.range 17, Real.exp (bins (A.bin b (row p) (col p)) s.val j - T) := mass_pos (fun j => bins (A.bin b (row p) (col p)) s.val j - T)
  have e3 : ∀ j : Fin 17, val_main_v245 (F := Ideal) A.reg (ix4 b p s j)
      = ((Real.exp (bins (A.bin b (row p) (col p)) s.val j.val - T) / (∑ j ∈ Finset.range 17, Real.exp (bins (A.bin b (row p) (col p)) s.val j - T)) * (j.val : ℝ) : ℝ) : EReal) := by
    intro j
    have e : val_main_v245 (F := Ideal) A.reg (ix4 b p s j) = Ideal.div (val_main_v237 (F := Ideal) A.reg (ix4 b p s j)) (val_main_v238 (F := Ideal) A.reg (ix3 b p s))
        * (((BitVec.ofNat 32 j.val).toInt : ℝ) : EReal) := by
      pointwise [val_main_v245, val_main_v241, val_main_v240, val_main_v239, val_main_v244, val_main_v243, val_main_v242, val_main_v15]
      rfl
    rw [e, e1, e2, div_real _ _ hp.ne', word_real _ (by omega), ← EReal.coe_mul]
  have e : val_main_v246 (F := Ideal) A.reg (ix3 b p s) = ∑ j : Fin 17, val_main_v245 (F := Ideal) A.reg (ix4 b p s j) := by
    pointwise [val_main_v246, val_main_cst_23]
  rw [e]
  simp only [e3]
  rw [bins_sum (fun j => Real.exp (bins (A.bin b (row p) (col p)) s.val j - T) / (∑ j ∈ Finset.range 17, Real.exp (bins (A.bin b (row p) (col p)) s.val j - T)) * (j : ℝ))]
  unfold dists
  rw [← dist_shift (bins (A.bin b (row p) (col p)) s.val) T, Finset.sum_div]
  refine congrArg (fun r : ℝ => (r : EReal)) (Finset.sum_congr rfl fun j _ => ?_)
  ring

end Cert.Ref

end
-- ==== Proof.RefBox.lean ====
module

public import proofs.«01_k».proof.Proof.RefMatch
public import proofs.«01_k».proof.Proof.RefDist

@[expose] public section

set_option maxRecDepth 16384

noncomputable section

/-! The reference's box loss. -/

namespace Cert.Ref

open Cert.ReferenceIdeal Cert.ReferenceIdeal.Read Cert.Cell
open Idealize.ShloMosaic Idealize.ShloMosaic.TcCoe Idealize.ShloMosaic.Tactic Idealize.SL.Sem

variable {A : Args} (h : A.Good) (b : Fin 8) (p : Fin 4096) (g : Fin 16)

include h

/-- A corner of the predicted box. -/
theorem corner0 : val_main_v279 (F := Ideal) A.reg (ix3 b p (0 : Fin 4)) = (((ctr (col p)) - dists (A.bin b (row p) (col p)) 0 : ℝ) : EReal) := by
  have e : val_main_v279 (F := Ideal) A.reg (ix3 b p (0 : Fin 4)) = val_main_v253 (F := Ideal) A.reg (ix2 b p) := by pointwise [val_main_v279, val_main_v275, val_main_v276, val_main_v277, val_main_v278]
  have e1 : val_main_v252 (F := Ideal) (ix2 b p) = ((ctr (col p) : ℝ) : EReal) := by
    refine Eq.trans ?_ (centre_x p)
    pointwise [val_main_v252, val_main_v251, val_main_v248, val_main_v247]
  have e2 : val_main_v250 (F := Ideal) A.reg (ix2 b p) = ((dists (A.bin b (row p) (col p)) 0 : ℝ) : EReal) := by
    refine Eq.trans ?_ (distance h b p (0 : Fin 4))
    pointwise [val_main_v250, val_main_v249]
  rw [e, val_main_v253_apply, e1, e2]
  exact (EReal.coe_sub _ _).symm

/-- A corner of the predicted box. -/
theorem corner1 : val_main_v279 (F := Ideal) A.reg (ix3 b p (1 : Fin 4)) = (((ctr (row p)) - dists (A.bin b (row p) (col p)) 1 : ℝ) : EReal) := by
  have e : val_main_v279 (F := Ideal) A.reg (ix3 b p (1 : Fin 4)) = val_main_v260 (F := Ideal) A.reg (ix2 b p) := by pointwise [val_main_v279, val_main_v275, val_main_v276, val_main_v277, val_main_v278]
  have e1 : val_main_v259 (F := Ideal) (ix2 b p) = ((ctr (row p) : ℝ) : EReal) := by
    refine Eq.trans ?_ (centre_y p)
    pointwise [val_main_v259, val_main_v258, val_main_v255, val_main_v254]
  have e2 : val_main_v257 (F := Ideal) A.reg (ix2 b p) = ((dists (A.bin b (row p) (col p)) 1 : ℝ) : EReal) := by
    refine Eq.trans ?_ (distance h b p (1 : Fin 4))
    pointwise [val_main_v257, val_main_v256]
  rw [e, val_main_v260_apply, e1, e2]
  exact (EReal.coe_sub _ _).symm

/-- A corner of the predicted box. -/
theorem corner2 : val_main_v279 (F := Ideal) A.reg (ix3 b p (2 : Fin 4)) = (((ctr (col p)) + dists (A.bin b (row p) (col p)) 2 : ℝ) : EReal) := by
  have e : val_main_v279 (F := Ideal) A.reg (ix3 b p (2 : Fin 4)) = val_main_v267 (F := Ideal) A.reg (ix2 b p) := by pointwise [val_main_v279, val_main_v275, val_main_v276, val_main_v277, val_main_v278]
  have e1 : val_main_v266 (F := Ideal) (ix2 b p) = ((ctr (col p) : ℝ) : EReal) := by
    refine Eq.trans ?_ (centre_x p)
    pointwise [val_main_v266, val_main_v265, val_main_v262, val_main_v261]
  have e2 : val_main_v264 (F := Ideal) A.reg (ix2 b p) = ((dists (A.bin b (row p) (col p)) 2 : ℝ) : EReal) := by
    refine Eq.trans ?_ (distance h b p (2 : Fin 4))
    pointwise [val_main_v264, val_main_v263]
  rw [e, val_main_v267_apply, e1, e2]
  exact (EReal.coe_add _ _).symm

/-- A corner of the predicted box. -/
theorem corner3 : val_main_v279 (F := Ideal) A.reg (ix3 b p (3 : Fin 4)) = (((ctr (row p)) + dists (A.bin b (row p) (col p)) 3 : ℝ) : EReal) := by
  have e : val_main_v279 (F := Ideal) A.reg (ix3 b p (3 : Fin 4)) = val_main_v274 (F := Ideal) A.reg (ix2 b p) := by pointwise [val_main_v279, val_main_v275, val_main_v276, val_main_v277, val_main_v278]
  have e1 : val_main_v273 (F := Ideal) (ix2 b p) = ((ctr (row p) : ℝ) : EReal) := by
    refine Eq.trans ?_ (centre_y p)
    pointwise [val_main_v273, val_main_v272, val_main_v269, val_main_v268]
  have e2 : val_main_v271 (F := Ideal) A.reg (ix2 b p) = ((dists (A.bin b (row p) (col p)) 3 : ℝ) : EReal) := by
    refine Eq.trans ?_ (distance h b p (3 : Fin 4))
    pointwise [val_main_v271, val_main_v270]
  rw [e, val_main_v274_apply, e1, e2]
  exact (EReal.coe_add _ _).symm

/-- The common extent of the predicted box and the box along one axis. -/
theorem extent0 : val_main_v293 (F := Ideal) A.reg A.gt A.stride (ix4 b p g (0 : Fin 2)) = max ((0 : ℝ) : EReal) (min (((ctr (col p)) + dists (A.bin b (row p) (col p)) 2 : ℝ) : EReal) (A.box b g.val 2) - max (((ctr (col p)) - dists (A.bin b (row p) (col p)) 0 : ℝ) : EReal) (A.box b g.val 0)) := by
  have z : val_main_call6_v1 (F := Ideal) (ix4 b p g (0 : Fin 2)) = ((0 : ℝ) : EReal) := by
    have z : (FloatOps.sitofp (F := Ideal) .f32 (0#32 : BitVec 32) : EReal) = ((0 : ℝ) : EReal) := by
      show (((0#32 : BitVec 32).toInt : ℝ) : EReal) = _
      simp
    rw [val_main_call6_v1_apply, ← z]
    rfl
  have e1 : val_main_v284 (F := Ideal) A.reg (ix4 b p g (0 : Fin 2)) = (((ctr (col p)) + dists (A.bin b (row p) (col p)) 2 : ℝ) : EReal) := by
    refine Eq.trans ?_ (corner2 h b p)
    pointwise [val_main_v284, val_main_v282, val_main_v280]
  have e2 : val_main_v285 (F := Ideal) A.gt A.stride (ix4 b p g (0 : Fin 2)) = A.box b g.val 2 := by
    refine Eq.trans ?_ (boxes A b g (2 : Fin 4))
    pointwise [val_main_v285, val_main_v283, val_main_v281]
  have e3 : val_main_v289 (F := Ideal) A.reg (ix4 b p g (0 : Fin 2)) = (((ctr (col p)) - dists (A.bin b (row p) (col p)) 0 : ℝ) : EReal) := by
    refine Eq.trans ?_ (corner0 h b p)
    pointwise [val_main_v289, val_main_v287, val_main_v280]
  have e4 : val_main_v290 (F := Ideal) A.gt A.stride (ix4 b p g (0 : Fin 2)) = A.box b g.val 0 := by
    refine Eq.trans ?_ (boxes A b g (0 : Fin 4))
    pointwise [val_main_v290, val_main_v288, val_main_v281]
  rw [val_main_v293_apply, val_main_v292_apply, val_main_v286_apply, val_main_v291_apply, z, e1, e2, e3, e4]
  rfl

/-- The common extent of the predicted box and the box along one axis. -/
theorem extent1 : val_main_v293 (F := Ideal) A.reg A.gt A.stride (ix4 b p g (1 : Fin 2)) = max ((0 : ℝ) : EReal) (min (((ctr (row p)) + dists (A.bin b (row p) (col p)) 3 : ℝ) : EReal) (A.box b g.val 3) - max (((ctr (row p)) - dists (A.bin b (row p) (col p)) 1 : ℝ) : EReal) (A.box b g.val 1)) := by
  have z : val_main_call6_v1 (F := Ideal) (ix4 b p g (1 : Fin 2)) = ((0 : ℝ) : EReal) := by
    have z : (FloatOps.sitofp (F := Ideal) .f32 (0#32 : BitVec 32) : EReal) = ((0 : ℝ) : EReal) := by
      show (((0#32 : BitVec 32).toInt : ℝ) : EReal) = _
      simp
    rw [val_main_call6_v1_apply, ← z]
    rfl
  have e1 : val_main_v284 (F := Ideal) A.reg (ix4 b p g (1 : Fin 2)) = (((ctr (row p)) + dists (A.bin b (row p) (col p)) 3 : ℝ) : EReal) := by
    refine Eq.trans ?_ (corner3 h b p)
    pointwise [val_main_v284, val_main_v282, val_main_v280]
  have e2 : val_main_v285 (F := Ideal) A.gt A.stride (ix4 b p g (1 : Fin 2)) = A.box b g.val 3 := by
    refine Eq.trans ?_ (boxes A b g (3 : Fin 4))
    pointwise [val_main_v285, val_main_v283, val_main_v281]
  have e3 : val_main_v289 (F := Ideal) A.reg (ix4 b p g (1 : Fin 2)) = (((ctr (row p)) - dists (A.bin b (row p) (col p)) 1 : ℝ) : EReal) := by
    refine Eq.trans ?_ (corner1 h b p)
    pointwise [val_main_v289, val_main_v287, val_main_v280]
  have e4 : val_main_v290 (F := Ideal) A.gt A.stride (ix4 b p g (1 : Fin 2)) = A.box b g.val 1 := by
    refine Eq.trans ?_ (boxes A b g (1 : Fin 4))
    pointwise [val_main_v290, val_main_v288, val_main_v281]
  rw [val_main_v293_apply, val_main_v292_apply, val_main_v286_apply, val_main_v291_apply, z, e1, e2, e3, e4]
  rfl

/-- The common area of the predicted box and the box. -/
theorem common_area : val_main_v298 (F := Ideal) A.reg A.gt A.stride (ix3 b p g) = common (ctr (col p)) (ctr (row p)) (dists (A.bin b (row p) (col p))) (A.box b g.val) := by
  have e0 : val_main_v295 (F := Ideal) A.reg A.gt A.stride (ix3 b p g) = max ((0 : ℝ) : EReal) (min (((ctr (col p)) + dists (A.bin b (row p) (col p)) 2 : ℝ) : EReal) (A.box b g.val 2) - max (((ctr (col p)) - dists (A.bin b (row p) (col p)) 0 : ℝ) : EReal) (A.box b g.val 0)) := by
    refine Eq.trans ?_ (extent0 h b p g)
    pointwise [val_main_v295, val_main_v294]
  have e1 : val_main_v297 (F := Ideal) A.reg A.gt A.stride (ix3 b p g) = max ((0 : ℝ) : EReal) (min (((ctr (row p)) + dists (A.bin b (row p) (col p)) 3 : ℝ) : EReal) (A.box b g.val 3) - max (((ctr (row p)) - dists (A.bin b (row p) (col p)) 1 : ℝ) : EReal) (A.box b g.val 1)) := by
    refine Eq.trans ?_ (extent1 h b p g)
    pointwise [val_main_v297, val_main_v296]
  rw [val_main_v298_apply, e0, e1]
  rfl

/-- The area of the predicted box. -/
theorem predicted_area : val_main_v309 (F := Ideal) A.reg (ix3 b p (0 : Fin 1)) = (((((ctr (col p)) + dists (A.bin b (row p) (col p)) 2 : ℝ) : EReal) - (((ctr (col p)) - dists (A.bin b (row p) (col p)) 0 : ℝ) : EReal)) * ((((ctr (row p)) + dists (A.bin b (row p) (col p)) 3 : ℝ) : EReal) - (((ctr (row p)) - dists (A.bin b (row p) (col p)) 1 : ℝ) : EReal))) := by
  have e2 : val_main_v300 (F := Ideal) A.reg (ix3 b p (0 : Fin 1)) = (((ctr (col p)) + dists (A.bin b (row p) (col p)) 2 : ℝ) : EReal) := by
    refine Eq.trans ?_ (corner2 h b p)
    pointwise [val_main_v300, val_main_v299, val_main_v280]
  have e0 : val_main_v302 (F := Ideal) A.reg (ix3 b p (0 : Fin 1)) = (((ctr (col p)) - dists (A.bin b (row p) (col p)) 0 : ℝ) : EReal) := by
    refine Eq.trans ?_ (corner0 h b p)
    pointwise [val_main_v302, val_main_v301, val_main_v280]
  have e3 : val_main_v305 (F := Ideal) A.reg (ix3 b p (0 : Fin 1)) = (((ctr (row p)) + dists (A.bin b (row p) (col p)) 3 : ℝ) : EReal) := by
    refine Eq.trans ?_ (corner3 h b p)
    pointwise [val_main_v305, val_main_v304, val_main_v280]
  have e1 : val_main_v307 (F := Ideal) A.reg (ix3 b p (0 : Fin 1)) = (((ctr (row p)) - dists (A.bin b (row p) (col p)) 1 : ℝ) : EReal) := by
    refine Eq.trans ?_ (corner1 h b p)
    pointwise [val_main_v307, val_main_v306, val_main_v280]
  rw [val_main_v309_apply, val_main_v303_apply, val_main_v308_apply, e0, e1, e2, e3]
  rfl

omit h in
/-- The area of the box. -/
theorem box_area : val_main_v320 (F := Ideal) A.gt A.stride (ix3 b (0 : Fin 1) g) = (A.box b g.val 2 - A.box b g.val 0) * (A.box b g.val 3 - A.box b g.val 1) := by
  have e2 : val_main_v311 (F := Ideal) A.gt A.stride (ix3 b (0 : Fin 1) g) = A.box b g.val 2 := by
    refine Eq.trans ?_ (boxes A b g (2 : Fin 4))
    pointwise [val_main_v311, val_main_v310, val_main_v281]
  have e0 : val_main_v313 (F := Ideal) A.gt A.stride (ix3 b (0 : Fin 1) g) = A.box b g.val 0 := by
    refine Eq.trans ?_ (boxes A b g (0 : Fin 4))
    pointwise [val_main_v313, val_main_v312, val_main_v281]
  have e3 : val_main_v316 (F := Ideal) A.gt A.stride (ix3 b (0 : Fin 1) g) = A.box b g.val 3 := by
    refine Eq.trans ?_ (boxes A b g (3 : Fin 4))
    pointwise [val_main_v316, val_main_v315, val_main_v281]
  have e1 : val_main_v318 (F := Ideal) A.gt A.stride (ix3 b (0 : Fin 1) g) = A.box b g.val 1 := by
    refine Eq.trans ?_ (boxes A b g (1 : Fin 4))
    pointwise [val_main_v318, val_main_v317, val_main_v281]
  rw [val_main_v320_apply, val_main_v314_apply, val_main_v319_apply, e0, e1, e2, e3]
  rfl

/-- The overlap ratio of the predicted box and the box. -/
theorem overlap_ratio : val_main_v327 (F := Ideal) A.reg A.gt A.stride (ix3 b p g) = ratio (ctr (col p)) (ctr (row p)) (dists (A.bin b (row p) (col p))) (A.box b g.val) := by
  have e1 : val_main_v321 (F := Ideal) A.reg (ix3 b p g) = val_main_v309 (F := Ideal) A.reg (ix3 b p (0 : Fin 1)) := by pointwise [val_main_v321]
  have e2 : val_main_v322 (F := Ideal) A.gt A.stride (ix3 b p g) = val_main_v320 (F := Ideal) A.gt A.stride (ix3 b (0 : Fin 1) g) := by pointwise [val_main_v322]
  have e3 : val_main_v325 (F := Ideal) (ix3 b p g) = Ideal.ofBits .f32 0x358637BD#32 := by pointwise [val_main_v325, val_main_cst_25]
  rw [val_main_v327_apply, val_main_v326_apply, val_main_v324_apply, val_main_v323_apply, e1, e2, e3, common_area h, predicted_area h, box_area, tiny_word]
  rfl

omit h in
/-- At a match the overlap ratio is a real. -/
theorem ratio_match (hh : Hit (ctr (col p)) (ctr (row p)) (A.box b g.val)) :
    ratio (ctr (col p)) (ctr (row p)) (dists (A.bin b (row p) (col p))) (A.box b g.val)
      = ((overlap (ctr (col p)) (ctr (row p)) (A.bin b (row p) (col p)) (A.box b g.val) : ℝ) : EReal) :=
  ratio_real _ _ _ _ (fun _ => dist_nonneg _) hh

/-- The box loss of a cell at a box. -/
theorem pair_box : val_main_v330 (F := Ideal) A.reg A.gt A.stride (ix3 b p g) = (((1 - overlap (ctr (col p)) (ctr (row p)) (A.bin b (row p) (col p)) (A.box b g.val))
    * ind (ctr (col p)) (ctr (row p)) (A.box b g.val) : ℝ) : EReal) := by
  have e : val_main_v328 (F := Ideal) (ix3 b p g) = Ideal.ofBits .f32 0x3F800000#32 := by pointwise [val_main_v328, val_main_cst_26]
  rw [val_main_v330_apply, val_main_v329_apply, overlap_ratio h, weight A b p g h, e, one]
  refine mul_ind _ _ _ _ _ fun hh => ?_
  rw [ratio_match b p g hh]
  exact (EReal.coe_sub _ _).symm

/-- The box loss of an image. -/
theorem image_box : val_main_v331 (F := Ideal) A.reg A.gt A.stride (ix1 b) = ((imgBox (A.box b) (A.bin b) : ℝ) : EReal) := by
  have e : val_main_v331 (F := Ideal) A.reg A.gt A.stride (ix1 b) = ∑ x : Fin 4096, ∑ y : Fin 16, val_main_v330 (F := Ideal) A.reg A.gt A.stride (ix3 b x y) := by
    pointwise [val_main_v331, val_main_cst_27]
  refine e.trans ((Finset.sum_congr rfl fun p _ => Finset.sum_congr rfl fun g _ => pair_box h b p g).trans ?_)
  exact cells_boxes fun r c g => (1 - overlap (ctr c) (ctr r) (A.bin b r c) (A.box b g)) * ind (ctr c) (ctr r) (A.box b g)

end Cert.Ref

end
-- ==== Proof.RefTake.lean ====
module

public import proofs.«01_k».proof.Proof.RefMatch
public import Idealize.ShloMosaic.Lib.ValueIdxRank6

@[expose] public section

set_option maxRecDepth 16384

noncomputable section

/-! Reading an array along an axis at indices held in another, and sums over three axes. -/

namespace Cert.Ref

open Cert.ReferenceIdeal Cert.ReferenceIdeal.Read Cert.Cell
open Idealize.ShloMosaic Idealize.ShloMosaic.TcCoe Idealize.ShloMosaic.Tactic Idealize.SL.Sem

variable (A : Args) (b : Fin 8) (p : Fin 4096) (g : Fin 16) (s : Fin 4)

/-- A conjunction of decisions that all hold, folded from one that holds. -/
theorem foldl_and {ι : Type} (l : List ι) (f : ι → BitVec 1) (h : ∀ i, f i = 1#1) :
    l.foldl (fun r n => IntOp.andi r (f n)) 1#1 = 1#1 := by
  induction l with
  | nil => rfl
  | cons a l ih =>
    rw [List.foldl_cons, h a]
    exact ih

/-- A reduction by conjunction of decisions that all hold. -/
theorem reduce_and {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  unfold Host.reduce
  rw [hi]
  exact foldl_and _ (fun n => x (s.rowMajor.symm n)) fun n => hx _

/-- The element that the reading along the last axis gives. -/
theorem take_apply (x : S8x4096x16x4x17.Idx → EReal) (idx : IVec S8x4096x16x4x1x1 32) :
    Host.gather gather_S8x4096x16x4x17_S8x4096x16x4x1x1_S8x4096x16x4x1_n_4_0123_0123_4_5_11111 x idx (ix5 b p g s (0 : Fin 1))
      = x (ix5 b p g s (⟨min (idx (ix6 b p g s (0 : Fin 1) (0 : Fin 1))).toInt.toNat 16, by omega⟩ : Fin 17)) := by
  unfold Host.gather
  refine congrArg x (funext fun a => Fin.ext ?_)
  show (gather_S8x4096x16x4x17_S8x4096x16x4x1x1_S8x4096x16x4x1_n_4_0123_0123_4_5_11111).start _ idx a + (gather_S8x4096x16x4x17_S8x4096x16x4x1x1_S8x4096x16x4x1_n_4_0123_0123_4_5_11111).batchCoord _ a + (gather_S8x4096x16x4x17_S8x4096x16x4x1x1_S8x4096x16x4x1_n_4_0123_0123_4_5_11111).offCoord _ a = _
  rw [GatherDims.offCoord_eq_zero _ _ _ (fun k => by
    rw [GatherDims.mem_sKept] at k
    revert k
    clear x idx
    revert a
    decide)]
  match a with
  | ⟨0, _⟩ =>
    rw [GatherDims.start_batching _ _ _ _ (by decide +revert)]
    unfold GatherDims.batchCoord
    rw [dif_pos (by decide +revert)]
    simp only [Nat.zero_add, Nat.add_zero]
    rfl
  | ⟨1, _⟩ =>
    rw [GatherDims.start_batching _ _ _ _ (by decide +revert)]
    unfold GatherDims.batchCoord
    rw [dif_pos (by decide +revert)]
    simp only [Nat.zero_add, Nat.add_zero]
    rfl
  | ⟨2, _⟩ =>
    rw [GatherDims.start_batching _ _ _ _ (by decide +revert)]
    unfold GatherDims.batchCoord
    rw [dif_pos (by decide +revert)]
    simp only [Nat.zero_add, Nat.add_zero]
    rfl
  | ⟨3, _⟩ =>
    rw [GatherDims.start_batching _ _ _ _ (by decide +revert)]
    unfold GatherDims.batchCoord
    rw [dif_pos (by decide +revert)]
    simp only [Nat.zero_add, Nat.add_zero]
    rfl
  | ⟨4, _⟩ =>
    rw [GatherDims.batchCoord_eq_zero _ _ _ (by decide +revert)]
    simp only [Nat.add_zero]
    unfold GatherDims.start
    rw [dif_pos (by decide +revert)]
    have e : (gather_S8x4096x16x4x17_S8x4096x16x4x1x1_S8x4096x16x4x1_n_4_0123_0123_4_5_11111).siIdx (ix5 b p g s (0 : Fin 1)) (⟨0, by decide⟩) = ix6 b p g s (0 : Fin 1) (0 : Fin 1) := by
      funext c
      refine Fin.ext ?_
      match c with
      | ⟨0, _⟩ => rfl
      | ⟨1, _⟩ => rfl
      | ⟨2, _⟩ => rfl
      | ⟨3, _⟩ => rfl
      | ⟨4, _⟩ => rfl
      | ⟨5, _⟩ => rfl
    exact congrArg (fun i => min (idx i).toInt.toNat 16) e

/-- The indices over an entry, when the last three of four axes are dropped. -/
theorem fiber {n0 n1 n2 n3 : Nat} (h : (⟨4, ![n0, n1, n2, n3]⟩ : Shape).ReducesTo [1, 2, 3] ⟨1, ![n0]⟩) (a : Fin n0)
    (i : (⟨4, ![n0, n1, n2, n3]⟩ : Shape).Idx) :
    h.drop i = ix1 a ↔ ∃ k : Fin n1 × Fin n2 × Fin n3, ix4 a k.1 k.2.1 k.2.2 = i := by
  constructor
  · intro e
    refine ⟨(i 1, i 2, i 3), ?_⟩
    funext c
    apply Fin.ext
    match c with
    | ⟨0, _⟩ => exact (congrArg Fin.val (congrFun e ⟨0, Nat.one_pos⟩)).symm
    | ⟨1, _⟩ => rfl
    | ⟨2, _⟩ => rfl
    | ⟨3, _⟩ => rfl
  · rintro ⟨k, rfl⟩
    funext c
    apply Fin.ext
    match c with
    | ⟨0, _⟩ => rfl

/-- A sum over the last three of four axes. -/
theorem sum_three {n0 n1 n2 n3 : Nat} (h : (⟨4, ![n0, n1, n2, n3]⟩ : Shape).ReducesTo [1, 2, 3] ⟨1, ![n0]⟩) (a : Fin n0)
    (x : (⟨4, ![n0, n1, n2, n3]⟩ : Shape).Idx → EReal) :
    Ideal.hostReduceAdd h x 0 (ix1 a) = ∑ i : Fin n1, ∑ j : Fin n2, ∑ k : Fin n3, x (ix4 a i j k) := by
  unfold Ideal.hostReduceAdd
  rw [zero_add]
  refine (Finset.sum_filter_eq_sum_of_fiber _ (fun k : Fin n1 × Fin n2 × Fin n3 => ix4 a k.1 k.2.1 k.2.2)
    (fun _ _ e => Prod.ext (congrFun e 1) (Prod.ext (congrFun e 2) (congrFun e 3))) (fiber h a) x).trans ?_
  simp only [Fintype.sum_prod_type]

end Cert.Ref

end
-- ==== Proof.RefCls.lean ====
module

public import proofs.«01_k».proof.Proof.RefBox
public import proofs.«01_k».proof.Proof.RefTake

@[expose] public section

set_option maxRecDepth 16384

noncomputable section

/-! The reference's class loss. -/

namespace Cert.Ref

open Cert.ReferenceIdeal Cert.ReferenceIdeal.Read Cert.Cell
open Idealize.ShloMosaic Idealize.ShloMosaic.TcCoe Idealize.ShloMosaic.Tactic Idealize.SL.Sem

variable {A : Args} (h : A.Good) (b : Fin 8) (p : Fin 4096) (g : Fin 16)

/-- The zero that the host makes of an integer. -/
theorem word_zero : (FloatOps.sitofp (F := Ideal) .f32 (0#32 : BitVec 32) : EReal) = ((0 : ℝ) : EReal) := by
  show (((0#32 : BitVec 32).toInt : ℝ) : EReal) = _
  simp

/-- A label's place among the classes, as a number. -/
theorem label_word (w : BitVec 32) (k : ℕ) (hk : k < 80) :
    (((IntOp.cmpi .eq w (BitVec.ofNat 32 k)).toNat : ℝ) : EReal) = (((if k = w.toNat then 1 else 0 : ℝ)) : EReal) := by
  have e : w = BitVec.ofNat 32 k ↔ k = w.toNat := by
    constructor
    · rintro rfl
      rw [BitVec.toNat_ofNat]
      omega
    · intro hw
      apply BitVec.eq_of_toNat_eq
      rw [BitVec.toNat_ofNat]
      omega
  by_cases hw : w = BitVec.ofNat 32 k
  · rw [if_pos (e.mp hw), hw]
    simp [IntOp.cmpi]
  · rw [if_neg fun he => hw (e.mpr he)]
    simp [IntOp.cmpi, hw]

/-- The label of a box over the classes. -/
theorem one_hot (k : Fin 80) : val_main_v332 (F := Ideal) A.lab (ix3 b g k) = (((if k.val = A.label b g.val then 1 else 0 : ℝ)) : EReal) := by
  have e1 : val_main_call7_v3 (F := Ideal) A.lab (ix3 b g k) = A.lab (ix2 b g) := by pointwise [val_main_call7_v3, val_main_call7_v0]
  have e2 : val_main_call7_v4 (F := Ideal) (ix3 b g k) = BitVec.ofNat 32 k.val := by pointwise [val_main_call7_v4, val_main_call7_v2, val_main_call7_v1]
  rw [val_main_v332_apply, val_main_call7_v5_apply, e1, e2, A.label_apply]
  exact label_word _ _ k.isLt

include h

/-- The target of a class at a match. -/
theorem target (k : Fin 80) (hh : Hit (ctr (col p)) (ctr (row p)) (A.box b g.val)) : val_main_v337 (F := Ideal) A.reg A.gt A.lab A.stride (ix4 b p g k)
    = (((if k.val = A.label b g.val then overlap (ctr (col p)) (ctr (row p)) (A.bin b (row p) (col p)) (A.box b g.val) else 0 : ℝ)) : EReal) := by
  have e1 : val_main_v335 (F := Ideal) A.lab (ix4 b p g k) = (((if k.val = A.label b g.val then 1 else 0 : ℝ)) : EReal) := by
    refine Eq.trans ?_ (one_hot b g k)
    pointwise [val_main_v335, val_main_v333]
  have e2 : val_main_v336 (F := Ideal) A.reg A.gt A.stride (ix4 b p g k) = ((overlap (ctr (col p)) (ctr (row p)) (A.bin b (row p) (col p)) (A.box b g.val) : ℝ) : EReal) := by
    refine Eq.trans ?_ ((overlap_ratio h b p g).trans (ratio_match b p g hh))
    pointwise [val_main_v336, val_main_v334]
  rw [val_main_v337_apply, e1, e2]
  refine (EReal.coe_mul _ _).symm.trans (congrArg (fun r : ℝ => (r : EReal)) ?_)
  rw [ite_mul, one_mul, zero_mul]

/-- The focal term of a class of a cell at a target that is a real. -/
theorem focal_at (k : Fin 80) (t : ℝ) (ht : val_main_v337 (F := Ideal) A.reg A.gt A.lab A.stride (ix4 b p g k) = (t : EReal)) :
    val_main_v377 (F := Ideal) A.reg A.cls A.gt A.lab A.stride (ix4 b p g k) = ((focal (A.logit b (row p) (col p) k.val) t : ℝ) : EReal) := by
  have hx : val_main_v151 (F := Ideal) A.cls (ix3 b p k) = ((A.logit b (row p) (col p) k.val : ℝ) : EReal) := logit h b p k
  generalize A.logit b (row p) (col p) k.val = x at hx ⊢
  have h_main_call8_v1 : val_main_call8_v1 (F := Ideal) (ix4 b p (0 : Fin 1) k) = ((0 : ℝ) : EReal) := by
    rw [val_main_call8_v1_apply, ← word_zero]
    rfl
  have h_main_v338 : val_main_v338 (F := Ideal) A.cls (ix4 b p (0 : Fin 1) k) = ((x : ℝ) : EReal) := by
    refine Eq.trans ?_ hx
    pointwise [val_main_v338]
  have h_main_v345 : val_main_v345 (F := Ideal) A.cls (ix4 b p (0 : Fin 1) k) = (((max (0 : ℝ) x) : ℝ) : EReal) := by
    rw [val_main_v345_apply, h_main_call8_v1, h_main_v338]
    exact coe_max _ _
  have h_main_v348 : val_main_v348 (F := Ideal) A.cls (ix4 b p g k) = (((max (0 : ℝ) x) : ℝ) : EReal) := by
    refine Eq.trans ?_ h_main_v345
    pointwise [val_main_v348]
  have h_main_v346 : val_main_v346 (F := Ideal) A.cls (ix4 b p g k) = ((x : ℝ) : EReal) := by
    refine Eq.trans ?_ h_main_v338
    pointwise [val_main_v346]
  have h_main_v347 : val_main_v347 (F := Ideal) A.reg A.cls A.gt A.lab A.stride (ix4 b p g k) = (((x * t) : ℝ) : EReal) := by
    rw [val_main_v347_apply, h_main_v346, ht]
    exact (EReal.coe_mul _ _).symm
  have h_main_v349 : val_main_v349 (F := Ideal) A.reg A.cls A.gt A.lab A.stride (ix4 b p g k) = ((((max (0 : ℝ) x) - (x * t)) : ℝ) : EReal) := by
    rw [val_main_v349_apply, h_main_v348, h_main_v347]
    exact (EReal.coe_sub _ _).symm
  have h_main_v350 : val_main_v350 (F := Ideal) A.cls (ix4 b p (0 : Fin 1) k) = ((|x| : ℝ) : EReal) := by
    rw [val_main_v350_apply, h_main_v338]
    exact abs_real _
  have h_main_v351 : val_main_v351 (F := Ideal) A.cls (ix4 b p (0 : Fin 1) k) = (((-|x|) : ℝ) : EReal) := by
    rw [val_main_v351_apply, h_main_v350]
    exact (EReal.coe_neg _).symm
  have h_main_v352 : val_main_v352 (F := Ideal) A.cls (ix4 b p (0 : Fin 1) k) = (((Real.exp (-|x|)) : ℝ) : EReal) := by
    rw [val_main_v352_apply, h_main_v351]
    exact Ideal.exp_coe _
  have h_main_v353 : val_main_v353 (F := Ideal) A.cls (ix4 b p (0 : Fin 1) k) = (((Real.log (1 + (Real.exp (-|x|)))) : ℝ) : EReal) := by
    rw [val_main_v353_apply, h_main_v352]
    rw [← Ideal.exp_coe]
    exact log1p_exp _
  have h_main_v354 : val_main_v354 (F := Ideal) A.cls (ix4 b p g k) = (((Real.log (1 + (Real.exp (-|x|)))) : ℝ) : EReal) := by
    refine Eq.trans ?_ h_main_v353
    pointwise [val_main_v354]
  have h_main_v355 : val_main_v355 (F := Ideal) A.reg A.cls A.gt A.lab A.stride (ix4 b p g k) = (((((max (0 : ℝ) x) - (x * t)) + (Real.log (1 + (Real.exp (-|x|))))) : ℝ) : EReal) := by
    rw [val_main_v355_apply, h_main_v349, h_main_v354]
    exact (EReal.coe_add _ _).symm
  have h_main_v365 : val_main_v365 (F := Ideal) (ix4 b p g k) = ((1 / 4 : ℝ) : EReal) := by
    have e : val_main_v365 (F := Ideal) (ix4 b p g k) = Ideal.ofBits .f32 0x3E800000#32 := by pointwise [val_main_v365, val_main_cst_33]
    rw [e, quarter]
  have h_main_v366 : val_main_v366 (F := Ideal) A.reg A.gt A.lab A.stride (ix4 b p g k) = ((((1 / 4 : ℝ) * t) : ℝ) : EReal) := by
    rw [val_main_v366_apply, h_main_v365, ht]
    exact (EReal.coe_mul _ _).symm
  have h_main_v369 : val_main_v369 (F := Ideal) (ix4 b p g k) = ((3 / 4 : ℝ) : EReal) := by
    have e : val_main_v369 (F := Ideal) (ix4 b p g k) = Ideal.ofBits .f32 0x3F400000#32 := by pointwise [val_main_v369, val_main_cst_35]
    rw [e, threeQuarters]
  have h_main_v367 : val_main_v367 (F := Ideal) (ix4 b p g k) = ((1 : ℝ) : EReal) := by
    have e : val_main_v367 (F := Ideal) (ix4 b p g k) = Ideal.ofBits .f32 0x3F800000#32 := by pointwise [val_main_v367, val_main_cst_34]
    rw [e, one]
  have h_main_v368 : val_main_v368 (F := Ideal) A.reg A.gt A.lab A.stride (ix4 b p g k) = ((((1 : ℝ) - t) : ℝ) : EReal) := by
    rw [val_main_v368_apply, h_main_v367, ht]
    exact (EReal.coe_sub _ _).symm
  have h_main_v370 : val_main_v370 (F := Ideal) A.reg A.gt A.lab A.stride (ix4 b p g k) = ((((3 / 4 : ℝ) * ((1 : ℝ) - t)) : ℝ) : EReal) := by
    rw [val_main_v370_apply, h_main_v369, h_main_v368]
    exact (EReal.coe_mul _ _).symm
  have h_main_v371 : val_main_v371 (F := Ideal) A.reg A.gt A.lab A.stride (ix4 b p g k) = (((((1 / 4 : ℝ) * t) + ((3 / 4 : ℝ) * ((1 : ℝ) - t))) : ℝ) : EReal) := by
    rw [val_main_v371_apply, h_main_v366, h_main_v370]
    exact (EReal.coe_add _ _).symm
  have h_main_v372 : val_main_v372 (F := Ideal) A.reg A.cls A.gt A.lab A.stride (ix4 b p g k) = ((((((max (0 : ℝ) x) - (x * t)) + (Real.log (1 + (Real.exp (-|x|))))) * (((1 / 4 : ℝ) * t) + ((3 / 4 : ℝ) * ((1 : ℝ) - t)))) : ℝ) : EReal) := by
    rw [val_main_v372_apply, h_main_v355, h_main_v371]
    exact (EReal.coe_mul _ _).symm
  have h_main_v373 : val_main_v373 (F := Ideal) (ix4 b p g k) = ((1 : ℝ) : EReal) := by
    have e : val_main_v373 (F := Ideal) (ix4 b p g k) = Ideal.ofBits .f32 0x3F800000#32 := by pointwise [val_main_v373, val_main_cst_36]
    rw [e, one]
  have h_main_v343 : val_main_v343 (F := Ideal) (ix4 b p (0 : Fin 1) k) = ((1 : ℝ) : EReal) := by
    have e : val_main_v343 (F := Ideal) (ix4 b p (0 : Fin 1) k) = Ideal.ofBits .f32 0x3F800000#32 := by pointwise [val_main_v343, val_main_cst_29]
    rw [e, one]
  have h_main_v341 : val_main_v341 (F := Ideal) (ix4 b p (0 : Fin 1) k) = ((1 : ℝ) : EReal) := by
    have e : val_main_v341 (F := Ideal) (ix4 b p (0 : Fin 1) k) = Ideal.ofBits .f32 0x3F800000#32 := by pointwise [val_main_v341, val_main_cst_28]
    rw [e, one]
  have h_main_v339 : val_main_v339 (F := Ideal) A.cls (ix4 b p (0 : Fin 1) k) = (((-x) : ℝ) : EReal) := by
    rw [val_main_v339_apply, h_main_v338]
    exact (EReal.coe_neg _).symm
  have h_main_v340 : val_main_v340 (F := Ideal) A.cls (ix4 b p (0 : Fin 1) k) = (((Real.exp (-x)) : ℝ) : EReal) := by
    rw [val_main_v340_apply, h_main_v339]
    exact Ideal.exp_coe _
  have h_main_v342 : val_main_v342 (F := Ideal) A.cls (ix4 b p (0 : Fin 1) k) = ((((1 : ℝ) + (Real.exp (-x))) : ℝ) : EReal) := by
    rw [val_main_v342_apply, h_main_v341, h_main_v340]
    exact (EReal.coe_add _ _).symm
  have h_main_v344 : val_main_v344 (F := Ideal) A.cls (ix4 b p (0 : Fin 1) k) = ((((1 : ℝ) / ((1 : ℝ) + (Real.exp (-x)))) : ℝ) : EReal) := by
    rw [val_main_v344_apply, h_main_v343, h_main_v342]
    exact div_real _ _ (by positivity)
  have h_main_v356 : val_main_v356 (F := Ideal) A.cls (ix4 b p g k) = ((((1 : ℝ) / ((1 : ℝ) + (Real.exp (-x)))) : ℝ) : EReal) := by
    refine Eq.trans ?_ h_main_v344
    pointwise [val_main_v356]
  have h_main_v357 : val_main_v357 (F := Ideal) A.reg A.cls A.gt A.lab A.stride (ix4 b p g k) = (((((1 : ℝ) / ((1 : ℝ) + (Real.exp (-x)))) * t) : ℝ) : EReal) := by
    rw [val_main_v357_apply, h_main_v356, ht]
    exact (EReal.coe_mul _ _).symm
  have h_main_v358 : val_main_v358 (F := Ideal) (ix4 b p (0 : Fin 1) k) = ((1 : ℝ) : EReal) := by
    have e : val_main_v358 (F := Ideal) (ix4 b p (0 : Fin 1) k) = Ideal.ofBits .f32 0x3F800000#32 := by pointwise [val_main_v358, val_main_cst_31]
    rw [e, one]
  have h_main_v359 : val_main_v359 (F := Ideal) A.cls (ix4 b p (0 : Fin 1) k) = ((((1 : ℝ) - ((1 : ℝ) / ((1 : ℝ) + (Real.exp (-x))))) : ℝ) : EReal) := by
    rw [val_main_v359_apply, h_main_v358, h_main_v344]
    exact (EReal.coe_sub _ _).symm
  have h_main_v362 : val_main_v362 (F := Ideal) A.cls (ix4 b p g k) = ((((1 : ℝ) - ((1 : ℝ) / ((1 : ℝ) + (Real.exp (-x))))) : ℝ) : EReal) := by
    refine Eq.trans ?_ h_main_v359
    pointwise [val_main_v362]
  have h_main_v360 : val_main_v360 (F := Ideal) (ix4 b p g k) = ((1 : ℝ) : EReal) := by
    have e : val_main_v360 (F := Ideal) (ix4 b p g k) = Ideal.ofBits .f32 0x3F800000#32 := by pointwise [val_main_v360, val_main_cst_32]
    rw [e, one]
  have h_main_v361 : val_main_v361 (F := Ideal) A.reg A.gt A.lab A.stride (ix4 b p g k) = ((((1 : ℝ) - t) : ℝ) : EReal) := by
    rw [val_main_v361_apply, h_main_v360, ht]
    exact (EReal.coe_sub _ _).symm
  have h_main_v363 : val_main_v363 (F := Ideal) A.reg A.cls A.gt A.lab A.stride (ix4 b p g k) = (((((1 : ℝ) - ((1 : ℝ) / ((1 : ℝ) + (Real.exp (-x))))) * ((1 : ℝ) - t)) : ℝ) : EReal) := by
    rw [val_main_v363_apply, h_main_v362, h_main_v361]
    exact (EReal.coe_mul _ _).symm
  have h_main_v364 : val_main_v364 (F := Ideal) A.reg A.cls A.gt A.lab A.stride (ix4 b p g k) = ((((((1 : ℝ) / ((1 : ℝ) + (Real.exp (-x)))) * t) + (((1 : ℝ) - ((1 : ℝ) / ((1 : ℝ) + (Real.exp (-x))))) * ((1 : ℝ) - t))) : ℝ) : EReal) := by
    rw [val_main_v364_apply, h_main_v357, h_main_v363]
    exact (EReal.coe_add _ _).symm
  have h_main_v374 : val_main_v374 (F := Ideal) A.reg A.cls A.gt A.lab A.stride (ix4 b p g k) = ((((1 : ℝ) - ((((1 : ℝ) / ((1 : ℝ) + (Real.exp (-x)))) * t) + (((1 : ℝ) - ((1 : ℝ) / ((1 : ℝ) + (Real.exp (-x))))) * ((1 : ℝ) - t)))) : ℝ) : EReal) := by
    rw [val_main_v374_apply, h_main_v373, h_main_v364]
    exact (EReal.coe_sub _ _).symm
  have h_main_v375 : val_main_v375 (F := Ideal) (ix4 b p g k) = ((2 : ℝ) : EReal) := by
    have e : val_main_v375 (F := Ideal) (ix4 b p g k) = Ideal.ofBits .f32 0x40000000#32 := by pointwise [val_main_v375, val_main_cst_37]
    rw [e, two]
  have h_main_v376 : val_main_v376 (F := Ideal) A.reg A.cls A.gt A.lab A.stride (ix4 b p g k) = (((((1 : ℝ) - ((((1 : ℝ) / ((1 : ℝ) + (Real.exp (-x)))) * t) + (((1 : ℝ) - ((1 : ℝ) / ((1 : ℝ) + (Real.exp (-x))))) * ((1 : ℝ) - t)))) ^ 2) : ℝ) : EReal) := by
    rw [val_main_v376_apply, h_main_v374, h_main_v375]
    exact pow_two _
  have h_main_v377 : val_main_v377 (F := Ideal) A.reg A.cls A.gt A.lab A.stride (ix4 b p g k) = (((((((max (0 : ℝ) x) - (x * t)) + (Real.log (1 + (Real.exp (-|x|))))) * (((1 / 4 : ℝ) * t) + ((3 / 4 : ℝ) * ((1 : ℝ) - t)))) * (((1 : ℝ) - ((((1 : ℝ) / ((1 : ℝ) + (Real.exp (-x)))) * t) + (((1 : ℝ) - ((1 : ℝ) / ((1 : ℝ) + (Real.exp (-x))))) * ((1 : ℝ) - t)))) ^ 2)) : ℝ) : EReal) := by
    rw [val_main_v377_apply, h_main_v372, h_main_v376]
    exact (EReal.coe_mul _ _).symm
  rw [h_main_v377]
  refine congrArg (fun r : ℝ => (r : EReal)) ?_
  unfold focal Cell.sig
  rw [max_comm x 0, ← one_div]

/-- The focal term of a class of a cell at target zero. -/
theorem focal_none (k : Fin 80) : val_main_v421 (F := Ideal) A.cls (ix3 b p k) = ((focal (A.logit b (row p) (col p) k.val) 0 : ℝ) : EReal) := by
  have hx : val_main_v151 (F := Ideal) A.cls (ix3 b p k) = ((A.logit b (row p) (col p) k.val : ℝ) : EReal) := logit h b p k
  generalize A.logit b (row p) (col p) k.val = x at hx ⊢
  have h_main_call9_v1 : val_main_call9_v1 (F := Ideal) (ix3 b p k) = ((0 : ℝ) : EReal) := by
    rw [val_main_call9_v1_apply, ← word_zero]
    rfl
  have h_main_v386 : val_main_v386 (F := Ideal) A.cls (ix3 b p k) = (((max (0 : ℝ) x) : ℝ) : EReal) := by
    rw [val_main_v386_apply, h_main_call9_v1, hx]
    exact coe_max _ _
  have h_main_v379 : val_main_v379 (F := Ideal) (ix2 p k) = ((0 : ℝ) : EReal) := by
    have e : val_main_v379 (F := Ideal) (ix2 p k) = Ideal.ofBits .f32 0x00000000#32 := by pointwise [val_main_v379, val_main_cst_39]
    rw [e, zero]
  have h_main_v387 : val_main_v387 (F := Ideal) (ix3 (0 : Fin 1) p k) = (((0 : ℝ) : ℝ) : EReal) := by
    refine Eq.trans ?_ h_main_v379
    pointwise [val_main_v387]
  have h_main_v388 : val_main_v388 (F := Ideal) (ix3 b p k) = (((0 : ℝ) : ℝ) : EReal) := by
    refine Eq.trans ?_ h_main_v387
    pointwise [val_main_v388]
  have h_main_v389 : val_main_v389 (F := Ideal) A.cls (ix3 b p k) = (((x * (0 : ℝ)) : ℝ) : EReal) := by
    rw [val_main_v389_apply, hx, h_main_v388]
    exact (EReal.coe_mul _ _).symm
  have h_main_v390 : val_main_v390 (F := Ideal) A.cls (ix3 b p k) = ((((max (0 : ℝ) x) - (x * (0 : ℝ))) : ℝ) : EReal) := by
    rw [val_main_v390_apply, h_main_v386, h_main_v389]
    exact (EReal.coe_sub _ _).symm
  have h_main_v391 : val_main_v391 (F := Ideal) A.cls (ix3 b p k) = ((|x| : ℝ) : EReal) := by
    rw [val_main_v391_apply, hx]
    exact abs_real _
  have h_main_v392 : val_main_v392 (F := Ideal) A.cls (ix3 b p k) = (((-|x|) : ℝ) : EReal) := by
    rw [val_main_v392_apply, h_main_v391]
    exact (EReal.coe_neg _).symm
  have h_main_v393 : val_main_v393 (F := Ideal) A.cls (ix3 b p k) = (((Real.exp (-|x|)) : ℝ) : EReal) := by
    rw [val_main_v393_apply, h_main_v392]
    exact Ideal.exp_coe _
  have h_main_v394 : val_main_v394 (F := Ideal) A.cls (ix3 b p k) = (((Real.log (1 + (Real.exp (-|x|)))) : ℝ) : EReal) := by
    rw [val_main_v394_apply, h_main_v393]
    rw [← Ideal.exp_coe]
    exact log1p_exp _
  have h_main_v395 : val_main_v395 (F := Ideal) A.cls (ix3 b p k) = (((((max (0 : ℝ) x) - (x * (0 : ℝ))) + (Real.log (1 + (Real.exp (-|x|))))) : ℝ) : EReal) := by
    rw [val_main_v395_apply, h_main_v390, h_main_v394]
    exact (EReal.coe_add _ _).symm
  have h_main_v407 : val_main_v407 (F := Ideal) (ix2 p k) = ((1 / 4 : ℝ) : EReal) := by
    have e : val_main_v407 (F := Ideal) (ix2 p k) = Ideal.ofBits .f32 0x3E800000#32 := by pointwise [val_main_v407, val_main_cst_45]
    rw [e, quarter]
  have h_main_v408 : val_main_v408 (F := Ideal) (ix2 p k) = ((((1 / 4 : ℝ) * (0 : ℝ)) : ℝ) : EReal) := by
    rw [val_main_v408_apply, h_main_v407, h_main_v379]
    exact (EReal.coe_mul _ _).symm
  have h_main_v411 : val_main_v411 (F := Ideal) (ix2 p k) = ((3 / 4 : ℝ) : EReal) := by
    have e : val_main_v411 (F := Ideal) (ix2 p k) = Ideal.ofBits .f32 0x3F400000#32 := by pointwise [val_main_v411, val_main_cst_47]
    rw [e, threeQuarters]
  have h_main_v409 : val_main_v409 (F := Ideal) (ix2 p k) = ((1 : ℝ) : EReal) := by
    have e : val_main_v409 (F := Ideal) (ix2 p k) = Ideal.ofBits .f32 0x3F800000#32 := by pointwise [val_main_v409, val_main_cst_46]
    rw [e, one]
  have h_main_v410 : val_main_v410 (F := Ideal) (ix2 p k) = ((((1 : ℝ) - (0 : ℝ)) : ℝ) : EReal) := by
    rw [val_main_v410_apply, h_main_v409, h_main_v379]
    exact (EReal.coe_sub _ _).symm
  have h_main_v412 : val_main_v412 (F := Ideal) (ix2 p k) = ((((3 / 4 : ℝ) * ((1 : ℝ) - (0 : ℝ))) : ℝ) : EReal) := by
    rw [val_main_v412_apply, h_main_v411, h_main_v410]
    exact (EReal.coe_mul _ _).symm
  have h_main_v413 : val_main_v413 (F := Ideal) (ix2 p k) = (((((1 / 4 : ℝ) * (0 : ℝ)) + ((3 / 4 : ℝ) * ((1 : ℝ) - (0 : ℝ)))) : ℝ) : EReal) := by
    rw [val_main_v413_apply, h_main_v408, h_main_v412]
    exact (EReal.coe_add _ _).symm
  have h_main_v414 : val_main_v414 (F := Ideal) (ix3 (0 : Fin 1) p k) = (((((1 / 4 : ℝ) * (0 : ℝ)) + ((3 / 4 : ℝ) * ((1 : ℝ) - (0 : ℝ)))) : ℝ) : EReal) := by
    refine Eq.trans ?_ h_main_v413
    pointwise [val_main_v414]
  have h_main_v415 : val_main_v415 (F := Ideal) (ix3 b p k) = (((((1 / 4 : ℝ) * (0 : ℝ)) + ((3 / 4 : ℝ) * ((1 : ℝ) - (0 : ℝ)))) : ℝ) : EReal) := by
    refine Eq.trans ?_ h_main_v414
    pointwise [val_main_v415]
  have h_main_v416 : val_main_v416 (F := Ideal) A.cls (ix3 b p k) = ((((((max (0 : ℝ) x) - (x * (0 : ℝ))) + (Real.log (1 + (Real.exp (-|x|))))) * (((1 / 4 : ℝ) * (0 : ℝ)) + ((3 / 4 : ℝ) * ((1 : ℝ) - (0 : ℝ))))) : ℝ) : EReal) := by
    rw [val_main_v416_apply, h_main_v395, h_main_v415]
    exact (EReal.coe_mul _ _).symm
  have h_main_v417 : val_main_v417 (F := Ideal) (ix3 b p k) = ((1 : ℝ) : EReal) := by
    have e : val_main_v417 (F := Ideal) (ix3 b p k) = Ideal.ofBits .f32 0x3F800000#32 := by pointwise [val_main_v417, val_main_cst_48]
    rw [e, one]
  have h_main_v384 : val_main_v384 (F := Ideal) (ix3 b p k) = ((1 : ℝ) : EReal) := by
    have e : val_main_v384 (F := Ideal) (ix3 b p k) = Ideal.ofBits .f32 0x3F800000#32 := by pointwise [val_main_v384, val_main_cst_41]
    rw [e, one]
  have h_main_v382 : val_main_v382 (F := Ideal) (ix3 b p k) = ((1 : ℝ) : EReal) := by
    have e : val_main_v382 (F := Ideal) (ix3 b p k) = Ideal.ofBits .f32 0x3F800000#32 := by pointwise [val_main_v382, val_main_cst_40]
    rw [e, one]
  have h_main_v380 : val_main_v380 (F := Ideal) A.cls (ix3 b p k) = (((-x) : ℝ) : EReal) := by
    rw [val_main_v380_apply, hx]
    exact (EReal.coe_neg _).symm
  have h_main_v381 : val_main_v381 (F := Ideal) A.cls (ix3 b p k) = (((Real.exp (-x)) : ℝ) : EReal) := by
    rw [val_main_v381_apply, h_main_v380]
    exact Ideal.exp_coe _
  have h_main_v383 : val_main_v383 (F := Ideal) A.cls (ix3 b p k) = ((((1 : ℝ) + (Real.exp (-x))) : ℝ) : EReal) := by
    rw [val_main_v383_apply, h_main_v382, h_main_v381]
    exact (EReal.coe_add _ _).symm
  have h_main_v385 : val_main_v385 (F := Ideal) A.cls (ix3 b p k) = ((((1 : ℝ) / ((1 : ℝ) + (Real.exp (-x)))) : ℝ) : EReal) := by
    rw [val_main_v385_apply, h_main_v384, h_main_v383]
    exact div_real _ _ (by positivity)
  have h_main_v396 : val_main_v396 (F := Ideal) (ix3 (0 : Fin 1) p k) = (((0 : ℝ) : ℝ) : EReal) := by
    refine Eq.trans ?_ h_main_v379
    pointwise [val_main_v396]
  have h_main_v397 : val_main_v397 (F := Ideal) (ix3 b p k) = (((0 : ℝ) : ℝ) : EReal) := by
    refine Eq.trans ?_ h_main_v396
    pointwise [val_main_v397]
  have h_main_v398 : val_main_v398 (F := Ideal) A.cls (ix3 b p k) = (((((1 : ℝ) / ((1 : ℝ) + (Real.exp (-x)))) * (0 : ℝ)) : ℝ) : EReal) := by
    rw [val_main_v398_apply, h_main_v385, h_main_v397]
    exact (EReal.coe_mul _ _).symm
  have h_main_v399 : val_main_v399 (F := Ideal) (ix3 b p k) = ((1 : ℝ) : EReal) := by
    have e : val_main_v399 (F := Ideal) (ix3 b p k) = Ideal.ofBits .f32 0x3F800000#32 := by pointwise [val_main_v399, val_main_cst_43]
    rw [e, one]
  have h_main_v400 : val_main_v400 (F := Ideal) A.cls (ix3 b p k) = ((((1 : ℝ) - ((1 : ℝ) / ((1 : ℝ) + (Real.exp (-x))))) : ℝ) : EReal) := by
    rw [val_main_v400_apply, h_main_v399, h_main_v385]
    exact (EReal.coe_sub _ _).symm
  have h_main_v401 : val_main_v401 (F := Ideal) (ix2 p k) = ((1 : ℝ) : EReal) := by
    have e : val_main_v401 (F := Ideal) (ix2 p k) = Ideal.ofBits .f32 0x3F800000#32 := by pointwise [val_main_v401, val_main_cst_44]
    rw [e, one]
  have h_main_v402 : val_main_v402 (F := Ideal) (ix2 p k) = ((((1 : ℝ) - (0 : ℝ)) : ℝ) : EReal) := by
    rw [val_main_v402_apply, h_main_v401, h_main_v379]
    exact (EReal.coe_sub _ _).symm
  have h_main_v403 : val_main_v403 (F := Ideal) (ix3 (0 : Fin 1) p k) = ((((1 : ℝ) - (0 : ℝ)) : ℝ) : EReal) := by
    refine Eq.trans ?_ h_main_v402
    pointwise [val_main_v403]
  have h_main_v404 : val_main_v404 (F := Ideal) (ix3 b p k) = ((((1 : ℝ) - (0 : ℝ)) : ℝ) : EReal) := by
    refine Eq.trans ?_ h_main_v403
    pointwise [val_main_v404]
  have h_main_v405 : val_main_v405 (F := Ideal) A.cls (ix3 b p k) = (((((1 : ℝ) - ((1 : ℝ) / ((1 : ℝ) + (Real.exp (-x))))) * ((1 : ℝ) - (0 : ℝ))) : ℝ) : EReal) := by
    rw [val_main_v405_apply, h_main_v400, h_main_v404]
    exact (EReal.coe_mul _ _).symm
  have h_main_v406 : val_main_v406 (F := Ideal) A.cls (ix3 b p k) = ((((((1 : ℝ) / ((1 : ℝ) + (Real.exp (-x)))) * (0 : ℝ)) + (((1 : ℝ) - ((1 : ℝ) / ((1 : ℝ) + (Real.exp (-x))))) * ((1 : ℝ) - (0 : ℝ)))) : ℝ) : EReal) := by
    rw [val_main_v406_apply, h_main_v398, h_main_v405]
    exact (EReal.coe_add _ _).symm
  have h_main_v418 : val_main_v418 (F := Ideal) A.cls (ix3 b p k) = ((((1 : ℝ) - ((((1 : ℝ) / ((1 : ℝ) + (Real.exp (-x)))) * (0 : ℝ)) + (((1 : ℝ) - ((1 : ℝ) / ((1 : ℝ) + (Real.exp (-x))))) * ((1 : ℝ) - (0 : ℝ))))) : ℝ) : EReal) := by
    rw [val_main_v418_apply, h_main_v417, h_main_v406]
    exact (EReal.coe_sub _ _).symm
  have h_main_v419 : val_main_v419 (F := Ideal) (ix3 b p k) = ((2 : ℝ) : EReal) := by
    have e : val_main_v419 (F := Ideal) (ix3 b p k) = Ideal.ofBits .f32 0x40000000#32 := by pointwise [val_main_v419, val_main_cst_49]
    rw [e, two]
  have h_main_v420 : val_main_v420 (F := Ideal) A.cls (ix3 b p k) = (((((1 : ℝ) - ((((1 : ℝ) / ((1 : ℝ) + (Real.exp (-x)))) * (0 : ℝ)) + (((1 : ℝ) - ((1 : ℝ) / ((1 : ℝ) + (Real.exp (-x))))) * ((1 : ℝ) - (0 : ℝ))))) ^ 2) : ℝ) : EReal) := by
    rw [val_main_v420_apply, h_main_v418, h_main_v419]
    exact pow_two _
  have h_main_v421 : val_main_v421 (F := Ideal) A.cls (ix3 b p k) = (((((((max (0 : ℝ) x) - (x * (0 : ℝ))) + (Real.log (1 + (Real.exp (-|x|))))) * (((1 / 4 : ℝ) * (0 : ℝ)) + ((3 / 4 : ℝ) * ((1 : ℝ) - (0 : ℝ))))) * (((1 : ℝ) - ((((1 : ℝ) / ((1 : ℝ) + (Real.exp (-x)))) * (0 : ℝ)) + (((1 : ℝ) - ((1 : ℝ) / ((1 : ℝ) + (Real.exp (-x))))) * ((1 : ℝ) - (0 : ℝ))))) ^ 2)) : ℝ) : EReal) := by
    rw [val_main_v421_apply, h_main_v416, h_main_v420]
    exact (EReal.coe_mul _ _).symm
  rw [h_main_v421]
  refine congrArg (fun r : ℝ => (r : EReal)) ?_
  unfold focal Cell.sig
  rw [max_comm x 0, ← one_div]

omit h in
/-- A sum over the eighty classes. -/
theorem classes_sum (f : ℕ → ℝ) : ∑ k : Fin 80, ((f k.val : ℝ) : EReal) = ((∑ k ∈ Finset.range 80, f k : ℝ) : EReal) := by
  rw [coe_sum, Finset.sum_range]

/-- The class loss of a class of a cell at a box, counted at matches alone. -/
theorem class_counted (k : Fin 80) : val_main_v424 (F := Ideal) A.reg A.cls A.gt A.lab A.stride (ix4 b p g k)
    = ((focal (A.logit b (row p) (col p) k.val) (if k.val = A.label b g.val then overlap (ctr (col p)) (ctr (row p)) (A.bin b (row p) (col p)) (A.box b g.val) else 0)
      * ind (ctr (col p)) (ctr (row p)) (A.box b g.val) : ℝ) : EReal) := by
  have e : val_main_v423 (F := Ideal) A.gt A.stride (ix4 b p g k) = ((ind (ctr (col p)) (ctr (row p)) (A.box b g.val) : ℝ) : EReal) := by
    refine Eq.trans ?_ (weight A b p g h)
    pointwise [val_main_v423, val_main_v422]
  rw [val_main_v424_apply, e]
  exact mul_ind _ _ _ _ _ fun hh => focal_at h b p g k _ (target h b p g k hh)

omit h in
/-- A sum over cells, boxes and classes. -/
theorem cells_boxes_classes (f : ℕ → ℕ → ℕ → ℕ → ℝ) (x : S8x4096x16x80.Idx → EReal)
    (hx : ∀ (p : Fin 4096) (g : Fin 16) (k : Fin 80), x (ix4 b p g k) = ((f (row p) (col p) g.val k.val : ℝ) : EReal)) :
    ∑ p : Fin 4096, ∑ g : Fin 16, ∑ k : Fin 80, x (ix4 b p g k)
      = ((cells fun r c => ∑ g ∈ Finset.range 16, ∑ k ∈ Finset.range 80, f r c g k : ℝ) : EReal) := by
  rw [← cells_boxes fun r c g => ∑ k ∈ Finset.range 80, f r c g k]
  refine Finset.sum_congr rfl fun p _ => Finset.sum_congr rfl fun g _ => ?_
  rw [← classes_sum (f (row p) (col p) g.val)]
  exact Finset.sum_congr rfl fun k _ => hx p g k

omit h in
/-- A sum over cells and classes. -/
theorem cells_classes (f : ℕ → ℕ → ℕ → ℝ) (x : S8x4096x80.Idx → EReal)
    (hx : ∀ (p : Fin 4096) (k : Fin 80), x (ix3 b p k) = ((f (row p) (col p) k.val : ℝ) : EReal)) :
    ∑ p : Fin 4096, ∑ k : Fin 80, x (ix3 b p k) = ((cells fun r c => ∑ k ∈ Finset.range 80, f r c k : ℝ) : EReal) := by
  unfold cells
  rw [← coe_sum]
  refine Finset.sum_congr rfl fun p _ => ?_
  rw [← classes_sum (f (p.val / 64) (p.val % 64))]
  exact Finset.sum_congr rfl fun k _ => hx p k

omit h in
/-- The sum of the class losses of an image at its boxes. -/
theorem cls_sum : val_main_v425 (F := Ideal) A.reg A.cls A.gt A.lab A.stride (ix1 b)
    = ∑ p : Fin 4096, ∑ g : Fin 16, ∑ k : Fin 80, val_main_v424 (F := Ideal) A.reg A.cls A.gt A.lab A.stride (ix4 b p g k) := by
  have e : val_main_v425 (F := Ideal) A.reg A.cls A.gt A.lab A.stride (ix1 b) = Ideal.hostReduceAdd Gen.reducesTo_S8x4096x16x80_S8_d1_2_3 (val_main_v424 (F := Ideal) A.reg A.cls A.gt A.lab A.stride) 0 (ix1 b) := by
    pointwise [val_main_v425, val_main_cst_50]
  exact e.trans (sum_three _ b _)

open Classical in
/-- The class loss of a class of a cell that no box matches. -/
theorem class_unmatched (k : Fin 80) : val_main_v430 (F := Ideal) A.cls A.gt A.stride (ix3 b p k)
    = ((focal (A.logit b (row p) (col p) k.val) 0 * (if ∃ g, g < 16 ∧ Hit (ctr (col p)) (ctr (row p)) (A.box b g) then 0 else 1) : ℝ) : EReal) := by
  have e : val_main_v429 (F := Ideal) A.gt A.stride (ix3 b p k) = (((if ∃ g, g < 16 ∧ Hit (ctr (col p)) (ctr (row p)) (A.box b g) then 0 else 1 : ℝ)) : EReal) := by
    refine Eq.trans ?_ (unmatched A b p h)
    pointwise [val_main_v429, val_main_v428]
  rw [val_main_v430_apply, e, focal_none h]
  exact (EReal.coe_mul _ _).symm

open Classical in
/-- The class loss of an image. -/
theorem image_cls : val_main_v432 (F := Ideal) A.reg A.cls A.gt A.lab A.stride (ix1 b) = ((imgCls (A.box b) (A.bin b) (A.logit b) (A.label b) : ℝ) : EReal) := by
  have e1 : val_main_v425 (F := Ideal) A.reg A.cls A.gt A.lab A.stride (ix1 b) = ((cells fun r c => ∑ g ∈ Finset.range 16, ∑ k ∈ Finset.range 80,
      focal (A.logit b r c k) (if k = A.label b g then overlap (ctr c) (ctr r) (A.bin b r c) (A.box b g) else 0)
        * ind (ctr c) (ctr r) (A.box b g) : ℝ) : EReal) :=
    (cls_sum b).trans (cells_boxes_classes b (fun r c g k =>
      focal (A.logit b r c k) (if k = A.label b g then overlap (ctr c) (ctr r) (A.bin b r c) (A.box b g) else 0)
        * ind (ctr c) (ctr r) (A.box b g)) _ fun p g k => class_counted h b p g k)
  have e2 : val_main_v431 (F := Ideal) A.cls A.gt A.stride (ix1 b) = ∑ p : Fin 4096, ∑ k : Fin 80, val_main_v430 (F := Ideal) A.cls A.gt A.stride (ix3 b p k) := by
    pointwise [val_main_v431, val_main_cst_51]
  have e3 : val_main_v431 (F := Ideal) A.cls A.gt A.stride (ix1 b) = ((cells fun r c => ∑ k ∈ Finset.range 80, focal (A.logit b r c k) 0
      * (if ∃ g, g < 16 ∧ Hit (ctr c) (ctr r) (A.box b g) then 0 else 1) : ℝ) : EReal) :=
    e2.trans (cells_classes b (fun r c k => focal (A.logit b r c k) 0
      * (if ∃ g, g < 16 ∧ Hit (ctr c) (ctr r) (A.box b g) then 0 else 1)) _ fun p k => class_unmatched h b p k)
  rw [val_main_v432_apply, e1, e3]
  refine (EReal.coe_add _ _).symm.trans (congrArg (fun r : ℝ => (r : EReal)) ?_)
  unfold imgCls cells cellCls pairCls
  rw [← Finset.sum_add_distrib]
  simp only [Finset.sum_mul]

end Cert.Ref

end
-- ==== Proof.RefClip.lean ====
module

public import proofs.«01_k».proof.Proof.RefMatch

@[expose] public section

set_option maxRecDepth 16384

noncomputable section

/-! The reference's clipped distances and the two bins around them. -/

namespace Cert.Ref

open Cert.ReferenceIdeal Cert.ReferenceIdeal.Read Cert.Cell
open Idealize.ShloMosaic Idealize.ShloMosaic.TcCoe Idealize.ShloMosaic.Tactic Idealize.SL.Sem

variable (A : Args) (b : Fin 8) (p : Fin 4096) (g : Fin 16) (s : Fin 4)

/-- The clipped distance to a side of a box. -/
theorem clipped : val_main_v200 (F := Ideal) A.gt A.stride (ix4 b p g s) = (((clip (gap (ctr (col p)) (ctr (row p)) (A.box b g.val) s.val)) : ℝ) : EReal) := by
  have z : (FloatOps.sitofp (F := Ideal) .f32 (0#32 : BitVec 32) : EReal) = ((0 : ℝ) : EReal) := by
    show (((0#32 : BitVec 32).toInt : ℝ) : EReal) = _
    simp
  have c : val_main_call2_v4 (F := Ideal) (ix4 b p g s) = (cap : EReal) := by
    rw [val_main_call2_v4_apply, ← cap_word]
    rfl
  have z1 : val_main_call1_v1 (F := Ideal) (ix4 b p g s) = ((0 : ℝ) : EReal) := by
    rw [val_main_call1_v1_apply, ← z]
    rfl
  have z2 : val_main_call2_v1 (F := Ideal) (ix4 b p g s) = ((0 : ℝ) : EReal) := by
    rw [val_main_call2_v1_apply, ← z]
    rfl
  rw [val_main_v200_apply, val_main_call2_v2_apply, val_main_v199_apply, c, z1, z2, sides, ← clip_coe]
  show min (cap : EReal) (max ((0 : ℝ) : EReal) (max ((0 : ℝ) : EReal) _)) = _
  rw [← max_assoc, max_self]

/-- The bin below a clipped distance. -/
@[irreducible] def bin_below : ℕ := ⌊(clip (gap (ctr (col p)) (ctr (row p)) (A.box b g.val) s.val))⌋₊

theorem bin_below_lt : bin_below A b p g s < 16 := by
  rw [bin_below]
  exact (Nat.floor_lt (clip_nonneg _)).mpr (clip_lt _)

/-- The whole part of a real that is not negative, as a word. -/
theorem word_floor (r : ℝ) (h0 : 0 ≤ r) (h1 : r < 16) :
    Ideal.fptosi 32 (Ideal.liftRound Int.floor (r : EReal)) = BitVec.ofNat 32 ⌊r⌋₊ := by
  have k : (⌊r⌋ : ℤ) = ((⌊r⌋₊ : ℕ) : ℤ) := (Int.natCast_floor_eq_floor h0).symm
  have l : ⌊r⌋₊ < 16 := (Nat.floor_lt h0).mpr h1
  rw [Ideal.liftRound_coe, Ideal.fptosi, Ideal.toIntClamped_coe, k]
  have n : (0 : ℝ) ≤ (((⌊r⌋₊ : ℕ) : ℤ) : ℝ) := by positivity
  rw [if_pos n, Int.floor_intCast, min_eq_right (by norm_num; omega), max_eq_right (by norm_num), BitVec.ofInt_natCast]

/-- The index of the bin below. -/
theorem below_word : val_main_v202 (F := Ideal) A.gt A.stride (ix4 b p g s) = BitVec.ofNat 32 (bin_below A b p g s) := by
  rw [val_main_v202_apply, val_main_v201_apply, clipped]
  rw [bin_below]
  exact word_floor _ (clip_nonneg _) (clip_lt _)

/-- The index of the bin above. -/
theorem above_word : val_main_v206 (F := Ideal) A.gt A.stride (ix4 b p g s) = BitVec.ofNat 32 (bin_below A b p g s + 1) := by
  have e1 : val_main_v203 (F := Ideal) (ix4 b p g s) = 1#32 := by pointwise [val_main_v203, val_main_c_16]
  have e2 : val_main_v205 (F := Ideal) (ix4 b p g s) = 16#32 := by pointwise [val_main_v205, val_main_c_17]
  have k : ∀ n : Fin 16, IntOp.minsi (IntOp.addi (BitVec.ofNat 32 n.val) 1#32) 16#32 = BitVec.ofNat 32 (n.val + 1) := by decide
  rw [val_main_v206_apply, val_main_v204_apply, below_word, e1, e2]
  exact k ⟨_, bin_below_lt A b p g s⟩

/-- The distance to the bin above. -/
theorem above_weight : val_main_v208 (F := Ideal) A.gt A.stride (ix4 b p g s) = (((bin_below A b p g s : ℝ) + 1 - (clip (gap (ctr (col p)) (ctr (row p)) (A.box b g.val) s.val)) : ℝ) : EReal) := by
  have e : val_main_v208 (F := Ideal) A.gt A.stride (ix4 b p g s) = ((((BitVec.ofNat 32 (bin_below A b p g s + 1)).toInt : ℝ)) : EReal) - val_main_v200 (F := Ideal) A.gt A.stride (ix4 b p g s) := by
    rw [val_main_v208_apply, val_main_v207_apply, above_word]
    rfl
  have l := bin_below_lt A b p g s
  rw [e, clipped, word_real _ (by omega), ← EReal.coe_sub]
  push_cast
  rfl

/-- The distance to the bin below. -/
theorem below_weight : val_main_v210 (F := Ideal) A.gt A.stride (ix4 b p g s) = (((clip (gap (ctr (col p)) (ctr (row p)) (A.box b g.val) s.val)) - (bin_below A b p g s : ℝ) : ℝ) : EReal) := by
  have e : val_main_v210 (F := Ideal) A.gt A.stride (ix4 b p g s) = val_main_v200 (F := Ideal) A.gt A.stride (ix4 b p g s) - ((((BitVec.ofNat 32 (bin_below A b p g s)).toInt : ℝ)) : EReal) := by
    rw [val_main_v210_apply, val_main_v209_apply, below_word]
    rfl
  have l := bin_below_lt A b p g s
  rw [e, clipped, word_real _ (by omega), ← EReal.coe_sub]

end Cert.Ref

end
-- ==== Proof.RefLog.lean ====
module

public import proofs.«01_k».proof.Proof.RefCell

@[expose] public section

set_option maxRecDepth 16384

noncomputable section

/-! The reference's log-softmax of the bins. -/

namespace Cert.Ref

open Cert.ReferenceIdeal Cert.ReferenceIdeal.Read Cert.Cell
open Idealize.ShloMosaic Idealize.ShloMosaic.TcCoe Idealize.ShloMosaic.Tactic Idealize.SL.Sem

variable {A : Args} (h : A.Good) (b : Fin 8) (p : Fin 4096) (s : Fin 4)

include h

/-- The largest bin of a side, as the log-softmax subtracts it, is a real. -/
theorem shift' : ∃ T : ℝ, val_main_call3_v2 (F := Ideal) A.reg (ix3 b p s) = (T : EReal) := by
  have e : val_main_call3_v0 (F := Ideal) A.reg (ix3 b p s)
      = Finset.fold max (Ideal.ofBits .f32 0xFF800000#32) (fun j : Fin 17 => val_main_v153 (F := Ideal) A.reg (ix4 b p s j)) Finset.univ := by
    pointwise [val_main_call3_v0, val_main_call3_cst]
  have c : val_main_call3_v1 (F := Ideal) (ix3 b p s) = Ideal.ofBits .f32 0xFF800000#32 := by
    pointwise [val_main_call3_v1, val_main_call3_cst_0]
  obtain ⟨T, hT⟩ := fold_real _ (fun j : Fin 17 => bins (A.bin b (row p) (col p)) s.val j.val) fun j => bin h b p s j
  refine ⟨T, Eq.trans ?_ hT⟩
  rw [val_main_call3_v2_apply, c, e]
  rfl

/-- The log-softmax of a side. -/
theorem log_softmax (j : Fin 17) : val_main_v211 (F := Ideal) A.reg (ix4 b p s j)
    = ((bins (A.bin b (row p) (col p)) s.val j.val - lse (bins (A.bin b (row p) (col p)) s.val) : ℝ) : EReal) := by
  obtain ⟨T, hT⟩ := shift' h b p s
  have e1 : ∀ j : Fin 17, val_main_call3_v5 (F := Ideal) A.reg (ix4 b p s j) = ((bins (A.bin b (row p) (col p)) s.val j.val - T : ℝ) : EReal) := by
    intro j
    have e : val_main_call3_v5 (F := Ideal) A.reg (ix4 b p s j) = val_main_v153 (F := Ideal) A.reg (ix4 b p s j) - val_main_call3_v2 (F := Ideal) A.reg (ix3 b p s) := by
      pointwise [val_main_call3_v5, val_main_call3_v4, val_main_call3_v3]
    rw [e, hT, bin h, ← EReal.coe_sub]
  have e2 : val_main_call3_v7 (F := Ideal) A.reg (ix3 b p s) = ((∑ j ∈ Finset.range 17, Real.exp (bins (A.bin b (row p) (col p)) s.val j - T) : ℝ) : EReal) := by
    have e : val_main_call3_v7 (F := Ideal) A.reg (ix3 b p s) = ∑ j : Fin 17, Ideal.exp (val_main_call3_v5 (F := Ideal) A.reg (ix4 b p s j)) := by
      pointwise [val_main_call3_v7, val_main_call3_v6, val_main_call3_cst_1]
    rw [e]
    simp only [e1, Ideal.exp_coe]
    exact bins_sum (fun j => Real.exp (bins (A.bin b (row p) (col p)) s.val j - T))
  have hp : 0 < ∑ j ∈ Finset.range 17, Real.exp (bins (A.bin b (row p) (col p)) s.val j - T) := mass_pos (fun j => bins (A.bin b (row p) (col p)) s.val j - T)
  have e : val_main_v211 (F := Ideal) A.reg (ix4 b p s j) = val_main_call3_v5 (F := Ideal) A.reg (ix4 b p s j) - Ideal.log (val_main_call3_v7 (F := Ideal) A.reg (ix3 b p s)) := by
    pointwise [val_main_v211, val_main_call3_v10, val_main_call3_v9, val_main_call3_v8]
  rw [e, e1, e2, log_pos _ hp, ← EReal.coe_sub]
  refine congrArg (fun r : ℝ => (r : EReal)) ?_
  rw [← lse_shift (bins (A.bin b (row p) (col p)) s.val) T]
  ring

end Cert.Ref

end
-- ==== Proof.RefDfl.lean ====
module

public import proofs.«01_k».proof.Proof.RefTake
public import proofs.«01_k».proof.Proof.RefClip
public import proofs.«01_k».proof.Proof.RefLog

@[expose] public section

set_option maxRecDepth 16384

noncomputable section

/-! The reference's distribution loss. -/

namespace Cert.Ref

open Cert.ReferenceIdeal Cert.ReferenceIdeal.Read Cert.Cell
open Idealize.ShloMosaic Idealize.ShloMosaic.TcCoe Idealize.ShloMosaic.Tactic Idealize.SL.Sem

variable {A : Args} (h : A.Good) (b : Fin 8) (p : Fin 4096) (g : Fin 16) (s : Fin 4)

omit h in
/-- An index in range is read as it stands. -/
theorem index_word : ∀ n : Fin 17, Scalar.select (IntOp.cmpi .slt (BitVec.ofNat 32 n.val) 0#32)
    (IntOp.addi (BitVec.ofNat 32 n.val) 17#32) (BitVec.ofNat 32 n.val) = BitVec.ofNat 32 n.val := by decide

omit h in
/-- The same of a natural number in range. -/
theorem index_word_of (n : ℕ) (hn : n < 17) : Scalar.select (IntOp.cmpi .slt (BitVec.ofNat 32 n) 0#32)
    (IntOp.addi (BitVec.ofNat 32 n) 17#32) (BitVec.ofNat 32 n) = BitVec.ofNat 32 n := index_word ⟨n, hn⟩

omit h in
/-- An index in range passes its two tests. -/
theorem index_tests : ∀ n : Fin 17, IntOp.andi (IntOp.cmpi .sge (BitVec.ofNat 32 n.val) 0#32)
    (IntOp.cmpi .sle (BitVec.ofNat 32 n.val) 16#32) = 1#1 := by decide

omit h in
/-- The same of a natural number in range. -/
theorem index_tests_of (n : ℕ) (hn : n < 17) : IntOp.andi (IntOp.cmpi .sge (BitVec.ofNat 32 n) 0#32)
    (IntOp.cmpi .sle (BitVec.ofNat 32 n) 16#32) = 1#1 := index_tests ⟨n, hn⟩

omit h in
/-- An index in range is its number. -/
theorem index_number : ∀ n : Fin 17, min (BitVec.ofNat 32 n.val).toInt.toNat 16 = n.val := by decide

omit h in
/-- The same of a natural number in range, as an index of a bin. -/
theorem index_number_of (n : ℕ) (hn : n < 17) (k : min (BitVec.ofNat 32 n).toInt.toNat 16 < 17) :
    (⟨min (BitVec.ofNat 32 n).toInt.toNat 16, k⟩ : Fin 17) = ⟨n, hn⟩ := Fin.ext (index_number ⟨n, hn⟩)

omit h in
/-- The index read for the bin below. -/
theorem below_index (e f : Fin 1) : val_main_call4_v5 (F := Ideal) A.gt A.stride (ix6 b p g s e f) = BitVec.ofNat 32 (bin_below A b p g s) := by
  have l := bin_below_lt A b p g s
  have k : val_main_call4_v5 (F := Ideal) A.gt A.stride (ix6 b p g s e f) = val_main_call4_v4 (F := Ideal) A.gt A.stride (ix5 b p g s (0 : Fin 1)) := by
    pointwise [val_main_call4_v5]
  have w : val_main_v214 (F := Ideal) A.gt A.stride (ix5 b p g s (0 : Fin 1)) = BitVec.ofNat 32 (bin_below A b p g s) := by
    refine Eq.trans ?_ (below_word A b p g s)
    pointwise [val_main_v214]
  have z : val_main_call4_v0 (F := Ideal) (ix5 b p g s (0 : Fin 1)) = 0#32 := by pointwise [val_main_call4_v0, val_main_call4_c]
  have z' : val_main_call4_v2 (F := Ideal) (ix5 b p g s (0 : Fin 1)) = 17#32 := by pointwise [val_main_call4_v2, val_main_call4_c_0]
  rw [k, val_main_call4_v4_apply, val_main_call4_v1_apply, val_main_call4_v3_apply, w, z, z']
  exact index_word_of _ (by omega)

omit h in
/-- The index read for the bin below is in range. -/
theorem below_range : val_main_call4_v12 (F := Ideal) A.gt A.stride (ix5 b p g s (0 : Fin 1)) = 1#1 := by
  unfold val_main_call4_v12
  refine reduce_and _ _ _ _ (fun i => ?_) (fun _ => rfl) _
  obtain ⟨b, p, g, s, e, f, rfl⟩ : ∃ (b : Fin 8) (p : Fin 4096) (g : Fin 16) (s : Fin 4) (e f : Fin 1), i = ix6 b p g s e f :=
    ⟨_, _, _, _, _, _, eq_ix6 i⟩
  have l := bin_below_lt A b p g s
  have z : val_main_call4_v6 (F := Ideal) (ix6 b p g s e f) = 0#32 := by
    rw [val_main_call4_v6_apply]
    rfl
  have z' : val_main_call4_v9 (F := Ideal) (ix6 b p g s e f) = 16#32 := by
    rw [val_main_call4_v9_apply, val_main_call4_v8_apply]
    rfl
  rw [val_main_call4_v11_apply, val_main_call4_v7_apply, val_main_call4_v10_apply, below_index, z, z']
  exact index_tests_of _ (by omega)

include h in
/-- The log-softmax at the bin below. -/
theorem below_log : val_main_v216 (F := Ideal) A.reg A.gt A.stride (ix4 b p g s)
    = ((bins (A.bin b (row p) (col p)) s.val (bin_below A b p g s) - lse (bins (A.bin b (row p) (col p)) s.val) : ℝ) : EReal) := by
  have l := bin_below_lt A b p g s
  have e : val_main_v216 (F := Ideal) A.reg A.gt A.stride (ix4 b p g s) = val_main_v215 (F := Ideal) A.reg A.gt A.stride (ix5 b p g s (0 : Fin 1)) := by pointwise [val_main_v216]
  have r : ∀ j : Fin 17, val_main_v213 (F := Ideal) A.reg (ix5 b p g s j) = val_main_v211 (F := Ideal) A.reg (ix4 b p s j) := by
    intro j
    pointwise [val_main_v213, val_main_v212]
  rw [e, val_main_v215_apply, below_range, pick]
  unfold val_main_call4_v13
  refine (take_apply b p g s _ _).trans ?_
  refine (congrArg (fun w : BitVec 32 => val_main_v213 (F := Ideal) A.reg (ix5 b p g s (⟨min w.toInt.toNat 16, by omega⟩ : Fin 17)))
    (below_index b p g s 0 0)).trans ?_
  refine (congrArg (fun j : Fin 17 => val_main_v213 (F := Ideal) A.reg (ix5 b p g s j)) (index_number_of (bin_below A b p g s) (by omega) _)).trans ?_
  exact (r _).trans (log_softmax h b p s _)

omit h in
/-- The index read for the bin above. -/
theorem above_index (e f : Fin 1) : val_main_call5_v5 (F := Ideal) A.gt A.stride (ix6 b p g s e f) = BitVec.ofNat 32 ((bin_below A b p g s + 1)) := by
  have l := bin_below_lt A b p g s
  have k : val_main_call5_v5 (F := Ideal) A.gt A.stride (ix6 b p g s e f) = val_main_call5_v4 (F := Ideal) A.gt A.stride (ix5 b p g s (0 : Fin 1)) := by
    pointwise [val_main_call5_v5]
  have w : val_main_v217 (F := Ideal) A.gt A.stride (ix5 b p g s (0 : Fin 1)) = BitVec.ofNat 32 ((bin_below A b p g s + 1)) := by
    refine Eq.trans ?_ (above_word A b p g s)
    pointwise [val_main_v217]
  have z : val_main_call5_v0 (F := Ideal) (ix5 b p g s (0 : Fin 1)) = 0#32 := by pointwise [val_main_call5_v0, val_main_call5_c]
  have z' : val_main_call5_v2 (F := Ideal) (ix5 b p g s (0 : Fin 1)) = 17#32 := by pointwise [val_main_call5_v2, val_main_call5_c_0]
  rw [k, val_main_call5_v4_apply, val_main_call5_v1_apply, val_main_call5_v3_apply, w, z, z']
  exact index_word_of _ (by omega)

omit h in
/-- The index read for the bin above is in range. -/
theorem above_range : val_main_call5_v12 (F := Ideal) A.gt A.stride (ix5 b p g s (0 : Fin 1)) = 1#1 := by
  unfold val_main_call5_v12
  refine reduce_and _ _ _ _ (fun i => ?_) (fun _ => rfl) _
  obtain ⟨b, p, g, s, e, f, rfl⟩ : ∃ (b : Fin 8) (p : Fin 4096) (g : Fin 16) (s : Fin 4) (e f : Fin 1), i = ix6 b p g s e f :=
    ⟨_, _, _, _, _, _, eq_ix6 i⟩
  have l := bin_below_lt A b p g s
  have z : val_main_call5_v6 (F := Ideal) (ix6 b p g s e f) = 0#32 := by
    rw [val_main_call5_v6_apply]
    rfl
  have z' : val_main_call5_v9 (F := Ideal) (ix6 b p g s e f) = 16#32 := by
    rw [val_main_call5_v9_apply, val_main_call5_v8_apply]
    rfl
  rw [val_main_call5_v11_apply, val_main_call5_v7_apply, val_main_call5_v10_apply, above_index, z, z']
  exact index_tests_of _ (by omega)

include h in
/-- The log-softmax at the bin above. -/
theorem above_log : val_main_v219 (F := Ideal) A.reg A.gt A.stride (ix4 b p g s)
    = ((bins (A.bin b (row p) (col p)) s.val ((bin_below A b p g s + 1)) - lse (bins (A.bin b (row p) (col p)) s.val) : ℝ) : EReal) := by
  have l := bin_below_lt A b p g s
  have e : val_main_v219 (F := Ideal) A.reg A.gt A.stride (ix4 b p g s) = val_main_v218 (F := Ideal) A.reg A.gt A.stride (ix5 b p g s (0 : Fin 1)) := by pointwise [val_main_v219]
  have r : ∀ j : Fin 17, val_main_v213 (F := Ideal) A.reg (ix5 b p g s j) = val_main_v211 (F := Ideal) A.reg (ix4 b p s j) := by
    intro j
    pointwise [val_main_v213, val_main_v212]
  rw [e, val_main_v218_apply, above_range, pick]
  unfold val_main_call5_v13
  refine (take_apply b p g s _ _).trans ?_
  refine (congrArg (fun w : BitVec 32 => val_main_v213 (F := Ideal) A.reg (ix5 b p g s (⟨min w.toInt.toNat 16, by omega⟩ : Fin 17)))
    (above_index b p g s 0 0)).trans ?_
  refine (congrArg (fun j : Fin 17 => val_main_v213 (F := Ideal) A.reg (ix5 b p g s j)) (index_number_of ((bin_below A b p g s + 1)) (by omega) _)).trans ?_
  exact (r _).trans (log_softmax h b p s _)

include h in
/-- The distribution loss of a side of a cell at a box. -/
theorem pair_dfl : val_main_v223 (F := Ideal) A.reg A.gt A.stride (ix4 b p g s) = ((pairDfl (ctr (col p)) (ctr (row p)) (A.bin b (row p) (col p)) (A.box b g.val) s.val : ℝ) : EReal) := by
  have e : val_main_v223 (F := Ideal) A.reg A.gt A.stride (ix4 b p g s) = -(val_main_v216 (F := Ideal) A.reg A.gt A.stride (ix4 b p g s) * val_main_v208 (F := Ideal) A.gt A.stride (ix4 b p g s)
      + val_main_v219 (F := Ideal) A.reg A.gt A.stride (ix4 b p g s) * val_main_v210 (F := Ideal) A.gt A.stride (ix4 b p g s)) := by
    rw [val_main_v223_apply, val_main_v222_apply, val_main_v220_apply, val_main_v221_apply]
    rfl
  rw [e, below_log h, above_log h, above_weight, below_weight, ← EReal.coe_mul, ← EReal.coe_mul, ← EReal.coe_add, ← EReal.coe_neg]
  refine congrArg (fun r : ℝ => (r : EReal)) ?_
  unfold pairDfl pwl
  rw [← bin_below]
  ring

omit h in
/-- A sum over the four sides. -/
theorem sides_sum (f : ℕ → ℝ) : ∑ s : Fin 4, ((f s.val : ℝ) : EReal) = ((∑ s ∈ Finset.range 4, f s : ℝ) : EReal) := by
  rw [coe_sum, Finset.sum_range]

omit h in
/-- A sum over cells, boxes and sides. -/
theorem cells_boxes_sides (f : ℕ → ℕ → ℕ → ℕ → ℝ) (x : S8x4096x16x4.Idx → EReal)
    (hx : ∀ (p : Fin 4096) (g : Fin 16) (s : Fin 4), x (ix4 b p g s) = ((f (row p) (col p) g.val s.val : ℝ) : EReal)) :
    ∑ p : Fin 4096, ∑ g : Fin 16, ∑ s : Fin 4, x (ix4 b p g s)
      = ((cells fun r c => ∑ g ∈ Finset.range 16, ∑ s ∈ Finset.range 4, f r c g s : ℝ) : EReal) := by
  rw [← cells_boxes fun r c g => ∑ s ∈ Finset.range 4, f r c g s]
  refine Finset.sum_congr rfl fun p _ => Finset.sum_congr rfl fun g _ => ?_
  rw [← sides_sum (f (row p) (col p) g.val)]
  exact Finset.sum_congr rfl fun s _ => hx p g s

include h in
/-- The distribution loss of a side of a cell at a box, counted at matches alone. -/
theorem pair_counted : val_main_v226 (F := Ideal) A.reg A.gt A.stride (ix4 b p g s)
      = ((pairDfl (ctr (col p)) (ctr (row p)) (A.bin b (row p) (col p)) (A.box b g.val) s.val
        * ind (ctr (col p)) (ctr (row p)) (A.box b g.val) : ℝ) : EReal) := by
  have e : val_main_v226 (F := Ideal) A.reg A.gt A.stride (ix4 b p g s) = val_main_v223 (F := Ideal) A.reg A.gt A.stride (ix4 b p g s) * val_main_v225 (F := Ideal) A.gt A.stride (ix4 b p g s) := by
    rw [val_main_v226_apply]
    rfl
  have m : val_main_v225 (F := Ideal) A.gt A.stride (ix4 b p g s) = val_main_v148 (F := Ideal) A.gt A.stride (ix3 b p g) := by
    pointwise [val_main_v225, val_main_v224]
  rw [e, pair_dfl h, m, weight A b p g h, ← EReal.coe_mul]

omit h in
/-- The sum of the distribution losses of an image. -/
theorem dfl_sum : val_main_v227 (F := Ideal) A.reg A.gt A.stride (ix1 b)
    = ∑ p : Fin 4096, ∑ g : Fin 16, ∑ s : Fin 4, val_main_v226 (F := Ideal) A.reg A.gt A.stride (ix4 b p g s) := by
  have e : val_main_v227 (F := Ideal) A.reg A.gt A.stride (ix1 b) = Ideal.hostReduceAdd Gen.reducesTo_S8x4096x16x4_S8_d1_2_3 (val_main_v226 (F := Ideal) A.reg A.gt A.stride) 0 (ix1 b) := by
    pointwise [val_main_v227, val_main_cst_18]
  exact e.trans (sum_three _ b _)

include h in
/-- The distribution loss of an image before its division. -/
theorem image_dfl : val_main_v227 (F := Ideal) A.reg A.gt A.stride (ix1 b) = ((imgDfl (A.box b) (A.bin b) : ℝ) : EReal) := by
  refine (dfl_sum b).trans ((cells_boxes_sides b (fun r c g s => pairDfl (ctr c) (ctr r) (A.bin b r c) (A.box b g) s
    * ind (ctr c) (ctr r) (A.box b g)) _ fun p g s => pair_counted h b p g s).trans ?_)
  unfold imgDfl cellDfl
  exact rfl

include h in
/-- The distribution loss of an image. -/
theorem mean_dfl : val_main_v230 (F := Ideal) A.reg A.gt A.stride (ix1 b) = ((imgDfl (A.box b) (A.bin b) / (imgCount (A.box b) * 4) : ℝ) : EReal) := by
  have e : val_main_v230 (F := Ideal) A.reg A.gt A.stride (ix1 b) = Ideal.div (val_main_v227 (F := Ideal) A.reg A.gt A.stride (ix1 b)) (val_main_v149 (F := Ideal) A.gt A.stride (ix1 b) * Ideal.ofBits .f32 0x40800000#32) := by
    pointwise [val_main_v230, val_main_v229, val_main_v228, val_main_cst_19]
  rw [e, image_dfl h, count A b h, four, ← EReal.coe_mul, div_real _ _ (mul_ne_zero (h.some_match b) (by norm_num))]

end Cert.Ref

end
-- ==== Proof.RefLoss.lean ====
module

public import proofs.«01_k».proof.Proof.RefCls
public import proofs.«01_k».proof.Proof.RefDfl

@[expose] public section

set_option maxRecDepth 16384

noncomputable section

/-! The reference's loss. -/

namespace Cert.Ref

open Cert.ReferenceIdeal Cert.ReferenceIdeal.Read Cert.Cell
open Idealize.ShloMosaic Idealize.ShloMosaic.TcCoe Idealize.ShloMosaic.Tactic Idealize.SL.Sem

variable {A : Args} (h : A.Good)

include h

/-- The reference's result is the loss. -/
theorem loss : val_main_v440 (F := Ideal) A.reg A.cls A.gt A.lab A.stride (ix0) = ((A.loss : ℝ) : EReal) := by
  have ev433 : val_main_v433 (F := Ideal) A.reg A.gt A.stride (ix0) = ((∑ b : Fin 8, imgBox (A.box b) (A.bin b) : ℝ) : EReal) := by
    have e : val_main_v433 (F := Ideal) A.reg A.gt A.stride (ix0) = ∑ b : Fin 8, val_main_v331 (F := Ideal) A.reg A.gt A.stride (ix1 b) := by
      pointwise [val_main_v433, val_main_cst_52]
    refine (e.trans (Finset.sum_congr rfl fun b _ => image_box h b)).trans ?_
    exact coe_sum _ _
  have ev435 : val_main_v435 (F := Ideal) A.reg A.cls A.gt A.lab A.stride (ix0) = ((∑ b : Fin 8, imgCls (A.box b) (A.bin b) (A.logit b) (A.label b) : ℝ) : EReal) := by
    have e : val_main_v435 (F := Ideal) A.reg A.cls A.gt A.lab A.stride (ix0) = ∑ b : Fin 8, val_main_v432 (F := Ideal) A.reg A.cls A.gt A.lab A.stride (ix1 b) := by
      pointwise [val_main_v435, val_main_cst_54]
    refine (e.trans (Finset.sum_congr rfl fun b _ => image_cls h b)).trans ?_
    exact coe_sum _ _
  have ev438 : val_main_v438 (F := Ideal) A.reg A.gt A.stride (ix0) = ((∑ b : Fin 8, (imgDfl (A.box b) (A.bin b) / (imgCount (A.box b) * 4)) : ℝ) : EReal) := by
    have e : val_main_v438 (F := Ideal) A.reg A.gt A.stride (ix0) = ∑ b : Fin 8, val_main_v230 (F := Ideal) A.reg A.gt A.stride (ix1 b) := by
      pointwise [val_main_v438, val_main_cst_56]
    refine (e.trans (Finset.sum_congr rfl fun b _ => mean_dfl h b)).trans ?_
    exact coe_sum _ _
  have c1 : val_main_cst_53 (F := Ideal) (ix0) = ((15 / 2 : ℝ) : EReal) := by
    rw [← boxWeight]
    rfl
  have c2 : val_main_cst_55 (F := Ideal) (ix0) = ((1 : ℝ) : EReal) := by
    rw [← one]
    rfl
  have c3 : val_main_cst_57 (F := Ideal) (ix0) = ((3 / 2 : ℝ) : EReal) := by
    rw [← dflWeight]
    rfl
  rw [val_main_v440_apply, val_main_v437_apply, val_main_v434_apply, val_main_v436_apply, val_main_v439_apply, ev433, ev435, ev438, c1, c2, c3]
  have k : ∀ x y z : ℝ, (((15 / 2 : ℝ) : EReal) * (x : EReal) + ((1 : ℝ) : EReal) * (y : EReal)) + ((3 / 2 : ℝ) : EReal) * (z : EReal)
      = ((15 / 2 * x + y + 3 / 2 * z : ℝ) : EReal) := by
    intro x y z
    rw [← EReal.coe_mul, ← EReal.coe_mul, ← EReal.coe_mul, ← EReal.coe_add, ← EReal.coe_add, one_mul]
  refine (k _ _ _).trans (congrArg (fun r : ℝ => (r : EReal)) ?_)
  unfold Args.loss imgLoss
  rw [Finset.sum_add_distrib, Finset.sum_add_distrib, Finset.mul_sum, Finset.mul_sum]

/-- The reference's result, as an array, is the loss. -/
theorem loss_array : val_main_v440 (F := Ideal) A.reg A.cls A.gt A.lab A.stride = fun _ => ((A.loss : ℝ) : EReal) := by
  funext i
  have e : i = ix0 := funext fun a => a.elim0
  rw [e]
  exact loss h

end Cert.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_labels_in_range
public import proofs.«01_k».proof.Proof.Gen.Pre_well_posed
public import Idealize.ShloMosaic.Adequacy
public import Idealize.ShloMosaic.Init
public import proofs.«01_k».proof.Proof.LabelsBits
public import proofs.«01_k».proof.Proof.LabelsIdeal
public import proofs.«01_k».proof.Proof.WellPosed
public import proofs.«01_k».proof.Proof.RefLoss

@[expose] public section

noncomputable section

namespace Cert.Proof

open Idealize.ShloMosaic Idealize.SL.Sem

/-- The kernel runs, leaves its arguments as they were, and its counters end at zero, when every label names a class. -/
theorem frame_bits : Cert.quiescent_Kernel := fun m ρ h =>
  Cert.Kernel.Gen.frame m ρ (Cert.KernelLabels.hyps (Cert.KernelLabels.named_of_pre m h))

/-- The same for the kernel read in exact arithmetic. -/
theorem frame_ideal : Cert.quiescent_KernelIdeal := fun m ρ h =>
  Cert.KernelIdeal.Gen.frame m ρ (Cert.KernelIdealLabels.hyps (Cert.KernelIdealLabels.named_of_pre m h))

/-- The reference runs and leaves its arguments as they were; it declares no counter. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Cert.ReferenceIdeal.Value.run m ρ)

/-- The kernel in exact arithmetic again, under the assumption of the value claim. -/
theorem frame_ideal_posed : Cert.quiescent_KernelIdeal_pre_well_posed := fun m ρ h =>
  Cert.KernelIdeal.Gen.frame m ρ (Cert.KernelIdealLabels.hyps fun c y => (Cert.WellPosed.good m h c).lab_lt y)

/-- The reference again, under the assumption of the value claim. -/
theorem frame_reference_posed : Cert.quiescent_ReferenceIdeal_pre_well_posed := fun m ρ _ =>
  frame_reference m ρ trivial

/-- The arguments of a memory of the reference. -/
def refArgs (m : (ℓ : Loc Cert.ReferenceIdeal.nD Cert.ReferenceIdeal.τ Cert.ReferenceIdeal.sig) → Buf (Elt Ideal) ℓ)
    (c : Dev Cert.ReferenceIdeal.nD) : Cert.Cell.Args where
  reg := m ((c.tc : Thread Cert.ReferenceIdeal.nD Cert.ReferenceIdeal.τ).loc Cert.ReferenceIdeal.main_arg0)
  cls := m ((c.tc : Thread Cert.ReferenceIdeal.nD Cert.ReferenceIdeal.τ).loc Cert.ReferenceIdeal.main_arg1)
  gt := m ((c.tc : Thread Cert.ReferenceIdeal.nD Cert.ReferenceIdeal.τ).loc Cert.ReferenceIdeal.main_arg2)
  lab := m ((c.tc : Thread Cert.ReferenceIdeal.nD Cert.ReferenceIdeal.τ).loc Cert.ReferenceIdeal.main_arg3)
  stride := m ((c.tc : Thread Cert.ReferenceIdeal.nD Cert.ReferenceIdeal.τ).loc Cert.ReferenceIdeal.main_arg4)

/-- The kernel and the reference end with the same loss. -/
theorem same_loss : Cert.algebraic_KernelIdeal_ReferenceIdeal_pre_well_posed := by
  intro m ρ m' ρ' h same
  have hA := Cert.WellPosed.good m h
  have e : ∀ c, refArgs m' c = Cert.Launch.args m c := by
    intro c
    obtain ⟨h0, h1, h2, h3, h4⟩ := same c
    unfold refArgs Cert.Launch.args
    rw [Cert.Cell.Args.mk.injEq]
    exact ⟨h0, h1, h2, h3, h4⟩
  refine ⟨fun c => fun _ => (((Cert.Launch.args m c).loss : ℝ) : EReal), Cert.Launch.run m ρ hA, ?_⟩
  refine (θ_run (Cert.ReferenceIdeal.defs (F := Ideal)) _ _).mono (fun r hr c => ⟨?_, (hr c).2⟩) (Cert.ReferenceIdeal.Value.run m' ρ')
  refine ((hr c).1.trans (Cert.ReferenceIdeal.Read.val_main_v440_eq (F := Ideal) (StableHlo.launchContents m' c))).trans ?_
  have k := Cert.Ref.loss_array (A := refArgs m' c) (by rw [e]; exact hA c)
  rw [e] at k
  refine Eq.trans ?_ k
  rw [← e]
  rfl

/-- Every claim of the certificate. -/
theorem claim : Cert.Claim :=
  ⟨Cert.Kernel.Gen.facts, Cert.KernelIdeal.Gen.facts, Cert.ReferenceIdeal.Gen.facts, Cert.Pre_labels_in_range.Gen.facts,
    Cert.Pre_well_posed.Gen.facts, frame_bits, frame_ideal, frame_ideal_posed, frame_reference, frame_reference_posed, trivial, same_loss⟩

end Cert.Proof

end
